-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_values.lean ====
abbrev S2x8448x6144 : Shape := ⟨3, ![2, 8448, 6144]⟩
abbrev S2x1024x8448 : Shape := ⟨3, ![2, 1024, 8448]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S2x1024x8448 : S_.BroadcastsInDim S2x1024x8448 (![] : Fin 0 → Fin S2x1024x8448.rank)
  bcast_S_S4x64 : S_.BroadcastsInDim S4x64 (![] : Fin 0 → Fin S4x64.rank)

variable [Facts]

def fn {F : FTy → Type} [FloatOps F] (main_arg0 : FVec F S2x8448x6144 .bf16) (main_arg1 : FVec F S2x1024x8448 .bf16) (main_arg2 : FVec F S4x64 .f32) (main_arg3 : FVec F S1x128 .f32) : IVec S2x1024x8448 1 × IVec S4x64 1 :=
  let main_v0 : FVec F S2x1024x8448 .bf16 := Host.absf main_arg1
  let main_v1 : FVec F S2x1024x8448 .f32 := (extf .f32 · bitsLt_bf16_f32) main_v0
  let main_cst : FVec F S_ .f32 := constant S_ .f32 0x7F7FFFFF#32
  let main_v2 : FVec F S2x1024x8448 .f32 := broadcastInDim S2x1024x8448 ![] bcast_S_S2x1024x8448 main_cst
  let main_v3 : IVec S2x1024x8448 1 := cmpf .ole main_v1 main_v2
  let main_v4 : FVec F S4x64 .f32 := Host.absf main_arg2
  let main_cst_0 : FVec F S_ .f32 := constant S_ .f32 0x7F7FFFFF#32
  let main_v5 : FVec F S4x64 .f32 := broadcastInDim S4x64 ![] bcast_S_S4x64 main_cst_0
  let main_v6 : IVec S4x64 1 := cmpf .ole main_v4 main_v5
  (main_v3, main_v6)
-- ==== Kernel.lean ====
abbrev S2x8448x6144 : Shape := ⟨3, ![2, 8448, 6144]⟩
abbrev S2x1024x8448 : Shape := ⟨3, ![2, 1024, 8448]⟩
abbrev S4x64 : Shape := ⟨2, ![4, 64]⟩
abbrev S1x128 : Shape := ⟨2, ![1, 128]⟩
abbrev S2x8192x1024 : Shape := ⟨3, ![2, 8192, 1024]⟩
abbrev S1x8192x128 : Shape := ⟨3, ![1, 8192, 128]⟩
abbrev S1x8448x128 : Shape := ⟨3, ![1, 8448, 128]⟩
abbrev S1x128x8448 : Shape := ⟨3, ![1, 128, 8448]⟩
abbrev S144x8448 : Shape := ⟨2, ![144, 8448]⟩
abbrev S2x2x1024x128 : Shape := ⟨4, ![2, 2, 1024, 128]⟩
abbrev S2x2x1x1024 : Shape := ⟨4, ![2, 2, 1, 1024]⟩
abbrev S2x2x144x1024 : Shape := ⟨4, ![2, 2, 144, 1024]⟩
abbrev S2x2x768x1024 : Shape := ⟨4, ![2, 2, 768, 1024]⟩
abbrev S128x8448 : Shape := ⟨2, ![128, 8448]⟩
abbrev S16x8448 : Shape := ⟨2, ![16, 8448]⟩
abbrev S1x64 : Shape := ⟨2, ![1, 64]⟩
abbrev S1 : Shape := ⟨1, ![1]⟩
abbrev S1x1 : Shape := ⟨2, ![1, 1]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1x768x128 : Shape := ⟨3, ![1, 768, 128]⟩
abbrev S768x128 : Shape := ⟨2, ![768, 128]⟩
abbrev S768x1024 : Shape := ⟨2, ![768, 1024]⟩
abbrev S1x1x768x1024 : Shape := ⟨4, ![1, 1, 768, 1024]⟩
abbrev S1024 : Shape := ⟨1, ![1024]⟩
abbrev S1x1024 : Shape := ⟨2, ![1, 1024]⟩
abbrev S1x1x1x1024 : Shape := ⟨4, ![1, 1, 1, 1024]⟩
abbrev S144x768 : Shape := ⟨2, ![144, 768]⟩
abbrev S144x1024 : Shape := ⟨2, ![144, 1024]⟩
abbrev S1x1x144x1024 : Shape := ⟨4, ![1, 1, 144, 1024]⟩
abbrev S128x1024 : Shape := ⟨2, ![128, 1024]⟩

abbrev nBuf : Space → Nat
  | .hbm => 5
  | .vmem => 18
  | .smem => 0
  | _ => 0

abbrev bufTy : (tb : Table) → Fin (tcTables nBuf tb) → BufTy
  | .hbm, ⟨0, _⟩ => ⟨S2x8448x6144, .bf16⟩
  | .hbm, ⟨1, _⟩ => ⟨S2x1024x8448, .bf16⟩
  | .hbm, ⟨2, _⟩ => ⟨S4x64, .f32⟩
  | .hbm, ⟨3, _⟩ => ⟨S1x128, .f32⟩
  | .hbm, ⟨4, _⟩ => ⟨S2x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x128x8448, .bf16⟩
  | .local _ .vmem, ⟨5, _⟩ => ⟨S1x128x8448, .bf16⟩
  | .local _ .vmem, ⟨6, _⟩ => ⟨S4x64, .f32⟩
  | .local _ .vmem, ⟨7, _⟩ => ⟨S1x128, .f32⟩
  | .local _ .vmem, ⟨8, _⟩ => ⟨S1x8192x128, .bf16⟩
  | .local _ .vmem, ⟨9, _⟩ => ⟨S1x8192x128, .bf16⟩
  | .local _ .vmem, ⟨10, _⟩ => ⟨S144x8448, .bf16⟩
  | .local _ .vmem, ⟨11, _⟩ => ⟨S2x2x1024x128, .bf16⟩
  | .local _ .vmem, ⟨12, _⟩ => ⟨S2x2x1x1024, .f32⟩
  | .local _ .vmem, ⟨13, _⟩ => ⟨S2x2x144x1024, .f32⟩
  | .local _ .vmem, ⟨14, _⟩ => ⟨S2x2x768x1024, .f32⟩
  | .local _ .vmem, ⟨15, _⟩ => ⟨S2x2x1x1024, .f32⟩
  | .local _ .vmem, ⟨16, _⟩ => ⟨S2x2x768x1024, .bf16⟩
  | .local _ .vmem, ⟨17, _⟩ => ⟨S2x2x1x1024, .f32⟩
  | _, _ => ⟨S2x8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def k0_mult1 : BitVec 32 :=
  let c0_i32_11 : BitVec 32 := 0#32
  c0_i32_11
def k0_mult2 : BitVec 32 :=
  let c0_i32_23 : BitVec 32 := 0#32
  c0_i32_23
def k0_mult3 : BitVec 32 :=
  let c768_i32 : BitVec 32 := 768#32
  c768_i32
def k0_mult4 : BitVec 32 :=
  let c1536_i32 : BitVec 32 := 1536#32
  c1536_i32
def k0_mult5 : BitVec 32 :=
  let c0_i32_194 : BitVec 32 := 0#32
  c0_i32_194
@[reducible] def k0_t1_loop : Scf.Loop 32 :=
  let c0_i32_214 : BitVec 32 := 0#32
  let c4_i32 : BitVec 32 := 4#32
  let v218 : BitVec 32 := Scalar.addi c0_i32_214 c4_i32
  let c1_i32 : BitVec 32 := 1#32
  ⟨c0_i32_214, v218, c1_i32⟩
@[reducible] def k0_t2_loop : Scf.Loop 32 :=
  let c0_i32_216 : BitVec 32 := 0#32
  let c4_i32_217 : BitVec 32 := 4#32
  let v221 : BitVec 32 := Scalar.addi c0_i32_216 c4_i32_217
  let c1_i32_218 : BitVec 32 := 1#32
  ⟨c0_i32_216, v221, c1_i32_218⟩
def k0_mult6 (k0_t2 : Fin k0_t2_loop.trips) : BitVec 32 :=
  let c2_i32_572 : BitVec 32 := 2#32
  let c0_i32_216 : BitVec 32 := 0#32
  let c1_i32_218 : BitVec 32 := 1#32
  let arg17 : BitVec 32 := Scf.iv c0_i32_216 c1_i32_218 k0_t2
  let v560 : BitVec 32 := Scalar.muli c2_i32_572 arg17
  let c2_i32_573 : BitVec 32 := 2#32
  let v561 : BitVec 32 := Scalar.addi v560 c2_i32_573
  let c1_i32_574 : BitVec 32 := 1#32
  let v562 : BitVec 32 := Scalar.addi v561 c1_i32_574
  let c768_i32_575 : BitVec 32 := 768#32
  let v563 : BitVec 32 := Scalar.muli v562 c768_i32_575
  v563
def k0_off1 (k0_t2 : Fin k0_t2_loop.trips) (c2_i32_573 : BitVec 32) : Fin 3 → Nat :=
  let c0_576 : Index := 0#32
  let c2_i32_572 : BitVec 32 := 2#32
  let c0_i32_216 : BitVec 32 := 0#32
  let c1_i32_218 : BitVec 32 := 1#32
  let arg17 : BitVec 32 := Scf.iv c0_i32_216 c1_i32_218 k0_t2
  let v560 : BitVec 32 := Scalar.muli c2_i32_572 arg17
  let v561 : BitVec 32 := Scalar.addi v560 c2_i32_573
  let c1_i32_574 : BitVec 32 := 1#32
  let v562 : BitVec 32 := Scalar.addi v561 c1_i32_574
  let c768_i32_575 : BitVec 32 := 768#32
  let v563 : BitVec 32 := Scalar.muli v562 c768_i32_575
  let v564 : BitVec 32 := v563
  let v565 : Index := Scalar.indexCast v564
  let c0_577 : Index := 0#32
  ![0, v565.toNat, 0]
def k0_mult7 (k0_t2 : Fin k0_t2_loop.trips) : BitVec 32 :=
  let c2_i32_572 : BitVec 32 := 2#32
  let c0_i32_216 : BitVec 32 := 0#32
  let c1_i32_218 : BitVec 32 := 1#32
  let arg17 : BitVec 32 := Scf.iv c0_i32_216 c1_i32_218 k0_t2
  let v560 : BitVec 32 := Scalar.muli c2_i32_572 arg17
  let c2_i32_573 : BitVec 32 := 2#32
  let v561 : BitVec 32 := Scalar.addi v560 c2_i32_573
  let c1_i32_654 : BitVec 32 := 1#32
  let v634 : BitVec 32 := Scalar.subi v561 c1_i32_654
  let c768_i32_655 : BitVec 32 := 768#32
  let v635 : BitVec 32 := Scalar.muli v634 c768_i32_655
  v635
def k0_off2 (k0_t2 : Fin k0_t2_loop.trips) (c2_i32_573 : BitVec 32) : Fin 2 → Nat :=
  let c0_656 : Index := 0#32
  let c2_i32_572 : BitVec 32 := 2#32
  let c0_i32_216 : BitVec 32 := 0#32
  let c1_i32_218 : BitVec 32 := 1#32
  let arg17 : BitVec 32 := Scf.iv c0_i32_216 c1_i32_218 k0_t2
  let v560 : BitVec 32 := Scalar.muli c2_i32_572 arg17
  let v561 : BitVec 32 := Scalar.addi v560 c2_i32_573
  let c1_i32_654 : BitVec 32 := 1#32
  let v634 : BitVec 32 := Scalar.subi v561 c1_i32_654
  let c768_i32_655 : BitVec 32 := 768#32
  let v635 : BitVec 32 := Scalar.muli v634 c768_i32_655
  let v636 : BitVec 32 := v635
  let v637 : Index := Scalar.indexCast v636
  ![0, v637.toNat]
def k0_mult8 (k0_t2 : Fin k0_t2_loop.trips) : BitVec 32 :=
  let c2_i32_691 : BitVec 32 := 2#32
  let c0_i32_216 : BitVec 32 := 0#32
  let c1_i32_218 : BitVec 32 := 1#32
  let arg17 : BitVec 32 := Scf.iv c0_i32_216 c1_i32_218 k0_t2
  let v665 : BitVec 32 := Scalar.muli c2_i32_691 arg17
  let c3_i32_692 : BitVec 32 := 3#32
  let v666 : BitVec 32 := Scalar.addi v665 c3_i32_692
  let c1_i32_693 : BitVec 32 := 1#32
  let v667 : BitVec 32 := Scalar.addi v666 c1_i32_693
  let c768_i32_694 : BitVec 32 := 768#32
  let v668 : BitVec 32 := Scalar.muli v667 c768_i32_694
  v668
def k0_mult9 (k0_t2 : Fin k0_t2_loop.trips) : BitVec 32 :=
  let c2_i32_691 : BitVec 32 := 2#32
  let c0_i32_216 : BitVec 32 := 0#32
  let c1_i32_218 : BitVec 32 := 1#32
  let arg17 : BitVec 32 := Scf.iv c0_i32_216 c1_i32_218 k0_t2
  let v665 : BitVec 32 := Scalar.muli c2_i32_691 arg17
  let c3_i32_692 : BitVec 32 := 3#32
  let v666 : BitVec 32 := Scalar.addi v665 c3_i32_692
  let c1_i32_773 : BitVec 32 := 1#32
  let v739 : BitVec 32 := Scalar.subi v666 c1_i32_773
  let c768_i32_774 : BitVec 32 := 768#32
  let v740 : BitVec 32 := Scalar.muli v739 c768_i32_774
  v740
def k0_mult10 (k0_t1 : Fin k0_t1_loop.trips) : BitVec 32 :=
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_220 : BitVec 32 := 1#32
  let v222 : BitVec 32 := Scalar.addi v219 c1_i32_220
  let c1024_i32 : BitVec 32 := 1024#32
  let v223 : BitVec 32 := Scalar.muli v222 c1024_i32
  v223
def k0_off3 (k0_t1 : Fin k0_t1_loop.trips) : Fin 3 → Nat :=
  let c0_221 : Index := 0#32
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_220 : BitVec 32 := 1#32
  let v222 : BitVec 32 := Scalar.addi v219 c1_i32_220
  let c1024_i32 : BitVec 32 := 1024#32
  let v223 : BitVec 32 := Scalar.muli v222 c1024_i32
  let v224 : BitVec 32 := v223
  let v225 : Index := Scalar.indexCast v224
  let c0_222 : Index := 0#32
  ![0, v225.toNat, 0]
def k0_mult11 : BitVec 32 :=
  let c0_i32_234 : BitVec 32 := 0#32
  c0_i32_234
def k0_mult12 : BitVec 32 :=
  let c6912_i32 : BitVec 32 := 6912#32
  c6912_i32
def k0_mult13 : BitVec 32 :=
  let c768_i32_349 : BitVec 32 := 768#32
  c768_i32_349
def k0_mult14 : BitVec 32 :=
  let c7680_i32 : BitVec 32 := 7680#32
  c7680_i32
def k0_mult15 (k0_t1 : Fin k0_t1_loop.trips) : BitVec 32 :=
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_348 : BitVec 32 := 1#32
  let v344 : BitVec 32 := Scalar.addi v219 c1_i32_348
  let c1_i32_447 : BitVec 32 := 1#32
  let v428 : BitVec 32 := Scalar.subi v344 c1_i32_447
  let c1024_i32_462 : BitVec 32 := 1024#32
  let v461 : BitVec 32 := Scalar.muli v428 c1024_i32_462
  v461
def k0_off4 (k0_t1 : Fin k0_t1_loop.trips) : Fin 3 → Nat :=
  let c0_463 : Index := 0#32
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_348 : BitVec 32 := 1#32
  let v344 : BitVec 32 := Scalar.addi v219 c1_i32_348
  let c1_i32_447 : BitVec 32 := 1#32
  let v428 : BitVec 32 := Scalar.subi v344 c1_i32_447
  let c1024_i32_462 : BitVec 32 := 1024#32
  let v461 : BitVec 32 := Scalar.muli v428 c1024_i32_462
  let v462 : BitVec 32 := v461
  let v463 : Index := Scalar.indexCast v462
  let c0_464 : Index := 0#32
  ![0, v463.toNat, 0]
def k0_mult16 : BitVec 32 :=
  let c1536_i32_465 : BitVec 32 := 1536#32
  c1536_i32_465
def k0_mult17 : BitVec 32 :=
  let c0_i32_544 : BitVec 32 := 0#32
  c0_i32_544
@[reducible] def k0_t3_loop : Scf.Loop 32 :=
  let c0_i32_564 : BitVec 32 := 0#32
  let c4_i32_565 : BitVec 32 := 4#32
  let v552 : BitVec 32 := Scalar.addi c0_i32_564 c4_i32_565
  let c1_i32_566 : BitVec 32 := 1#32
  ⟨c0_i32_564, v552, c1_i32_566⟩
def k0_mult18 (k0_t3 : Fin k0_t3_loop.trips) : BitVec 32 :=
  let c2_i32_572 : BitVec 32 := 2#32
  let c0_i32_564 : BitVec 32 := 0#32
  let c1_i32_566 : BitVec 32 := 1#32
  let arg17 : BitVec 32 := Scf.iv c0_i32_564 c1_i32_566 k0_t3
  let v560 : BitVec 32 := Scalar.muli c2_i32_572 arg17
  let c2_i32_573 : BitVec 32 := 2#32
  let v561 : BitVec 32 := Scalar.addi v560 c2_i32_573
  let c1_i32_574 : BitVec 32 := 1#32
  let v562 : BitVec 32 := Scalar.addi v561 c1_i32_574
  let c768_i32_575 : BitVec 32 := 768#32
  let v563 : BitVec 32 := Scalar.muli v562 c768_i32_575
  v563
def k0_off5 (k0_t3 : Fin k0_t3_loop.trips) (c2_i32_573 : BitVec 32) : Fin 3 → Nat :=
  let c0_576 : Index := 0#32
  let c2_i32_572 : BitVec 32 := 2#32
  let c0_i32_564 : BitVec 32 := 0#32
  let c1_i32_566 : BitVec 32 := 1#32
  let arg17 : BitVec 32 := Scf.iv c0_i32_564 c1_i32_566 k0_t3
  let v560 : BitVec 32 := Scalar.muli c2_i32_572 arg17
  let v561 : BitVec 32 := Scalar.addi v560 c2_i32_573
  let c1_i32_574 : BitVec 32 := 1#32
  let v562 : BitVec 32 := Scalar.addi v561 c1_i32_574
  let c768_i32_575 : BitVec 32 := 768#32
  let v563 : BitVec 32 := Scalar.muli v562 c768_i32_575
  let v564 : BitVec 32 := v563
  let v565 : Index := Scalar.indexCast v564
  let c0_577 : Index := 0#32
  ![0, v565.toNat, 0]
def k0_mult19 (k0_t3 : Fin k0_t3_loop.trips) : BitVec 32 :=
  let c2_i32_572 : BitVec 32 := 2#32
  let c0_i32_564 : BitVec 32 := 0#32
  let c1_i32_566 : BitVec 32 := 1#32
  let arg17 : BitVec 32 := Scf.iv c0_i32_564 c1_i32_566 k0_t3
  let v560 : BitVec 32 := Scalar.muli c2_i32_572 arg17
  let c2_i32_573 : BitVec 32 := 2#32
  let v561 : BitVec 32 := Scalar.addi v560 c2_i32_573
  let c1_i32_654 : BitVec 32 := 1#32
  let v634 : BitVec 32 := Scalar.subi v561 c1_i32_654
  let c768_i32_655 : BitVec 32 := 768#32
  let v635 : BitVec 32 := Scalar.muli v634 c768_i32_655
  v635
def k0_off6 (k0_t3 : Fin k0_t3_loop.trips) (c2_i32_573 : BitVec 32) : Fin 2 → Nat :=
  let c0_656 : Index := 0#32
  let c2_i32_572 : BitVec 32 := 2#32
  let c0_i32_564 : BitVec 32 := 0#32
  let c1_i32_566 : BitVec 32 := 1#32
  let arg17 : BitVec 32 := Scf.iv c0_i32_564 c1_i32_566 k0_t3
  let v560 : BitVec 32 := Scalar.muli c2_i32_572 arg17
  let v561 : BitVec 32 := Scalar.addi v560 c2_i32_573
  let c1_i32_654 : BitVec 32 := 1#32
  let v634 : BitVec 32 := Scalar.subi v561 c1_i32_654
  let c768_i32_655 : BitVec 32 := 768#32
  let v635 : BitVec 32 := Scalar.muli v634 c768_i32_655
  let v636 : BitVec 32 := v635
  let v637 : Index := Scalar.indexCast v636
  ![0, v637.toNat]
def k0_mult20 (k0_t3 : Fin k0_t3_loop.trips) : BitVec 32 :=
  let c2_i32_691 : BitVec 32 := 2#32
  let c0_i32_564 : BitVec 32 := 0#32
  let c1_i32_566 : BitVec 32 := 1#32
  let arg17 : BitVec 32 := Scf.iv c0_i32_564 c1_i32_566 k0_t3
  let v665 : BitVec 32 := Scalar.muli c2_i32_691 arg17
  let c3_i32_692 : BitVec 32 := 3#32
  let v666 : BitVec 32 := Scalar.addi v665 c3_i32_692
  let c1_i32_693 : BitVec 32 := 1#32
  let v667 : BitVec 32 := Scalar.addi v666 c1_i32_693
  let c768_i32_694 : BitVec 32 := 768#32
  let v668 : BitVec 32 := Scalar.muli v667 c768_i32_694
  v668
def k0_mult21 (k0_t3 : Fin k0_t3_loop.trips) : BitVec 32 :=
  let c2_i32_691 : BitVec 32 := 2#32
  let c0_i32_564 : BitVec 32 := 0#32
  let c1_i32_566 : BitVec 32 := 1#32
  let arg17 : BitVec 32 := Scf.iv c0_i32_564 c1_i32_566 k0_t3
  let v665 : BitVec 32 := Scalar.muli c2_i32_691 arg17
  let c3_i32_692 : BitVec 32 := 3#32
  let v666 : BitVec 32 := Scalar.addi v665 c3_i32_692
  let c1_i32_773 : BitVec 32 := 1#32
  let v739 : BitVec 32 := Scalar.subi v666 c1_i32_773
  let c768_i32_774 : BitVec 32 := 768#32
  let v740 : BitVec 32 := Scalar.muli v739 c768_i32_774
  v740
def k0_cond1 (k0_t1 : Fin k0_t1_loop.trips) : BitVec 1 :=
  let c0_i32_214 : BitVec 32 := 0#32
  let c1_i32 : BitVec 32 := 1#32
  let arg16 : BitVec 32 := Scf.iv c0_i32_214 c1_i32 k0_t1
  let c3_i32 : BitVec 32 := 3#32
  let v220 : BitVec 1 := Scalar.cmpi .eq arg16 c3_i32
  let v_true : BitVec 1 := 1#1
  let v553 : BitVec 1 := Scalar.xori v220 v_true
  let v555 : BitVec 32 := Scalar.extui v553
  let c0_i32_569 : BitVec 32 := 0#32
  let v556 : BitVec 1 := Scalar.cmpi .ne v555 c0_i32_569
  v556

def k0_mult22 (k0_t1 : Fin k0_t1_loop.trips) : BitVec 32 :=
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_568 : BitVec 32 := 1#32
  let v554 : BitVec 32 := Scalar.addi v219 c1_i32_568
  let c1_i32_572 : BitVec 32 := 1#32
  let v560 : BitVec 32 := Scalar.addi v554 c1_i32_572
  let c1024_i32_573 : BitVec 32 := 1024#32
  let v561 : BitVec 32 := Scalar.muli v560 c1024_i32_573
  v561
def k0_off7 (k0_t1 : Fin k0_t1_loop.trips) : Fin 3 → Nat :=
  let c0_574 : Index := 0#32
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_568 : BitVec 32 := 1#32
  let v554 : BitVec 32 := Scalar.addi v219 c1_i32_568
  let c1_i32_572 : BitVec 32 := 1#32
  let v560 : BitVec 32 := Scalar.addi v554 c1_i32_572
  let c1024_i32_573 : BitVec 32 := 1024#32
  let v561 : BitVec 32 := Scalar.muli v560 c1024_i32_573
  let v562 : BitVec 32 := v561
  let v563 : Index := Scalar.indexCast v562
  let c0_575 : Index := 0#32
  ![0, v563.toNat, 0]
def k0_mult23 : BitVec 32 :=
  let c0_i32_587 : BitVec 32 := 0#32
  c0_i32_587
def k0_mult24 : BitVec 32 :=
  let c6912_i32_666 : BitVec 32 := 6912#32
  c6912_i32_666
def k0_mult25 : BitVec 32 :=
  let c768_i32_703 : BitVec 32 := 768#32
  c768_i32_703
def k0_mult26 : BitVec 32 :=
  let c7680_i32_766 : BitVec 32 := 7680#32
  c7680_i32_766
def k0_mult27 (k0_t1 : Fin k0_t1_loop.trips) : BitVec 32 :=
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_568 : BitVec 32 := 1#32
  let v554 : BitVec 32 := Scalar.addi v219 c1_i32_568
  let c1_i32_702 : BitVec 32 := 1#32
  let v682 : BitVec 32 := Scalar.addi v554 c1_i32_702
  let c1_i32_802 : BitVec 32 := 1#32
  let v766 : BitVec 32 := Scalar.subi v682 c1_i32_802
  let c1024_i32_817 : BitVec 32 := 1024#32
  let v799 : BitVec 32 := Scalar.muli v766 c1024_i32_817
  v799
def k0_off8 (k0_t1 : Fin k0_t1_loop.trips) : Fin 3 → Nat :=
  let c0_818 : Index := 0#32
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_568 : BitVec 32 := 1#32
  let v554 : BitVec 32 := Scalar.addi v219 c1_i32_568
  let c1_i32_702 : BitVec 32 := 1#32
  let v682 : BitVec 32 := Scalar.addi v554 c1_i32_702
  let c1_i32_802 : BitVec 32 := 1#32
  let v766 : BitVec 32 := Scalar.subi v682 c1_i32_802
  let c1024_i32_817 : BitVec 32 := 1024#32
  let v799 : BitVec 32 := Scalar.muli v766 c1024_i32_817
  let v800 : BitVec 32 := v799
  let v801 : Index := Scalar.indexCast v800
  let c0_819 : Index := 0#32
  ![0, v801.toNat, 0]
def k0_mult28 : BitVec 32 :=
  let c1536_i32_820 : BitVec 32 := 1536#32
  c1536_i32_820
def k0_mult29 : BitVec 32 :=
  let c0_i32_899 : BitVec 32 := 0#32
  c0_i32_899
def k0_cond2 (k0_t1 : Fin k0_t1_loop.trips) : BitVec 1 :=
  let c0_i32_214 : BitVec 32 := 0#32
  let c1_i32 : BitVec 32 := 1#32
  let arg16 : BitVec 32 := Scf.iv c0_i32_214 c1_i32 k0_t1
  let c3_i32 : BitVec 32 := 3#32
  let v220 : BitVec 1 := Scalar.cmpi .eq arg16 c3_i32
  let v558 : BitVec 32 := Scalar.extui v220
  let c0_i32_571 : BitVec 32 := 0#32
  let v559 : BitVec 1 := Scalar.cmpi .ne v558 c0_i32_571
  v559

def k0_mult30 : BitVec 32 :=
  let c6912_i32_620 : BitVec 32 := 6912#32
  c6912_i32_620
def k0_mult31 : BitVec 32 :=
  let c7680_i32_656 : BitVec 32 := 7680#32
  c7680_i32_656
def k0_mult32 (k0_t1 : Fin k0_t1_loop.trips) : BitVec 32 :=
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_570 : BitVec 32 := 1#32
  let v557 : BitVec 32 := Scalar.addi v219 c1_i32_570
  let c1024_i32_706 : BitVec 32 := 1024#32
  let v694 : BitVec 32 := Scalar.muli v557 c1024_i32_706
  v694
def k0_off9 (k0_t1 : Fin k0_t1_loop.trips) : Fin 3 → Nat :=
  let c0_707 : Index := 0#32
  let c2_i32 : BitVec 32 := 2#32
  let c0_i32_214 : BitVec 32 := 0#32
  let c1_i32 : BitVec 32 := 1#32
  let arg16 : BitVec 32 := Scf.iv c0_i32_214 c1_i32 k0_t1
  let v219 : BitVec 32 := Scalar.muli c2_i32 arg16
  let c1_i32_570 : BitVec 32 := 1#32
  let v557 : BitVec 32 := Scalar.addi v219 c1_i32_570
  let c1024_i32_706 : BitVec 32 := 1024#32
  let v694 : BitVec 32 := Scalar.muli v557 c1024_i32_706
  let v695 : BitVec 32 := v694
  let v696 : Index := Scalar.indexCast v695
  let c0_708 : Index := 0#32
  ![0, v696.toNat, 0]
def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x8448x6144 : Shape := ⟨3, ![2, 8448, 6144]⟩
abbrev S2x1024x8448 : Shape := ⟨3, ![2, 1024, 8448]⟩
abbrev S4x64 : Shape := ⟨2, ![4, 64]⟩
abbrev S1x128 : Shape := ⟨2, ![1, 128]⟩
abbrev S2x8192x1024 : Shape := ⟨3, ![2, 8192, 1024]⟩
abbrev S2x8192x8x2x64 : Shape := ⟨5, ![2, 8192, 8, 2, 64]⟩
abbrev S2x8448x1024 : Shape := ⟨3, ![2, 8448, 1024]⟩
abbrev S2x8448x8x2x64 : Shape := ⟨5, ![2, 8448, 8, 2, 64]⟩
abbrev S2x8x128x8448 : Shape := ⟨4, ![2, 8, 128, 8448]⟩
abbrev S1x64 : Shape := ⟨2, ![1, 64]⟩
abbrev S64 : Shape := ⟨1, ![64]⟩
abbrev S_ : Shape := ⟨0, ![]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x128x8192 : Shape := ⟨4, ![2, 8, 128, 8192]⟩
abbrev S2x8192x8x128 : Shape := ⟨4, ![2, 8192, 8, 128]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S2x8448x6144, .bf16⟩
  | .hbm, ⟨1, _⟩ => ⟨S2x1024x8448, .bf16⟩
  | .hbm, ⟨2, _⟩ => ⟨S4x64, .f32⟩
  | .hbm, ⟨3, _⟩ => ⟨S1x128, .f32⟩
  | .hbm, ⟨4, _⟩ => ⟨S2x8192x1024, .bf16⟩
  | .hbm, ⟨5, _⟩ => ⟨S2x8192x1024, .f32⟩
  | .hbm, ⟨6, _⟩ => ⟨S2x8192x8x2x64, .f32⟩
  | .hbm, ⟨7, _⟩ => ⟨S2x8448x1024, .bf16⟩
  | .hbm, ⟨8, _⟩ => ⟨S2x8448x1024, .f32⟩
  | .hbm, ⟨9, _⟩ => ⟨S2x8448x8x2x64, .f32⟩
  | .hbm, ⟨10, _⟩ => ⟨S2x1024x8448, .f32⟩
  | .hbm, ⟨11, _⟩ => ⟨S2x8x128x8448, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8x2x8192x8448, .f32⟩
  | .hbm, ⟨32, _⟩ => ⟨S_, .f32⟩
  | .hbm, ⟨33, _⟩ => ⟨S2x8x2x8192x8448, .f32⟩
  | .hbm, ⟨34, _⟩ => ⟨S_, .f32⟩
  | .hbm, ⟨35, _⟩ => ⟨S2x8x2x8192, .f32⟩
  | .hbm, ⟨36, _⟩ => ⟨S2x8x2x8192x1, .f32⟩
  | .hbm, ⟨37, _⟩ => ⟨S2x8x2x8192x8448, .f32⟩
  | .hbm, ⟨38, _⟩ => ⟨S2x8x2x8192x8448, .f32⟩
  | .hbm, ⟨39, _⟩ => ⟨S2x8x2x8192x8448, .f32⟩
  | .hbm, ⟨40, _⟩ => ⟨S_, .f32⟩
  | .hbm, ⟨41, _⟩ => ⟨S2x8x2x8192, .f32⟩
  | .hbm, ⟨42, _⟩ => ⟨S2x8x2x8192x1, .f32⟩
  | .hbm, ⟨43, _⟩ => ⟨S2x8x2x8192x8448, .f32⟩
  | .hbm, ⟨44, _⟩ => ⟨S2x8x2x8192x8448, .f32⟩
  | .hbm, ⟨45, _⟩ => ⟨S2x8x1x8192x8448, .f32⟩
  | .hbm, ⟨46, _⟩ => ⟨S2x8x8192x8448, .f32⟩
  | .hbm, ⟨47, _⟩ => ⟨S2x8x1x8192x8448, .f32⟩
  | .hbm, ⟨48, _⟩ => ⟨S2x8x8192x8448, .f32⟩
  | .hbm, ⟨49, _⟩ => ⟨S2x8x8192x8448, .f32⟩
  | .hbm, ⟨50, _⟩ => ⟨S2x8x8192x8448, .f32⟩
  | .hbm, ⟨51, _⟩ => ⟨S2x8x8192x8448, .f32⟩
  | .hbm, ⟨52, _⟩ => ⟨S2x8x128x8192, .f32⟩
  | .hbm, ⟨53, _⟩ => ⟨S2x8192x8x128, .f32⟩
  | .hbm, ⟨54, _⟩ => ⟨S128, .f32⟩
  | .hbm, ⟨55, _⟩ => ⟨S2x8192x8x128, .f32⟩
  | .hbm, ⟨56, _⟩ => ⟨S_, .f32⟩
  | .hbm, ⟨57, _⟩ => ⟨S2x8192x8, .f32⟩
  | .hbm, ⟨58, _⟩ => ⟨S2x8192x8x1, .f32⟩
  | .hbm, ⟨59, _⟩ => ⟨S_, .f32⟩
  | .hbm, ⟨60, _⟩ => ⟨S2x8192x8x1, .f32⟩
  | .hbm, ⟨61, _⟩ => ⟨S2x8192x8x1, .f32⟩
  | .hbm, ⟨62, _⟩ => ⟨S_, .f32⟩
  | .hbm, ⟨63, _⟩ => ⟨S2x8192x8x1, .f32⟩
  | .hbm, ⟨64, _⟩ => ⟨S2x8192x8x1, .f32⟩
  | .hbm, ⟨65, _⟩ => ⟨S2x8192x8x1, .f32⟩
  | .hbm, ⟨66, _⟩ => ⟨S2x8192x8x128, .f32⟩
  | .hbm, ⟨67, _⟩ => ⟨S2x8192x8x128, .f32⟩
  | .hbm, ⟨68, _⟩ => ⟨S1x1x1x128, .f32⟩
  | .hbm, ⟨69, _⟩ => ⟨S2x8192x8x128, .f32⟩
  | .hbm, ⟨70, _⟩ => ⟨S2x8192x8x128, .f32⟩
  | .hbm, ⟨71, _⟩ => ⟨S_, .f32⟩
  | .hbm, ⟨72, _⟩ => ⟨S2x8192x8x128, .f32⟩
  | .hbm, ⟨73, _⟩ => ⟨S2x8192x8x128, .f32⟩
  | .hbm, ⟨74, _⟩ => ⟨S2x8192x1024, .f32⟩
  | .hbm, ⟨75, _⟩ => ⟨S2x8192x1024, .bf16⟩
  | _, _ => ⟨S2x8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel2.lean ====
abbrev S2x8192x2048 : Shape := ⟨3, ![2, 8192, 2048]⟩
abbrev S8x12288 : Shape := ⟨2, ![8, 12288]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S3x11264 : Shape := ⟨2, ![3, 11264]⟩
abbrev S_ : Shape := ⟨0, ![]⟩
abbrev S4x11264 : Shape := ⟨2, ![4, 11264]⟩
abbrev S8x11264 : Shape := ⟨2, ![8, 11264]⟩
abbrev S8x2x11x512 : Shape := ⟨4, ![8, 2, 11, 512]⟩
abbrev S11x8x2x512 : Shape := ⟨4, ![11, 8, 2, 512]⟩
abbrev S11x8x1024 : Shape := ⟨3, ![11, 8, 1024]⟩
abbrev S2048x11264 : Shape := ⟨2, ![2048, 11264]⟩
abbrev S5632x2048 : Shape := ⟨2, ![5632, 2048]⟩
abbrev S1x512x2048 : Shape := ⟨3, ![1, 512, 2048]⟩
abbrev S1x16x2048 : Shape := ⟨3, ![1, 16, 2048]⟩
abbrev S2048x512 : Shape := ⟨2, ![2048, 512]⟩
abbrev S1x8x1024 : Shape := ⟨3, ![1, 8, 1024]⟩
abbrev S512x2048 : Shape := ⟨2, ![512, 2048]⟩
abbrev S528x2048 : Shape := ⟨2, ![528, 2048]⟩
abbrev S528x1024 : Shape := ⟨2, ![528, 1024]⟩
abbrev S16x2048 : Shape := ⟨2, ![16, 2048]⟩
abbrev S16x1 : Shape := ⟨2, ![16, 1]⟩
abbrev S528x512 : Shape := ⟨2, ![528, 512]⟩
abbrev S1x1x1024 : Shape := ⟨3, ![1, 1, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .f32⟩
  | .hbm, ⟨2, _⟩ => ⟨S8x12288, .f32⟩
  | .hbm, ⟨3, _⟩ => ⟨S1x2048, .f32⟩
  | .hbm, ⟨4, _⟩ => ⟨S1x2048x11264, .f32⟩
  | .hbm, ⟨5, _⟩ => ⟨S1x3x11264, .f32⟩
  | .hbm, ⟨6, _⟩ => ⟨S1x11264, .f32⟩
  | .hbm, ⟨7, _⟩ => ⟨S1x5632x2048, .f32⟩
  | .hbm, ⟨8, _⟩ => ⟨S3x11264, .f32⟩
  | .hbm, ⟨9, _⟩ => ⟨S_, .f32⟩
  | .hbm, ⟨10, _⟩ => ⟨S4x11264, .f32⟩
  | .hbm, ⟨11, _⟩ => ⟨S8x11264, .f32⟩
  | .hbm, ⟨12, _⟩ => ⟨S8x2x11x512, .f32⟩
  | .hbm, ⟨13, _⟩ => ⟨S11x8x2x512, .f32⟩
  | .hbm, ⟨14, _⟩ => ⟨S11x8x1024, .f32⟩
  | .hbm, ⟨15, _⟩ => ⟨S2048x11264, .f32⟩
  | .hbm, ⟨16, _⟩ => ⟨S2048x11264, .bf16⟩
  | .hbm, ⟨17, _⟩ => ⟨S5632x2048, .f32⟩
  | .hbm, ⟨18, _⟩ => ⟨S5632x2048, .bf16⟩
  | .hbm, ⟨19, _⟩ => ⟨S2x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x8x1024, .f32⟩
  | .local _ .vmem, ⟨11, _⟩ => ⟨S1x8x1024, .f32⟩
  | .local _ .vmem, ⟨12, _⟩ => ⟨S512x2048, .bf16⟩
  | .local _ .vmem, ⟨13, _⟩ => ⟨S512x2048, .bf16⟩
  | .local _ .vmem, ⟨14, _⟩ => ⟨S1x512x2048, .f32⟩
  | .local _ .vmem, ⟨15, _⟩ => ⟨S1x512x2048, .f32⟩
  | .local _ .vmem, ⟨16, _⟩ => ⟨S8x12288, .f32⟩
  | .local _ .vmem, ⟨17, _⟩ => ⟨S1x2048, .f32⟩
  | .local _ .vmem, ⟨18, _⟩ => ⟨S1x512x2048, .f32⟩
  | .local _ .vmem, ⟨19, _⟩ => ⟨S1x512x2048, .f32⟩
  | .local _ .vmem, ⟨20, _⟩ => ⟨S528x2048, .bf16⟩
  | .local _ .vmem, ⟨21, _⟩ => ⟨S528x1024, .f32⟩
  | .local _ .vmem, ⟨22, _⟩ => ⟨S512x2048, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![2, 16, 12], ![false, false, false]⟩

def k0_cond4 (i : grid0.Coords) : BitVec 1 :=
  let arg2 : BitVec 32 := BitVec.ofNat 32 (i 2).val
  let c11_i32_4 : BitVec 32 := 11#32
  let v11 : BitVec 1 := Scalar.cmpi .eq arg2 c11_i32_4
  let v12 : BitVec 32 := Scalar.extui v11
  let c0_i32_5 : BitVec 32 := 0#32
  let v13 : BitVec 1 := Scalar.cmpi .ne v12 c0_i32_5
  v13

def k0_off1 (i : grid0.Coords) : Fin 2 → Nat :=
  let arg0 : BitVec 32 := BitVec.ofNat 32 (i 0).val
  let v14 : Index := Scalar.indexCast arg0
  let c10240 : Index := 10240#32
  ![v14.toNat, 10240]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8x12288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference2Ideal.lean ====
abbrev S2x8192x2048 : Shape := ⟨3, ![2, 8192, 2048]⟩
abbrev S8x12288 : Shape := ⟨2, ![8, 12288]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2x2048 : Shape := ⟨2, ![2, 2048]⟩
abbrev S2x1x2048 : Shape := ⟨3, ![2, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2x8192x11264 : Shape := ⟨3, ![2, 8192, 11264]⟩
abbrev S_ : Shape := ⟨0, ![]⟩
abbrev S2x8194x11264 : Shape := ⟨3, ![2, 8194, 11264]⟩
abbrev S1x1x11264 : Shape := ⟨3, ![1, 1, 11264]⟩
abbrev S2x8192x5632 : Shape := ⟨3, ![2, 8192, 5632]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .f32⟩
  | .hbm, ⟨2, _⟩ => ⟨S8x12288, .f32⟩
  | .hbm, ⟨3, _⟩ => ⟨S1x2048, .f32⟩
  | .hbm, ⟨4, _⟩ => ⟨S1x2048x11264, .f32⟩
  | .hbm, ⟨5, _⟩ => ⟨S1x3x11264, .f32⟩
  | .hbm, ⟨6, _⟩ => ⟨S1x11264, .f32⟩
  | .hbm, ⟨7, _⟩ => ⟨S1x5632x2048, .f32⟩
  | .hbm, ⟨8, _⟩ => ⟨S2x2048, .f32⟩
  | .hbm, ⟨9, _⟩ => ⟨S2x1x2048, .f32⟩
  | .hbm, ⟨10, _⟩ => ⟨S2x8192x2048, .f32⟩
  | .hbm, ⟨11, _⟩ => ⟨S2048x11264, .f32⟩
  | .hbm, ⟨12, _⟩ => ⟨S3x11264, .f32⟩
  | .hbm, ⟨13, _⟩ => ⟨S11264, .f32⟩
  | .hbm, ⟨14, _⟩ => ⟨S5632x2048, .f32⟩
  | .hbm, ⟨15, _⟩ => ⟨S2x8192x11264, .f32⟩
  | .hbm, ⟨16, _⟩ => ⟨S_, .i32⟩
  | .hbm, ⟨17, _⟩ => ⟨S_, .f32⟩
  | .hbm, ⟨18, _⟩ => ⟨S2x8194x11264, .f32⟩
  | .hbm, ⟨19, _⟩ => ⟨S2x8192x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S2x8192x11264, .f32⟩
  | .hbm, ⟨24, _⟩ => ⟨S2x8192x11264, .f32⟩
  | .hbm, ⟨25, _⟩ => ⟨S2x8192x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S2x8192x11264, .f32⟩
  | .hbm, ⟨30, _⟩ => ⟨S2x8192x11264, .f32⟩
  | .hbm, ⟨31, _⟩ => ⟨S2x8192x11264, .f32⟩
  | .hbm, ⟨32, _⟩ => ⟨S2x8192x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S2x8192x11264, .f32⟩
  | .hbm, ⟨37, _⟩ => ⟨S2x8192x11264, .f32⟩
  | .hbm, ⟨38, _⟩ => ⟨S2x8192x11264, .f32⟩
  | .hbm, ⟨39, _⟩ => ⟨S1x1x11264, .f32⟩
  | .hbm, ⟨40, _⟩ => ⟨S2x8192x11264, .f32⟩
  | .hbm, ⟨41, _⟩ => ⟨S2x8192x11264, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S_, .f32⟩
  | .hbm, ⟨47, _⟩ => ⟨S2x8192x5632, .f32⟩
  | .hbm, ⟨48, _⟩ => ⟨S2x8192x5632, .f32⟩
  | .hbm, ⟨49, _⟩ => ⟨S_, .f32⟩
  | .hbm, ⟨50, _⟩ => ⟨S2x8192x5632, .f32⟩
  | .hbm, ⟨51, _⟩ => ⟨S2x8192x5632, .f32⟩
  | .hbm, ⟨52, _⟩ => ⟨S2x8192x5632, .f32⟩
  | .hbm, ⟨53, _⟩ => ⟨S2x8192x5632, .f32⟩
  | .hbm, ⟨54, _⟩ => ⟨S2x8192x2048, .f32⟩
  | .hbm, ⟨55, _⟩ => ⟨S2048, .f32⟩
  | .hbm, ⟨56, _⟩ => ⟨S2x8192x2048, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x2048, .f32⟩
  | .hbm, ⟨68, _⟩ => ⟨S2x8192x2048, .f32⟩
  | .hbm, ⟨69, _⟩ => ⟨S1x1x2048, .f32⟩
  | .hbm, ⟨70, _⟩ => ⟨S2x8192x2048, .f32⟩
  | .hbm, ⟨71, _⟩ => ⟨S2x8192x2048, .f32⟩
  | .hbm, ⟨72, _⟩ => ⟨S2x8192x2048, .f32⟩
  | .hbm, ⟨73, _⟩ => ⟨S2x8192x2048, .f32⟩
  | .hbm, ⟨74, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst : Ref sig .tc := ⟨.hbm, 57, rfl⟩
abbrev main_v39 : Ref sig .tc := ⟨.hbm, 58, rfl⟩
abbrev main_v40 : Ref sig .tc := ⟨.hbm, 59, rfl⟩
abbrev main_cst_0 : Ref sig .tc := ⟨.hbm, 60, rfl⟩
abbrev main_v41 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8448x6144 : Shape := ⟨3, ![2, 8448, 6144]⟩
abbrev S2x8192x2048 : Shape := ⟨3, ![2, 8192, 2048]⟩
abbrev S8x12288 : Shape := ⟨2, ![8, 12288]⟩
abbrev S1x1024 : Shape := ⟨2, ![1, 1024]⟩
abbrev S1x2048 : Shape := ⟨2, ![1, 2048]⟩
abbrev S1x2048x2048 : Shape := ⟨3, ![1, 2048, 2048]⟩
abbrev S2048x2048 : Shape := ⟨2, ![2048, 2048]⟩
abbrev S1x512x1024 : Shape := ⟨3, ![1, 512, 1024]⟩
abbrev S1x512x2048 : Shape := ⟨3, ![1, 512, 2048]⟩
abbrev S512x2048 : Shape := ⟨2, ![512, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x256x1024 : Shape := ⟨3, ![1, 256, 1024]⟩
abbrev S256x1024 : Shape := ⟨2, ![256, 1024]⟩
abbrev S256x2048 : Shape := ⟨2, ![256, 2048]⟩
abbrev S1x256x2048 : Shape := ⟨3, ![1, 256, 2048]⟩

abbrev nBuf : Space → Nat
  | .hbm => 14
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8448x6144, .bf16⟩
  | .hbm, ⟨3, _⟩ => ⟨S2x8192x1024, .bf16⟩
  | .hbm, ⟨4, _⟩ => ⟨S2x8192x2048, .f32⟩
  | .hbm, ⟨5, _⟩ => ⟨S8x12288, .f32⟩
  | .hbm, ⟨6, _⟩ => ⟨S1x1024, .f32⟩
  | .hbm, ⟨7, _⟩ => ⟨S1x2048, .f32⟩
  | .hbm, ⟨8, _⟩ => ⟨S1x2048, .f32⟩
  | .hbm, ⟨9, _⟩ => ⟨S1x2048x2048, .f32⟩
  | .hbm, ⟨10, _⟩ => ⟨S2048x2048, .f32⟩
  | .hbm, ⟨11, _⟩ => ⟨S2048x2048, .bf16⟩
  | .hbm, ⟨12, _⟩ => ⟨S2x8192x2048, .f32⟩
  | .hbm, ⟨13, _⟩ => ⟨S2x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x2048, .f32⟩
  | .local _ .vmem, ⟨9, _⟩ => ⟨S1x512x2048, .f32⟩
  | .local _ .vmem, ⟨10, _⟩ => ⟨S8x12288, .f32⟩
  | .local _ .vmem, ⟨11, _⟩ => ⟨S1x1024, .f32⟩
  | .local _ .vmem, ⟨12, _⟩ => ⟨S1x2048, .f32⟩
  | .local _ .vmem, ⟨13, _⟩ => ⟨S1x2048, .f32⟩
  | .local _ .vmem, ⟨14, _⟩ => ⟨S2048x2048, .bf16⟩
  | .local _ .vmem, ⟨15, _⟩ => ⟨S1x512x2048, .f32⟩
  | .local _ .vmem, ⟨16, _⟩ => ⟨S1x512x2048, .f32⟩
  | .local _ .vmem, ⟨17, _⟩ => ⟨S1x512x2048, .bf16⟩
  | .local _ .vmem, ⟨18, _⟩ => ⟨S1x512x2048, .bf16⟩
  | .local _ .vmem, ⟨19, _⟩ => ⟨S512x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let v0 : Index := Scalar.indexCast arg0
  let c4096 : Index := 4096#32
  ![v0.toNat, 4096]
def k0_off2 (i : grid0.Coords) : Fin 2 → Nat :=
  let arg0 : BitVec 32 := BitVec.ofNat 32 (i 0).val
  let v2 : Index := Scalar.indexCast arg0
  let c6144 : Index := 6144#32
  ![v2.toNat, 6144]
def k0_off3 (i : grid0.Coords) : Fin 2 → Nat :=
  let arg0 : BitVec 32 := BitVec.ofNat 32 (i 0).val
  let v4 : Index := Scalar.indexCast arg0
  let c8192 : Index := 8192#32
  ![v4.toNat, 8192]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x8192x1024 : Shape := ⟨3, ![2, 8192, 1024]⟩
abbrev S2x8448x6144 : Shape := ⟨3, ![2, 8448, 6144]⟩
abbrev S2x8192x2048 : Shape := ⟨3, ![2, 8192, 2048]⟩
abbrev S8x12288 : Shape := ⟨2, ![8, 12288]⟩
abbrev S1x1024 : Shape := ⟨2, ![1, 1024]⟩
abbrev S1x2048 : Shape := ⟨2, ![1, 2048]⟩
abbrev S1x2048x2048 : Shape := ⟨3, ![1, 2048, 2048]⟩
abbrev S2x2048 : Shape := ⟨2, ![2, 2048]⟩
abbrev S2x1x2048 : Shape := ⟨3, ![2, 1, 2048]⟩
abbrev S2x8192x8x128 : Shape := ⟨4, ![2, 8192, 8, 128]⟩
abbrev S1024 : Shape := ⟨1, ![1024]⟩
abbrev S8x128 : Shape := ⟨2, ![8, 128]⟩
abbrev S_ : Shape := ⟨0, ![]⟩
abbrev S2x8192x8 : Shape := ⟨3, ![2, 8192, 8]⟩
abbrev S2x8192x8x1 : Shape := ⟨4, ![2, 8192, 8, 1]⟩
abbrev S1x1x8x128 : Shape := ⟨4, ![1, 1, 8, 128]⟩
abbrev S2048x2048 : Shape := ⟨2, ![2048, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8448x6144, .bf16⟩
  | .hbm, ⟨3, _⟩ => ⟨S2x8192x1024, .bf16⟩
  | .hbm, ⟨4, _⟩ => ⟨S2x8192x2048, .f32⟩
  | .hbm, ⟨5, _⟩ => ⟨S8x12288, .f32⟩
  | .hbm, ⟨6, _⟩ => ⟨S1x1024, .f32⟩
  | .hbm, ⟨7, _⟩ => ⟨S1x2048, .f32⟩
  | .hbm, ⟨8, _⟩ => ⟨S1x2048, .f32⟩
  | .hbm, ⟨9, _⟩ => ⟨S1x2048x2048, .f32⟩
  | .hbm, ⟨10, _⟩ => ⟨S2x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S2x8192x1024, .f32⟩
  | .hbm, ⟨17, _⟩ => ⟨S2x8192x8x128, .f32⟩
  | .hbm, ⟨18, _⟩ => ⟨S1024, .f32⟩
  | .hbm, ⟨19, _⟩ => ⟨S8x128, .f32⟩
  | .hbm, ⟨20, _⟩ => ⟨S2x8192x8x128, .f32⟩
  | .hbm, ⟨21, _⟩ => ⟨S_, .f32⟩
  | .hbm, ⟨22, _⟩ => ⟨S2x8192x8, .f32⟩
  | .hbm, ⟨23, _⟩ => ⟨S2x8192x8x1, .f32⟩
  | .hbm, ⟨24, _⟩ => ⟨S_, .f32⟩
  | .hbm, ⟨25, _⟩ => ⟨S2x8192x8x1, .f32⟩
  | .hbm, ⟨26, _⟩ => ⟨S2x8192x8x1, .f32⟩
  | .hbm, ⟨27, _⟩ => ⟨S_, .f32⟩
  | .hbm, ⟨28, _⟩ => ⟨S2x8192x8x1, .f32⟩
  | .hbm, ⟨29, _⟩ => ⟨S2x8192x8x1, .f32⟩
  | .hbm, ⟨30, _⟩ => ⟨S2x8192x8x1, .f32⟩
  | .hbm, ⟨31, _⟩ => ⟨S2x8192x8x128, .f32⟩
  | .hbm, ⟨32, _⟩ => ⟨S2x8192x8x128, .f32⟩
  | .hbm, ⟨33, _⟩ => ⟨S1x1x8x128, .f32⟩
  | .hbm, ⟨34, _⟩ => ⟨S2x8192x8x128, .f32⟩
  | .hbm, ⟨35, _⟩ => ⟨S2x8192x8x128, .f32⟩
  | .hbm, ⟨36, _⟩ => ⟨S2x8192x1024, .f32⟩
  | .hbm, ⟨37, _⟩ => ⟨S2x8192x1024, .bf16⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x2048, .f32⟩
  | .hbm, ⟨50, _⟩ => ⟨S2048x2048, .f32⟩
  | .hbm, ⟨51, _⟩ => ⟨S2x8192x2048, .f32⟩
  | .hbm, ⟨52, _⟩ => ⟨S2048, .f32⟩
  | .hbm, ⟨53, _⟩ => ⟨S2x8192x2048, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S2x8192x1, .f32⟩
  | .hbm, ⟨64, _⟩ => ⟨S2x8192x2048, .f32⟩
  | .hbm, ⟨65, _⟩ => ⟨S2x8192x2048, .f32⟩
  | .hbm, ⟨66, _⟩ => ⟨S1x1x2048, .f32⟩
  | .hbm, ⟨67, _⟩ => ⟨S2x8192x2048, .f32⟩
  | .hbm, ⟨68, _⟩ => ⟨S2x8192x2048, .f32⟩
  | .hbm, ⟨69, _⟩ => ⟨S2x8192x2048, .f32⟩
  | .hbm, ⟨70, _⟩ => ⟨S2x8192x2048, .f32⟩
  | .hbm, ⟨71, _⟩ => ⟨S2x8192x2048, .f32⟩
  | .hbm, ⟨72, _⟩ => ⟨S2048, .f32⟩
  | .hbm, ⟨73, _⟩ => ⟨S2x8192x2048, .f32⟩
  | .hbm, ⟨74, _⟩ => ⟨S_, .f32⟩
  | .hbm, ⟨75, _⟩ => ⟨S2x8192, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S_, .f32⟩
  | .hbm, ⟨81, _⟩ => ⟨S2x8192x1, .f32⟩
  | .hbm, ⟨82, _⟩ => ⟨S2x8192x1, .f32⟩
  | .hbm, ⟨83, _⟩ => ⟨S2x8192x1, .f32⟩
  | .hbm, ⟨84, _⟩ => ⟨S2x8192x2048, .f32⟩
  | .hbm, ⟨85, _⟩ => ⟨S2x8192x2048, .f32⟩
  | .hbm, ⟨86, _⟩ => ⟨S1x1x2048, .f32⟩
  | .hbm, ⟨87, _⟩ => ⟨S2x8192x2048, .f32⟩
  | .hbm, ⟨88, _⟩ => ⟨S2x8192x2048, .f32⟩
  | .hbm, ⟨89, _⟩ => ⟨S_, .f32⟩
  | .hbm, ⟨90, _⟩ => ⟨S2x1x2048, .f32⟩
  | .hbm, ⟨91, _⟩ => ⟨S2x1x2048, .f32⟩
  | .hbm, ⟨92, _⟩ => ⟨S2x8192x2048, .f32⟩
  | .hbm, ⟨93, _⟩ => ⟨S2x8192x2048, .f32⟩
  | .hbm, ⟨94, _⟩ => ⟨S2x8192x2048, .f32⟩
  | .hbm, ⟨95, _⟩ => ⟨S2x8192x2048, .f32⟩
  | .hbm, ⟨96, _⟩ => ⟨S2x8192x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel4.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S8x12288 : Shape := ⟨2, ![8, 12288]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S8x12288, .f32⟩
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.AttnLoops.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ
abbrev 𝒱₀ : Variants := Variants.none

/-- A sequence spelled so that its value at zero is in sight. -/
@[reducible] def at0 {A : Type} (a : A) (g : ℕ → A) (k : ℕ) : A :=
  Nat.rec (motive := fun _ => A) a (fun n _ => g (n + 1)) k

theorem at0_succ {A : Type} (a : A) (g : ℕ → A) (k : ℕ) : at0 a g (k + 1) = g (k + 1) := rfl

theorem at0_of {A : Type} (a : A) (g : ℕ → A) (h : a = g 0) {k : ℕ} : at0 a g k = g k := by
  subst h
  cases k <;> rfl

/-- One trip of loop `k0_t3_loop`: the pieces it writes into the six buffers it stores into, as functions of what it finds. -/
@[irreducible] noncomputable def run3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)  (k : Fin k0_t3_loop.trips)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    Σ' (L10 : List (View.Piece (Elt F) S2x2x1x1024 .f32)) (L11 : List (View.Piece (Elt F) S2x2x144x1024 .f32)) (L12 : List (View.Piece (Elt F) S2x2x768x1024 .f32)) (L13 : List (View.Piece (Elt F) S2x2x1x1024 .f32)) (L14 : List (View.Piece (Elt F) S2x2x768x1024 .bf16)),
    { L15 : List (View.Piece (Elt F) S2x2x1x1024 .f32) //
      iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
        ⊢ wp (M := 𝕄) frame (wpE (defs₀ (F := F)) 𝒱₀ (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15  k ())
          (fun _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)) ∗ (arg15.view.loc (c : Thread nD τ) ↦[arg15.view.set]{fullShare} (arg15.view.writes (Elt F) f15 L15)))) } := by
  refine ⟨?_, ?_, ?_, ?_, ?_, ?_, ?run⟩
  case run =>
    unfold k0_t3_body
    iintro ⟨H3, H8, H9, H10, H11, H12, H13, H14, H15⟩
    sl_exec_parts
    sl_step
    sl_close

/-- The six written buffers' contents. -/
abbrev St3 (c : Dev nD) (arg10 : Memref sig .tc .vmem S2x2x1x1024 .f32) (arg11 : Memref sig .tc .vmem S2x2x144x1024 .f32) (arg12 : Memref sig .tc .vmem S2x2x768x1024 .f32) (arg13 : Memref sig .tc .vmem S2x2x1x1024 .f32) (arg14 : Memref sig .tc .vmem S2x2x768x1024 .bf16) (arg15 : Memref sig .tc .vmem S2x2x1x1024 .f32) : Type := Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) × Buf (Elt F) (arg15.view.loc (c : Thread nD τ))

/-- What one trip makes of the six written buffers. -/
@[irreducible] noncomputable def next3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)  (k : Fin k0_t3_loop.trips)
    (f3 : Buf (Elt F) (arg3.view.loc (c : Thread nD τ))) (f8 : Buf (Elt F) (arg8.view.loc (c : Thread nD τ))) (f9 : Buf (Elt F) (arg9.view.loc (c : Thread nD τ))) (s : St3 (F := F) c arg10 arg11 arg12 arg13 arg14 arg15) : St3 (F := F) c arg10 arg11 arg12 arg13 arg14 arg15 :=
  let r := run3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s.1 s.2.1 s.2.2.1 s.2.2.2.1 s.2.2.2.2.1 s.2.2.2.2.2
  (arg10.view.writes (Elt F) s.1 r.1, arg11.view.writes (Elt F) s.2.1 r.2.1, arg12.view.writes (Elt F) s.2.2.1 r.2.2.1,
    arg13.view.writes (Elt F) s.2.2.2.1 r.2.2.2.1, arg14.view.writes (Elt F) s.2.2.2.2.1 r.2.2.2.2.1,
    arg15.view.writes (Elt F) s.2.2.2.2.2 r.2.2.2.2.2.1)

/-- What the six buffers hold before trip `k`, from what they held before the first. -/
noncomputable def st3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) (s₀ : St3 (F := F) c arg10 arg11 arg12 arg13 arg14 arg15) (k : ℕ) : St3 (F := F) c arg10 arg11 arg12 arg13 arg14 arg15 :=
  Nat.rec (motive := fun _ => St3 (F := F) c arg10 arg11 arg12 arg13 arg14 arg15) s₀
    (fun k s => if h : k < k0_t3_loop.trips then next3 c i arg2 harg2 arg3 harg3 arg4 harg4 arg5 harg5 arg6 harg6 arg7 harg7 arg8 harg8 arg9 harg9 arg10 harg10 arg11 harg11 arg12 harg12 arg13 harg13 arg14 harg14 arg15 harg15  ⟨k, h⟩ f3 f8 f9 s else s) k

theorem st3_succ (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)  (k : Fin k0_t3_loop.trips)
    (f3 : Buf (Elt F) (arg3.view.loc (c : Thread nD τ))) (f8 : Buf (Elt F) (arg8.view.loc (c : Thread nD τ))) (f9 : Buf (Elt F) (arg9.view.loc (c : Thread nD τ))) (s₀ : St3 (F := F) c arg10 arg11 arg12 arg13 arg14 arg15) :
    st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s₀ (k.val + 1) =
      next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s₀ k.val) :=
  dif_pos k.isLt

/-- The loop's invariant: the read buffers as they were, the written ones at the state before trip `k`. -/
abbrev inv3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (k : ℕ) : sProp 𝕄 :=
  iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (at0 f10 (fun k => (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15) k).1) k)) ∗ (arg11.view.loc (c : Thread nD τ) ↦[arg11.view.set]{fullShare} (at0 f11 (fun k => (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15) k).2.1) k)) ∗ (arg12.view.loc (c : Thread nD τ) ↦[arg12.view.set]{fullShare} (at0 f12 (fun k => (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15) k).2.2.1) k)) ∗ (arg13.view.loc (c : Thread nD τ) ↦[arg13.view.set]{fullShare} (at0 f13 (fun k => (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15) k).2.2.2.1) k)) ∗ (arg14.view.loc (c : Thread nD τ) ↦[arg14.view.set]{fullShare} (at0 f14 (fun k => (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15) k).2.2.2.2.1) k)) ∗ (arg15.view.loc (c : Thread nD τ) ↦[arg15.view.set]{fullShare} (at0 f15 (fun k => (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15) k).2.2.2.2.2) k)))

@[sl_loop] noncomputable def loopInv_k0_t3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15  where
  inv k _ := inv3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 f10 f11 f12 f13 f14 f15 k
  step k acc := by
    obtain ⟨⟩ := acc
    dsimp only [inv3]
    repeat rw [at0_of]
    rw [st3_succ]
    unfold next3
    dsimp only
    · exact (run3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 _ _ _ _ _ _).2.2.2.2.2.2
    all_goals rfl

/-- What the six buffers hold after the last trip. -/
@[irreducible] noncomputable def fin3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) (s₀ : St3 (F := F) c arg10 arg11 arg12 arg13 arg14 arg15) : St3 (F := F) c arg10 arg11 arg12 arg13 arg14 arg15 :=
  st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s₀ k0_t3_loop.trips

@[instance_reducible] noncomputable instance loopExit_k0_t3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    LoopExit (loopInv_k0_t3 (F := F) c i arg2 harg2 arg3 harg3 arg4 harg4 arg5 harg5 arg6 harg6 arg7 harg7 arg8 harg8 arg9 harg9 arg10 harg10 arg11 harg11 arg12 harg12 arg13 harg13 arg14 harg14 arg15 harg15  f3 f8 f9 f10 f11 f12 f13 f14 f15) where
  post _ := iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).1) ∗ (arg11.view.loc (c : Thread nD τ) ↦[arg11.view.set]{fullShare} (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.1) ∗ (arg12.view.loc (c : Thread nD τ) ↦[arg12.view.set]{fullShare} (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.1) ∗ (arg13.view.loc (c : Thread nD τ) ↦[arg13.view.set]{fullShare} (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.2.1) ∗ (arg14.view.loc (c : Thread nD τ) ↦[arg14.view.set]{fullShare} (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.2.2.1) ∗ (arg15.view.loc (c : Thread nD τ) ↦[arg15.view.set]{fullShare} (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.2.2.2))
  exit acc := by
    unfold fin3
    dsimp only [loopInv_k0_t3, inv3]
    repeat rw [at0_of]
    · exact .rfl
    all_goals rfl

/-- One trip of loop `k0_t2_loop`: the pieces it writes into the six buffers it stores into, as functions of what it finds. -/
@[irreducible] noncomputable def run2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips) (k : Fin k0_t2_loop.trips)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    Σ' (L10 : List (View.Piece (Elt F) S2x2x1x1024 .f32)) (L11 : List (View.Piece (Elt F) S2x2x144x1024 .f32)) (L12 : List (View.Piece (Elt F) S2x2x768x1024 .f32)) (L13 : List (View.Piece (Elt F) S2x2x1x1024 .f32)) (L14 : List (View.Piece (Elt F) S2x2x768x1024 .bf16)),
    { L15 : List (View.Piece (Elt F) S2x2x1x1024 .f32) //
      iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
        ⊢ wp (M := 𝕄) frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k ())
          (fun _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)) ∗ (arg15.view.loc (c : Thread nD τ) ↦[arg15.view.set]{fullShare} (arg15.view.writes (Elt F) f15 L15)))) } := by
  refine ⟨?_, ?_, ?_, ?_, ?_, ?_, ?run⟩
  case run =>
    unfold k0_t2_body
    iintro ⟨H3, H8, H9, H10, H11, H12, H13, H14, H15⟩
    sl_exec_parts
    sl_step
    sl_close

/-- The six written buffers' contents. -/
abbrev St2 (c : Dev nD) (arg10 : Memref sig .tc .vmem S2x2x1x1024 .f32) (arg11 : Memref sig .tc .vmem S2x2x144x1024 .f32) (arg12 : Memref sig .tc .vmem S2x2x768x1024 .f32) (arg13 : Memref sig .tc .vmem S2x2x1x1024 .f32) (arg14 : Memref sig .tc .vmem S2x2x768x1024 .bf16) (arg15 : Memref sig .tc .vmem S2x2x1x1024 .f32) : Type := Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) × Buf (Elt F) (arg15.view.loc (c : Thread nD τ))

/-- What one trip makes of the six written buffers. -/
@[irreducible] noncomputable def next2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips) (k : Fin k0_t2_loop.trips)
    (f3 : Buf (Elt F) (arg3.view.loc (c : Thread nD τ))) (f8 : Buf (Elt F) (arg8.view.loc (c : Thread nD τ))) (f9 : Buf (Elt F) (arg9.view.loc (c : Thread nD τ))) (s : St2 (F := F) c arg10 arg11 arg12 arg13 arg14 arg15) : St2 (F := F) c arg10 arg11 arg12 arg13 arg14 arg15 :=
  let r := run2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s.1 s.2.1 s.2.2.1 s.2.2.2.1 s.2.2.2.2.1 s.2.2.2.2.2
  (arg10.view.writes (Elt F) s.1 r.1, arg11.view.writes (Elt F) s.2.1 r.2.1, arg12.view.writes (Elt F) s.2.2.1 r.2.2.1,
    arg13.view.writes (Elt F) s.2.2.2.1 r.2.2.2.1, arg14.view.writes (Elt F) s.2.2.2.2.1 r.2.2.2.2.1,
    arg15.view.writes (Elt F) s.2.2.2.2.2 r.2.2.2.2.2.1)

/-- What the six buffers hold before trip `k`, from what they held before the first. -/
noncomputable def st2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) (s₀ : St2 (F := F) c arg10 arg11 arg12 arg13 arg14 arg15) (k : ℕ) : St2 (F := F) c arg10 arg11 arg12 arg13 arg14 arg15 :=
  Nat.rec (motive := fun _ => St2 (F := F) c arg10 arg11 arg12 arg13 arg14 arg15) s₀
    (fun k s => if h : k < k0_t2_loop.trips then next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 ⟨k, h⟩ f3 f8 f9 s else s) k

theorem st2_succ (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips) (k : Fin k0_t2_loop.trips)
    (f3 : Buf (Elt F) (arg3.view.loc (c : Thread nD τ))) (f8 : Buf (Elt F) (arg8.view.loc (c : Thread nD τ))) (f9 : Buf (Elt F) (arg9.view.loc (c : Thread nD τ))) (s₀ : St2 (F := F) c arg10 arg11 arg12 arg13 arg14 arg15) :
    st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s₀ (k.val + 1) =
      next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s₀ k.val) :=
  dif_pos k.isLt

/-- The loop's invariant: the read buffers as they were, the written ones at the state before trip `k`. -/
abbrev inv2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (k : ℕ) : sProp 𝕄 :=
  iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (at0 f10 (fun k => (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15) k).1) k)) ∗ (arg11.view.loc (c : Thread nD τ) ↦[arg11.view.set]{fullShare} (at0 f11 (fun k => (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15) k).2.1) k)) ∗ (arg12.view.loc (c : Thread nD τ) ↦[arg12.view.set]{fullShare} (at0 f12 (fun k => (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15) k).2.2.1) k)) ∗ (arg13.view.loc (c : Thread nD τ) ↦[arg13.view.set]{fullShare} (at0 f13 (fun k => (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15) k).2.2.2.1) k)) ∗ (arg14.view.loc (c : Thread nD τ) ↦[arg14.view.set]{fullShare} (at0 f14 (fun k => (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15) k).2.2.2.2.1) k)) ∗ (arg15.view.loc (c : Thread nD τ) ↦[arg15.view.set]{fullShare} (at0 f15 (fun k => (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15) k).2.2.2.2.2) k)))

@[sl_loop] noncomputable def loopInv_k0_t2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 where
  inv k _ := inv2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 f10 f11 f12 f13 f14 f15 k
  step k acc := by
    obtain ⟨⟩ := acc
    dsimp only [inv2]
    repeat rw [at0_of]
    rw [st2_succ]
    unfold next2
    dsimp only
    · exact (run2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 _ _ _ _ _ _).2.2.2.2.2.2
    all_goals rfl

/-- What the six buffers hold after the last trip. -/
@[irreducible] noncomputable def fin2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) (s₀ : St2 (F := F) c arg10 arg11 arg12 arg13 arg14 arg15) : St2 (F := F) c arg10 arg11 arg12 arg13 arg14 arg15 :=
  st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s₀ k0_t2_loop.trips

@[instance_reducible] noncomputable instance loopExit_k0_t2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    LoopExit (loopInv_k0_t2 (F := F) c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 f10 f11 f12 f13 f14 f15) where
  post _ := iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).1) ∗ (arg11.view.loc (c : Thread nD τ) ↦[arg11.view.set]{fullShare} (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.1) ∗ (arg12.view.loc (c : Thread nD τ) ↦[arg12.view.set]{fullShare} (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.1) ∗ (arg13.view.loc (c : Thread nD τ) ↦[arg13.view.set]{fullShare} (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.2.1) ∗ (arg14.view.loc (c : Thread nD τ) ↦[arg14.view.set]{fullShare} (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.2.2.1) ∗ (arg15.view.loc (c : Thread nD τ) ↦[arg15.view.set]{fullShare} (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.2.2.2))
  exit acc := by
    unfold fin2
    dsimp only [loopInv_k0_t2, inv2]
    repeat rw [at0_of]
    · exact .rfl
    all_goals rfl

end Cert.KernelIdeal.Attn
-- ==== Proof.AttnRun.lean ====
module

public import proofs.«01_k».proof.Proof.Gen.KernelIdeal.Frame
public import proofs.«01_k».proof.Proof.AttnLoops
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- One trip but the last. -/
@[irreducible] noncomputable def run1A (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips) (h1 : k0_cond1 k = 1#1) (h2 : ¬ k0_cond2 k = 1#1)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    Σ' (g7 : Buf (Elt F) (arg7.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))),
    { g15 : Buf (Elt F) (arg15.view.loc (c : Thread nD τ)) //
      iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg8.view.loc (c : Thread nD τ) ↦[arg8.view.set]{fullShare} f8) ∗ (arg7.view.loc (c : Thread nD τ) ↦[arg7.view.set]{fullShare} f7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
        ⊢ wp (M := 𝕄) frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k ())
          (fun _ => iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg8.view.loc (c : Thread nD τ) ↦[arg8.view.set]{fullShare} f8) ∗ (arg7.view.loc (c : Thread nD τ) ↦[arg7.view.set]{fullShare} g7) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15))) } := by
  refine ⟨?_, ?_, ?_, ?_, ?_, ?_, ?_, ?_, ?run⟩
  case run =>
    unfold k0_t1_body
    iintro ⟨H2, H3, H6, H8, H7, H9, H10, H11, H12, H13, H14, H15⟩
    sl_exec_parts
    sl_step
    sl_close

/-- The last trip. -/
@[irreducible] noncomputable def run1B (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips) (h1 : ¬ k0_cond1 k = 1#1) (h2 : k0_cond2 k = 1#1)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    Σ' (g7 : Buf (Elt F) (arg7.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))),
    { g15 : Buf (Elt F) (arg15.view.loc (c : Thread nD τ)) //
      iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg8.view.loc (c : Thread nD τ) ↦[arg8.view.set]{fullShare} f8) ∗ (arg7.view.loc (c : Thread nD τ) ↦[arg7.view.set]{fullShare} f7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
        ⊢ wp (M := 𝕄) frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k ())
          (fun _ => iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg8.view.loc (c : Thread nD τ) ↦[arg8.view.set]{fullShare} f8) ∗ (arg7.view.loc (c : Thread nD τ) ↦[arg7.view.set]{fullShare} g7) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15))) } := by
  refine ⟨?_, ?_, ?_, ?_, ?_, ?_, ?_, ?_, ?run⟩
  case run =>
    unfold k0_t1_body
    iintro ⟨H2, H3, H6, H8, H7, H9, H10, H11, H12, H13, H14, H15⟩
    sl_exec_parts
    sl_step
    sl_close

theorem conds : ∀ k : Fin k0_t1_loop.trips, ¬ k0_cond2 k = 1#1 → k0_cond1 k = 1#1 := by decide +kernel
theorem conds' : ∀ k : Fin k0_t1_loop.trips, k0_cond2 k = 1#1 → ¬ k0_cond1 k = 1#1 := by decide +kernel

/-- The eight written buffers' contents. -/
abbrev St1 (c : Dev nD) (arg7 : Memref sig .tc .vmem S1x8192x128 .bf16) (arg9 : Memref sig .tc .vmem S2x2x1024x128 .bf16) (arg10 : Memref sig .tc .vmem S2x2x1x1024 .f32) (arg11 : Memref sig .tc .vmem S2x2x144x1024 .f32) (arg12 : Memref sig .tc .vmem S2x2x768x1024 .f32) (arg13 : Memref sig .tc .vmem S2x2x1x1024 .f32) (arg14 : Memref sig .tc .vmem S2x2x768x1024 .bf16) (arg15 : Memref sig .tc .vmem S2x2x1x1024 .f32) : Type := Buf (Elt F) (arg7.view.loc (c : Thread nD τ)) × Buf (Elt F) (arg9.view.loc (c : Thread nD τ)) × Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) × Buf (Elt F) (arg15.view.loc (c : Thread nD τ))

/-- What one trip makes of the eight written buffers. -/
@[irreducible] noncomputable def next1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (s : St1 (F := F) c arg7 arg9 arg10 arg11 arg12 arg13 arg14 arg15) : St1 (F := F) c arg7 arg9 arg10 arg11 arg12 arg13 arg14 arg15 :=
  if h : k0_cond2 k = 1#1 then
    let r := run1B c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k (conds' k h) h f2 f3 f6 f8 s.1 s.2.1 s.2.2.1 s.2.2.2.1 s.2.2.2.2.1 s.2.2.2.2.2.1 s.2.2.2.2.2.2.1 s.2.2.2.2.2.2.2
    (r.1, r.2.1, r.2.2.1, r.2.2.2.1, r.2.2.2.2.1, r.2.2.2.2.2.1, r.2.2.2.2.2.2.1, r.2.2.2.2.2.2.2.1)
  else
    let r := run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k (conds k h) h f2 f3 f6 f8 s.1 s.2.1 s.2.2.1 s.2.2.2.1 s.2.2.2.2.1 s.2.2.2.2.2.1 s.2.2.2.2.2.2.1 s.2.2.2.2.2.2.2
    (r.1, r.2.1, r.2.2.1, r.2.2.2.1, r.2.2.2.2.1, r.2.2.2.2.2.1, r.2.2.2.2.2.2.1, r.2.2.2.2.2.2.2.1)

/-- What the eight buffers hold before trip `k`, from what they held before the first. -/
noncomputable def st1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (s₀ : St1 (F := F) c arg7 arg9 arg10 arg11 arg12 arg13 arg14 arg15) (k : ℕ) : St1 (F := F) c arg7 arg9 arg10 arg11 arg12 arg13 arg14 arg15 :=
  Nat.rec (motive := fun _ => St1 (F := F) c arg7 arg9 arg10 arg11 arg12 arg13 arg14 arg15) s₀
    (fun k s => if h : k < k0_t1_loop.trips then next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 ⟨k, h⟩ f2 f3 f6 f8 s else s) k

theorem st1_succ (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (s₀ : St1 (F := F) c arg7 arg9 arg10 arg11 arg12 arg13 arg14 arg15) :
    st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s₀ (k.val + 1) =
      next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s₀ k.val) :=
  dif_pos k.isLt

/-- The outer loop's invariant: the read buffers as they were, the written ones at the state before trip `k`. -/
abbrev inv1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (k : ℕ) : sProp 𝕄 :=
  iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg8.view.loc (c : Thread nD τ) ↦[arg8.view.set]{fullShare} f8) ∗ (arg7.view.loc (c : Thread nD τ) ↦[arg7.view.set]{fullShare} (at0 f7 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).1) k)) ∗ (arg9.view.loc (c : Thread nD τ) ↦[arg9.view.set]{fullShare} (at0 f9 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.1) k)) ∗ (arg10.view.loc (c : Thread nD τ) ↦[arg10.view.set]{fullShare} (at0 f10 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.2.1) k)) ∗ (arg11.view.loc (c : Thread nD τ) ↦[arg11.view.set]{fullShare} (at0 f11 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.2.2.1) k)) ∗ (arg12.view.loc (c : Thread nD τ) ↦[arg12.view.set]{fullShare} (at0 f12 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.2.2.2.1) k)) ∗ (arg13.view.loc (c : Thread nD τ) ↦[arg13.view.set]{fullShare} (at0 f13 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.2.2.2.2.1) k)) ∗ (arg14.view.loc (c : Thread nD τ) ↦[arg14.view.set]{fullShare} (at0 f14 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.2.2.2.2.2.1) k)) ∗ (arg15.view.loc (c : Thread nD τ) ↦[arg15.view.set]{fullShare} (at0 f15 (fun k => (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) k).2.2.2.2.2.2.2) k)))

@[sl_loop] noncomputable def loopInv_k0_t1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 where
  inv k _ := inv1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 f7 f9 f10 f11 f12 f13 f14 f15 k
  step k acc := by
    obtain ⟨⟩ := acc
    dsimp only [inv1]
    repeat rw [at0_of]
    rw [st1_succ]
    unfold next1
    · by_cases h : k0_cond2 k = 1#1
      · rw [dif_pos h]
        dsimp only
        exact (run1B c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k (conds' k h) h f2 f3 f6 f8 _ _ _ _ _ _ _ _ ).2.2.2.2.2.2.2.2
      · rw [dif_neg h]
        dsimp only
        exact (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k (conds k h) h f2 f3 f6 f8 _ _ _ _ _ _ _ _ ).2.2.2.2.2.2.2.2
    all_goals rfl

/-- What the eight buffers hold after the last trip. -/
@[irreducible] noncomputable def fin1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (s₀ : St1 (F := F) c arg7 arg9 arg10 arg11 arg12 arg13 arg14 arg15) : St1 (F := F) c arg7 arg9 arg10 arg11 arg12 arg13 arg14 arg15 :=
  st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s₀ k0_t1_loop.trips

@[instance_reducible] noncomputable instance loopExit_k0_t1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    LoopExit (loopInv_k0_t1 (F := F) c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 f7 f9 f10 f11 f12 f13 f14 f15) where
  post _ := iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg8.view.loc (c : Thread nD τ) ↦[arg8.view.set]{fullShare} f8) ∗ (arg7.view.loc (c : Thread nD τ) ↦[arg7.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).1) ∗ (arg9.view.loc (c : Thread nD τ) ↦[arg9.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.1) ∗ (arg10.view.loc (c : Thread nD τ) ↦[arg10.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.2.1) ∗ (arg11.view.loc (c : Thread nD τ) ↦[arg11.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.2.2.1) ∗ (arg12.view.loc (c : Thread nD τ) ↦[arg12.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.2.2.2.1) ∗ (arg13.view.loc (c : Thread nD τ) ↦[arg13.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.2.2.2.2.1) ∗ (arg14.view.loc (c : Thread nD τ) ↦[arg14.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.2.2.2.2.2.1) ∗ (arg15.view.loc (c : Thread nD τ) ↦[arg15.view.set]{fullShare} (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).2.2.2.2.2.2.2))
  exit acc := by
    unfold fin1
    dsimp only [loopInv_k0_t1, inv1]
    repeat rw [at0_of]
    · exact .rfl
    all_goals rfl

/-- The whole body: what it leaves in the output's staging buffer and the scratch, from what it finds. -/
@[irreducible] noncomputable def run0 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    Σ' (g7 : Buf (Elt F) (arg7.view.loc (c : Thread nD τ))) (g8 : Buf (Elt F) (arg8.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))),
    { g15 : Buf (Elt F) (arg15.view.loc (c : Thread nD τ)) //
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
        ⊢ wp (M := 𝕄) frame (wpE (defs₀ (F := F)) 𝒱₀ (c : Thread nD τ) none) Set.univ (cc0_attn (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15))) } := by
  refine ⟨?_, ?_, ?_, ?_, ?_, ?_, ?_, ?_, ?_, ?run⟩
  case run =>
    rw [cc0_attn_eq_skeleton]
    unfold cc0_attn_skel
    iintro ⟨H2, H3, H4, H5, H6, H7, H8, H9, H10, H11, H12, H13, H14, H15⟩
    sl_exec_parts
    sl_step
    sl_close

end Cert.KernelIdeal.Attn
-- ==== Proof.AttnModel.lean ====
module

public import proofs.«01_k».proof.Proof.Gen.KernelIdeal.Frame
public import proofs.«01_k».proof.Proof.AttnRun
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-! ## Reading a slot of a buffer filled piece by piece -/

section Slots

variable {sig' : RefSig} {κ : Kind} {sp : Space} {s : Shape} {e : EltTy} {Val : EltTy → Type}

/-- A load through the last write's own rectangle reads that write. -/
theorem rd_same (v : View sig' κ sp s e) (f : v.ty.Contents Val) (r : Rect s) (w : r.shape.Idx → Val e)
    (L : List (View.Piece Val s e)) : v.readAt Val r.toLoadRect (v.writes Val f (⟨r, w⟩ :: L)) = w := by
  funext j
  exact View.read_writes_cons_emb v f r w L j

/-- Two boxes of literal offsets lie apart on some axis. -/
def apart {n : ℕ} (off size off' size' : Fin n → ℕ) : Bool :=
  (List.finRange n).any fun a => decide (off a + size a ≤ off' a) || decide (off' a + size' a ≤ off a)

/-- A load through a box apart from the last write's reads the earlier contents. -/
theorem rd_disj (v : View sig' κ sp s e) (f : v.ty.Contents Val) {off size off' size' : Fin s.rank → ℕ} (h h')
    (w : (Rect.unit (s := s) off size h).shape.Idx → Val e) (L : List (View.Piece Val s e))
    (ha : apart off size off' size' = true) :
    v.readAt Val (Rect.unit (s := s) off' size' h').toLoadRect (v.writes Val f (⟨Rect.unit (s := s) off size h, w⟩ :: L)) =
      v.readAt Val (Rect.unit (s := s) off' size' h').toLoadRect (v.writes Val f L) := by
  unfold apart at ha
  rw [List.any_eq_true] at ha
  obtain ⟨a, -, ha⟩ := ha
  rw [Bool.or_eq_true, decide_eq_true_eq, decide_eq_true_eq] at ha
  have hd := Rect.unit_disjoint (s := s) (inb := h) (inb' := h') a ha
  funext j
  rw [View.readAt_apply, View.readAt_apply, View.writes_cons]
  refine View.read_slice_write_of_not_mem _ _ _ _ ?_
  rw [Rect.map_emb_univ]
  exact Finset.disjoint_right.mp hd (LoadRect.idx_mem _ j)

theorem rd_nil (v : View sig' κ sp s e) (f : v.ty.Contents Val) (B : LoadRect s) :
    v.readAt Val B (v.writes Val f []) = v.readAt Val B f := rfl

theorem rd_cov [∀ e, Nonempty (Val e)] (v : View sig' κ sp s e) (L : List (View.Piece Val s e)) (B : LoadRect s) :
    v.readCov L B = v.readAt Val B (v.writes Val v.junk L) := rfl

end Slots

/-! ## The model: one query tile against the key chunks, one after the other -/

theorem kch_inb (c : ℕ) : ∀ a, (![0, 768 * (c % 11), 0] : Fin 3 → ℕ) a + S1x768x128.size a ≤ S1x8448x128.size a := by
  have := Nat.mod_lt c (show 0 < 11 by decide)
  intro a
  fin_cases a <;> simp [S1x768x128, S1x8448x128] <;> omega

/-- Key chunk `c` of the staged keys. -/
def kch (X : S1x8448x128.Idx → Elt F .bf16) (c : ℕ) : Vec F S1x768x128 .bf16 :=
  View.ld X (Rect.unit ![0, 768 * (c % 11), 0] S1x768x128.size (kch_inb c))

theorem vch_inb (c : ℕ) : ∀ a, (![0, 768 * (c % 11)] : Fin 2 → ℕ) a + S144x768.size a ≤ S144x8448.size a := by
  have := Nat.mod_lt c (show 0 < 11 by decide)
  intro a
  fin_cases a <;> simp [S144x768, S144x8448] <;> omega

/-- Value chunk `c` of the transposed values with their row of ones. -/
def vch (X : S144x8448.Idx → Elt F .bf16) (c : ℕ) : Vec F S144x768 .bf16 :=
  View.ld X (Rect.unit ![0, 768 * (c % 11)] S144x768.size (vch_inb c))

theorem qch_inb (t : ℕ) : ∀ a, (![0, 1024 * (t % 8), 0] : Fin 3 → ℕ) a + S1x1024x128.size a ≤ S1x8192x128.size a := by
  have := Nat.mod_lt t (show 0 < 8 by decide)
  intro a
  fin_cases a <;> simp [S1x1024x128, S1x8192x128] <;> omega

/-- The rows of query tile `t`. -/
def qch (X : S1x8192x128.Idx → Elt F .bf16) (t : ℕ) : Vec F S1x1024x128 .bf16 :=
  View.ld X (Rect.unit ![0, 1024 * (t % 8), 0] S1x1024x128.size (qch_inb t))

section Model

variable (K : ℕ → Vec F S1x768x128 .bf16) (V : ℕ → Vec F S144x768 .bf16) (Q : Vec F S1x1x1024x128 .bf16)

/-- The scores of chunk `c`. -/
def sM (c : ℕ) : Vec F S1x1x768x1024 .f32 := k0_pay48 (K c) Q
/-- Their maximum per query. -/
def cM (c : ℕ) : Vec F S1x1x1x1024 .f32 := k0_pay49 (K c) Q
/-- The running maximum after chunk `c`. -/
def mM (c : ℕ) : Vec F S1x1x1x1024 .f32 :=
  Nat.rec (motive := fun _ => Vec F S1x1x1x1024 .f32) (k0_pay124 (cM K Q 0)) (fun c m => k0_pay58 (cM K Q (c + 1)) m) c
/-- The factor chunk `c + 1` rescales the accumulator by. -/
def alM (c : ℕ) : Vec F S1x1x1x1024 .f32 := k0_pay56 (cM K Q (c + 1)) (mM K Q c)
/-- The weights of chunk `c`. -/
def pM (c : ℕ) : Vec F S1x1x768x1024 .bf16 :=
  Nat.casesOn (motive := fun _ => Vec F S1x1x768x1024 .bf16) c (k0_pay123 (cM K Q 0) (sM K Q 0))
    (fun c => k0_pay57 (cM K Q (c + 1)) (mM K Q c) (sM K Q (c + 1)))
/-- The accumulator after chunk `c`. -/
def accM (c : ℕ) : Vec F S1x1x144x1024 .f32 :=
  Nat.rec (motive := fun _ => Vec F S1x1x144x1024 .f32) (k0_pay241 (V 0) (pM K Q 0))
    (fun c a => k0_pay64 (V (c + 1)) (pM K Q (c + 1)) (alM K Q c) a) c

end Model

/-- What the scratch holds for one query tile (queries `Q0`, `Q1`) as chunk `n + 2` is due: its scores and their maxima
    stand in slot `par` (an even chunk's), the weights and factors of chunk `n + 1` in slot `so`, the maximum after
    chunk `n + 1` and the accumulator after chunk `n` in row `par`. -/
structure Facts (c : Dev nD) (arg9 : Memref sig .tc .vmem S2x2x1024x128 .bf16) (arg10 : Memref sig .tc .vmem S2x2x1x1024 .f32) (arg11 : Memref sig .tc .vmem S2x2x144x1024 .f32) (arg12 : Memref sig .tc .vmem S2x2x768x1024 .f32) (arg13 : Memref sig .tc .vmem S2x2x1x1024 .f32) (arg14 : Memref sig .tc .vmem S2x2x768x1024 .bf16) (arg15 : Memref sig .tc .vmem S2x2x1x1024 .f32) (par so : ℕ) (K : ℕ → Vec F S1x768x128 .bf16) (V : ℕ → Vec F S144x768 .bf16)
    (Q0 Q1 : Vec F S1x1x1024x128 .bf16) (n : ℕ)
    (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) : Prop where
  q0 : ∀ h, arg9.view.readAt (Elt F) (Rect.unit (s := S2x2x1024x128) ![par, 0, 0, 0] S1x1x1024x128.size h).toLoadRect f9 = Q0
  s0 : ∀ h, arg12.view.readAt (Elt F) (Rect.unit (s := S2x2x768x1024) ![par, 0, 0, 0] S1x1x768x1024.size h).toLoadRect f12 = sM K Q0 (n + 2)
  c0 : ∀ h, arg13.view.readAt (Elt F) (Rect.unit (s := S2x2x1x1024) ![par, 0, 0, 0] S1x1x1x1024.size h).toLoadRect f13 = cM K Q0 (n + 2)
  m0 : ∀ h, arg10.view.readAt (Elt F) (Rect.unit (s := S2x2x1x1024) ![par, 0, 0, 0] S1x1x1x1024.size h).toLoadRect f10 = mM K Q0 (n + 1)
  p0 : ∀ h, arg14.view.readAt (Elt F) (Rect.unit (s := S2x2x768x1024) ![so, 0, 0, 0] S1x1x768x1024.size h).toLoadRect f14 = pM K Q0 (n + 1)
  al0 : ∀ h, arg15.view.readAt (Elt F) (Rect.unit (s := S2x2x1x1024) ![so, 0, 0, 0] S1x1x1x1024.size h).toLoadRect f15 = alM K Q0 n
  acc0 : ∀ h, arg11.view.readAt (Elt F) (Rect.unit (s := S2x2x144x1024) ![par, 0, 0, 0] S1x1x144x1024.size h).toLoadRect f11 = accM K V Q0 n
  q1 : ∀ h, arg9.view.readAt (Elt F) (Rect.unit (s := S2x2x1024x128) ![par, 1, 0, 0] S1x1x1024x128.size h).toLoadRect f9 = Q1
  s1 : ∀ h, arg12.view.readAt (Elt F) (Rect.unit (s := S2x2x768x1024) ![par, 1, 0, 0] S1x1x768x1024.size h).toLoadRect f12 = sM K Q1 (n + 2)
  c1 : ∀ h, arg13.view.readAt (Elt F) (Rect.unit (s := S2x2x1x1024) ![par, 1, 0, 0] S1x1x1x1024.size h).toLoadRect f13 = cM K Q1 (n + 2)
  m1 : ∀ h, arg10.view.readAt (Elt F) (Rect.unit (s := S2x2x1x1024) ![par, 1, 0, 0] S1x1x1x1024.size h).toLoadRect f10 = mM K Q1 (n + 1)
  p1 : ∀ h, arg14.view.readAt (Elt F) (Rect.unit (s := S2x2x768x1024) ![so, 1, 0, 0] S1x1x768x1024.size h).toLoadRect f14 = pM K Q1 (n + 1)
  al1 : ∀ h, arg15.view.readAt (Elt F) (Rect.unit (s := S2x2x1x1024) ![so, 1, 0, 0] S1x1x1x1024.size h).toLoadRect f15 = alM K Q1 n
  acc1 : ∀ h, arg11.view.readAt (Elt F) (Rect.unit (s := S2x2x144x1024) ![par, 1, 0, 0] S1x1x144x1024.size h).toLoadRect f11 = accM K V Q1 n

section Reads

variable (c : Dev nD) (arg3 : Memref sig .tc .vmem S1x8448x128 .bf16) (arg8 : Memref sig .tc .vmem S144x8448 .bf16)
  (arg2 : Memref sig .tc .vmem S1x8192x128 .bf16)

theorem kch_eq (f : Buf (Elt F) (arg3.view.loc (c : Thread nD τ))) (n : ℕ) (hn : n < 11) {off : Fin 3 → ℕ} (hoff : off = ![0, 768 * n, 0]) (h) :
    arg3.view.readAt (Elt F) (Rect.unit (s := S1x8448x128) off S1x768x128.size h).toLoadRect f = kch (arg3.view.read (Elt F) f) n := by
  have e : off = ![0, 768 * (n % 11), 0] := by rw [hoff, Nat.mod_eq_of_lt hn]
  exact View.readAt_unit_eq_of_eq arg3.view h e f

theorem vch_eq (f : Buf (Elt F) (arg8.view.loc (c : Thread nD τ))) (n : ℕ) (hn : n < 11) {off : Fin 2 → ℕ} (hoff : off = ![0, 768 * n]) (h) :
    arg8.view.readAt (Elt F) (Rect.unit (s := S144x8448) off S144x768.size h).toLoadRect f = vch (arg8.view.read (Elt F) f) n := by
  have e : off = ![0, 768 * (n % 11)] := by rw [hoff, Nat.mod_eq_of_lt hn]
  exact View.readAt_unit_eq_of_eq arg8.view h e f

theorem qch_eq (f : Buf (Elt F) (arg2.view.loc (c : Thread nD τ))) (n : ℕ) (hn : n < 8) {off : Fin 3 → ℕ} (hoff : off = ![0, 1024 * n, 0]) (h) :
    arg2.view.readAt (Elt F) (Rect.unit (s := S1x8192x128) off S1x1024x128.size h).toLoadRect f = qch (arg2.view.read (Elt F) f) n := by
  have e : off = ![0, 1024 * (n % 8), 0] := by rw [hoff, Nat.mod_eq_of_lt hn]
  exact View.readAt_unit_eq_of_eq arg2.view h e f

end Reads

theorem off5_2 : ∀ k : Fin k0_t3_loop.trips, k0_off5 k 2#32 = ![0, 768 * (2 * k.val + 3), 0] := by decide +kernel
theorem off5_3 : ∀ k : Fin k0_t3_loop.trips, k0_off5 k 3#32 = ![0, 768 * (2 * k.val + 4), 0] := by decide +kernel
theorem off6_2 : ∀ k : Fin k0_t3_loop.trips, k0_off6 k 2#32 = ![0, 768 * (2 * k.val + 1)] := by decide +kernel
theorem off6_3 : ∀ k : Fin k0_t3_loop.trips, k0_off6 k 3#32 = ![0, 768 * (2 * k.val + 2)] := by decide +kernel
theorem off1_2 : ∀ k : Fin k0_t2_loop.trips, k0_off1 k 2#32 = ![0, 768 * (2 * k.val + 3), 0] := by decide +kernel
theorem off1_3 : ∀ k : Fin k0_t2_loop.trips, k0_off1 k 3#32 = ![0, 768 * (2 * k.val + 4), 0] := by decide +kernel
theorem off2_2 : ∀ k : Fin k0_t2_loop.trips, k0_off2 k 2#32 = ![0, 768 * (2 * k.val + 1)] := by decide +kernel
theorem off2_3 : ∀ k : Fin k0_t2_loop.trips, k0_off2 k 3#32 = ![0, 768 * (2 * k.val + 2)] := by decide +kernel

set_option maxHeartbeats 4000000 in
/-- Two chunks on. -/
theorem facts_next3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)  (k : Fin k0_t3_loop.trips)
    (f3 : Buf (Elt F) (arg3.view.loc (c : Thread nD τ))) (f8 : Buf (Elt F) (arg8.view.loc (c : Thread nD τ))) (f9 : Buf (Elt F) (arg9.view.loc (c : Thread nD τ))) {Q0 Q1 : Vec F S1x1x1024x128 .bf16} (s : St3 (F := F) c arg10 arg11 arg12 arg13 arg14 arg15)
    (H : Facts c arg9 arg10 arg11 arg12 arg13 arg14 arg15 1 0 (kch (arg3.view.read (Elt F) f3)) (vch (arg8.view.read (Elt F) f8)) Q0 Q1 (2 * k.val) f9 s.1 s.2.1 s.2.2.1 s.2.2.2.1 s.2.2.2.2.1 s.2.2.2.2.2) :
    Facts c arg9 arg10 arg11 arg12 arg13 arg14 arg15 1 0 (kch (arg3.view.read (Elt F) f3)) (vch (arg8.view.read (Elt F) f8)) Q0 Q1 (2 * (k.val + 1)) f9
      (next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s).1 (next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s).2.1 (next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s).2.2.1 (next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s).2.2.2.1 (next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s).2.2.2.2.1 (next3 c i arg2 harg2 arg3 harg3 arg4 harg4 arg5 harg5 arg6 harg6 arg7 harg7 arg8 harg8 arg9 harg9 arg10 harg10 arg11 harg11 arg12 harg12 arg13 harg13 arg14 harg14 arg15 harg15  k f3 f8 f9 s).2.2.2.2.2 := by
  have k2 := fun h => kch_eq c arg3 f3 _ (by have := k.isLt; change k.val < 4 at this; omega) (off5_2 k) h
  have k3 := fun h => kch_eq c arg3 f3 _ (by have := k.isLt; change k.val < 4 at this; omega) (off5_3 k) h
  have v2 := fun h => vch_eq c arg8 f8 _ (by have := k.isLt; change k.val < 4 at this; omega) (off6_2 k) h
  have v3 := fun h => vch_eq c arg8 f8 _ (by have := k.isLt; change k.val < 4 at this; omega) (off6_3 k) h
  obtain ⟨f10, f11, f12, f13, f14, f15⟩ := s
  dsimp only at H
  unfold next3 run3
  dsimp only
  constructor <;> intro hh <;>
    simp (disch := decide) only [rd_same, rd_disj, rd_nil, rd_cov, k2, k3, v2, v3,
      H.q0, H.s0, H.c0, H.m0, H.p0, H.al0, H.acc0, H.q1, H.s1, H.c1, H.m1, H.p1, H.al1, H.acc1,
      run3.sl.H10_1, run3.sl.H10_2, run3.sl.H10_3, run3.sl.H11_2, run3.sl.H11_3, run3.sl.H12_2, run3.sl.H12_4, run3.sl.H13_1, run3.sl.H13_2, run3.sl.H13_3, run3.sl.H13_4, run3.sl.H14_1, run3.sl.H14_2, run3.sl.H14_3, run3.sl.H14_4, run3.sl.H15_1, run3.sl.H15_2, run3.sl.H15_3, run3.sl.H15_4, run3.sl.r, run3.sl.r_1, run3.sl.r_2, run3.sl.r_3, run3.sl.r_4, run3.sl.r_5, run3.sl.v590, run3.sl.v600, run3.sl.v612, run3.sl.v614, run3.sl.v622, run3.sl.v639, run3.sl.v642, run3.sl.v652, run3.sl.v655, run3.sl.v657, run3.sl.v695, run3.sl.v697, run3.sl.v705, run3.sl.v717, run3.sl.v719, run3.sl.v727, run3.sl.v744, run3.sl.v747, run3.sl.v749, run3.sl.v757, run3.sl.v760, run3.sl.v762] <;>
    rfl

set_option maxHeartbeats 4000000 in
/-- Two chunks on. -/
theorem facts_next2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips) (k : Fin k0_t2_loop.trips)
    (f3 : Buf (Elt F) (arg3.view.loc (c : Thread nD τ))) (f8 : Buf (Elt F) (arg8.view.loc (c : Thread nD τ))) (f9 : Buf (Elt F) (arg9.view.loc (c : Thread nD τ))) {Q0 Q1 : Vec F S1x1x1024x128 .bf16} (s : St2 (F := F) c arg10 arg11 arg12 arg13 arg14 arg15)
    (H : Facts c arg9 arg10 arg11 arg12 arg13 arg14 arg15 0 1 (kch (arg3.view.read (Elt F) f3)) (vch (arg8.view.read (Elt F) f8)) Q0 Q1 (2 * k.val) f9 s.1 s.2.1 s.2.2.1 s.2.2.2.1 s.2.2.2.2.1 s.2.2.2.2.2) :
    Facts c arg9 arg10 arg11 arg12 arg13 arg14 arg15 0 1 (kch (arg3.view.read (Elt F) f3)) (vch (arg8.view.read (Elt F) f8)) Q0 Q1 (2 * (k.val + 1)) f9
      (next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s).1 (next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s).2.1 (next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s).2.2.1 (next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s).2.2.2.1 (next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s).2.2.2.2.1 (next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 k f3 f8 f9 s).2.2.2.2.2 := by
  have k2 := fun h => kch_eq c arg3 f3 _ (by have := k.isLt; change k.val < 4 at this; omega) (off1_2 k) h
  have k3 := fun h => kch_eq c arg3 f3 _ (by have := k.isLt; change k.val < 4 at this; omega) (off1_3 k) h
  have v2 := fun h => vch_eq c arg8 f8 _ (by have := k.isLt; change k.val < 4 at this; omega) (off2_2 k) h
  have v3 := fun h => vch_eq c arg8 f8 _ (by have := k.isLt; change k.val < 4 at this; omega) (off2_3 k) h
  obtain ⟨f10, f11, f12, f13, f14, f15⟩ := s
  dsimp only at H
  unfold next2 run2
  dsimp only
  constructor <;> intro hh <;>
    simp (disch := decide) only [rd_same, rd_disj, rd_nil, rd_cov, k2, k3, v2, v3,
      H.q0, H.s0, H.c0, H.m0, H.p0, H.al0, H.acc0, H.q1, H.s1, H.c1, H.m1, H.p1, H.al1, H.acc1,
      run2.sl.H10_1, run2.sl.H10_2, run2.sl.H10_3, run2.sl.H11_2, run2.sl.H11_3, run2.sl.H12_2, run2.sl.H12_4, run2.sl.H13_1, run2.sl.H13_2, run2.sl.H13_3, run2.sl.H13_4, run2.sl.H14_1, run2.sl.H14_2, run2.sl.H14_3, run2.sl.H14_4, run2.sl.H15_1, run2.sl.H15_2, run2.sl.H15_3, run2.sl.H15_4, run2.sl.r, run2.sl.r_1, run2.sl.r_2, run2.sl.r_3, run2.sl.r_4, run2.sl.r_5, run2.sl.v590, run2.sl.v600, run2.sl.v612, run2.sl.v614, run2.sl.v622, run2.sl.v639, run2.sl.v642, run2.sl.v652, run2.sl.v655, run2.sl.v657, run2.sl.v695, run2.sl.v697, run2.sl.v705, run2.sl.v717, run2.sl.v719, run2.sl.v727, run2.sl.v744, run2.sl.v747, run2.sl.v749, run2.sl.v757, run2.sl.v760, run2.sl.v762] <;>
    rfl

end Cert.KernelIdeal.Attn
-- ==== Proof.AttnTrip.lean ====
module

public import proofs.«01_k».proof.Proof.Gen.KernelIdeal.Frame
public import proofs.«01_k».proof.Proof.AttnModel
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- Before trip `k`, and after the last. -/
theorem facts_st3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) {Q0 Q1 : Vec F S1x1x1024x128 .bf16} (s : St3 (F := F) c arg10 arg11 arg12 arg13 arg14 arg15)
    (H : Facts c arg9 arg10 arg11 arg12 arg13 arg14 arg15 1 0 (kch (arg3.view.read (Elt F) f3)) (vch (arg8.view.read (Elt F) f8)) Q0 Q1 0 f9 s.1 s.2.1 s.2.2.1 s.2.2.2.1 s.2.2.2.2.1 s.2.2.2.2.2) (k : ℕ) (hk : k ≤ k0_t3_loop.trips) :
    Facts c arg9 arg10 arg11 arg12 arg13 arg14 arg15 1 0 (kch (arg3.view.read (Elt F) f3)) (vch (arg8.view.read (Elt F) f8)) Q0 Q1 (2 * k) f9
      (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s k).1 (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s k).2.1 (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s k).2.2.1 (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s k).2.2.2.1 (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s k).2.2.2.2.1 (st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s k).2.2.2.2.2 := by
  induction k with
  | zero => exact H
  | succ k ih =>
    have h := facts_next3 c i arg2 harg2 arg3 harg3 arg4 harg4 arg5 harg5 arg6 harg6 arg7 harg7 arg8 harg8 arg9 harg9 arg10 harg10 arg11 harg11 arg12 harg12 arg13 harg13 arg14 harg14 arg15 harg15  ⟨k, hk⟩ f3 f8 f9 _ (ih (Nat.le_of_succ_le hk))
    rw [← st3_succ] at h
    exact h

theorem facts_fin3 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) {Q0 Q1 : Vec F S1x1x1024x128 .bf16} (s : St3 (F := F) c arg10 arg11 arg12 arg13 arg14 arg15)
    (H : Facts c arg9 arg10 arg11 arg12 arg13 arg14 arg15 1 0 (kch (arg3.view.read (Elt F) f3)) (vch (arg8.view.read (Elt F) f8)) Q0 Q1 0 f9 s.1 s.2.1 s.2.2.1 s.2.2.2.1 s.2.2.2.2.1 s.2.2.2.2.2) :
    Facts c arg9 arg10 arg11 arg12 arg13 arg14 arg15 1 0 (kch (arg3.view.read (Elt F) f3)) (vch (arg8.view.read (Elt F) f8)) Q0 Q1 8 f9
      (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s).1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s).2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s).2.2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s).2.2.2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s).2.2.2.2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s).2.2.2.2.2 := by
  unfold fin3
  exact facts_st3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 s H k0_t3_loop.trips le_rfl

theorem facts_fin3_of (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) {Q0 Q1 : Vec F S1x1x1024x128 .bf16}
    (H : Facts c arg9 arg10 arg11 arg12 arg13 arg14 arg15 1 0 (kch (arg3.view.read (Elt F) f3)) (vch (arg8.view.read (Elt F) f8)) Q0 Q1 0 f9 f10 f11 f12 f13 f14 f15) :
    Facts c arg9 arg10 arg11 arg12 arg13 arg14 arg15 1 0 (kch (arg3.view.read (Elt F) f3)) (vch (arg8.view.read (Elt F) f8)) Q0 Q1 8 f9
      (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.2.2.1 (fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 (f10, f11, f12, f13, f14, f15)).2.2.2.2.2 :=
  facts_fin3 c i arg2 harg2 arg3 harg3 arg4 harg4 arg5 harg5 arg6 harg6 arg7 harg7 arg8 harg8 arg9 harg9 arg10 harg10 arg11 harg11 arg12 harg12 arg13 harg13 arg14 harg14 arg15 harg15  f3 f8 f9 _ H

/-- Before trip `k`, and after the last. -/
theorem facts_st2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) {Q0 Q1 : Vec F S1x1x1024x128 .bf16} (s : St2 (F := F) c arg10 arg11 arg12 arg13 arg14 arg15)
    (H : Facts c arg9 arg10 arg11 arg12 arg13 arg14 arg15 0 1 (kch (arg3.view.read (Elt F) f3)) (vch (arg8.view.read (Elt F) f8)) Q0 Q1 0 f9 s.1 s.2.1 s.2.2.1 s.2.2.2.1 s.2.2.2.2.1 s.2.2.2.2.2) (k : ℕ) (hk : k ≤ k0_t2_loop.trips) :
    Facts c arg9 arg10 arg11 arg12 arg13 arg14 arg15 0 1 (kch (arg3.view.read (Elt F) f3)) (vch (arg8.view.read (Elt F) f8)) Q0 Q1 (2 * k) f9
      (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s k).1 (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s k).2.1 (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s k).2.2.1 (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s k).2.2.2.1 (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s k).2.2.2.2.1 (st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s k).2.2.2.2.2 := by
  induction k with
  | zero => exact H
  | succ k ih =>
    have h := facts_next2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 ⟨k, hk⟩ f3 f8 f9 _ (ih (Nat.le_of_succ_le hk))
    rw [← st2_succ] at h
    exact h

theorem facts_fin2 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) {Q0 Q1 : Vec F S1x1x1024x128 .bf16} (s : St2 (F := F) c arg10 arg11 arg12 arg13 arg14 arg15)
    (H : Facts c arg9 arg10 arg11 arg12 arg13 arg14 arg15 0 1 (kch (arg3.view.read (Elt F) f3)) (vch (arg8.view.read (Elt F) f8)) Q0 Q1 0 f9 s.1 s.2.1 s.2.2.1 s.2.2.2.1 s.2.2.2.2.1 s.2.2.2.2.2) :
    Facts c arg9 arg10 arg11 arg12 arg13 arg14 arg15 0 1 (kch (arg3.view.read (Elt F) f3)) (vch (arg8.view.read (Elt F) f8)) Q0 Q1 8 f9
      (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s).1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s).2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s).2.2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s).2.2.2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s).2.2.2.2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s).2.2.2.2.2 := by
  unfold fin2
  exact facts_st2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 s H k0_t2_loop.trips le_rfl

theorem facts_fin2_of (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (c0_i32_214 : BitVec 32) (c1_i32 : BitVec 32) (k0_t1 : Fin k0_t1_loop.trips)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) {Q0 Q1 : Vec F S1x1x1024x128 .bf16}
    (H : Facts c arg9 arg10 arg11 arg12 arg13 arg14 arg15 0 1 (kch (arg3.view.read (Elt F) f3)) (vch (arg8.view.read (Elt F) f8)) Q0 Q1 0 f9 f10 f11 f12 f13 f14 f15) :
    Facts c arg9 arg10 arg11 arg12 arg13 arg14 arg15 0 1 (kch (arg3.view.read (Elt F) f3)) (vch (arg8.view.read (Elt F) f8)) Q0 Q1 8 f9
      (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.2.2.1 (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 (f10, f11, f12, f13, f14, f15)).2.2.2.2.2 :=
  facts_fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 c1_i32 k0_t1 f3 f8 f9 _ H

/-- The queries of tile `t` for the first map, -/
def qa (v15 : IVec S1x128 32) (X : S1x8192x128.Idx → Elt F .bf16) (t : ℕ) : Vec F S1x1x1024x128 .bf16 := k0_pay179 v15 (qch X t)
/-- and for the second. -/
def qb (v15 : IVec S1x128 32) (X : S1x8192x128.Idx → Elt F .bf16) (t : ℕ) : Vec F S1x1x1024x128 .bf16 := k0_pay180 v15 (qch X t)

/-- The rows of the output for query tile `t`. -/
def outM (K : ℕ → Vec F S1x768x128 .bf16) (V : ℕ → Vec F S144x768 .bf16) (v15 : IVec S1x128 32) (v31 : FVec F S1x1 .f32)
    (X : S1x8192x128.Idx → Elt F .bf16) (G : Vec F S1x128 .f32) (t : ℕ) : FVec F S1x1024x128 .bf16 :=
  k0_pay221 v31 (k0_pay220 (accM K V (qa v15 X t) 10)) (accM K V (qb v15 X t) 10) G

/-- The first `N` tiles of the output's block hold their rows. -/
def OutTo (c : Dev nD) (arg7 : Memref sig .tc .vmem S1x8192x128 .bf16) (O : ℕ → FVec F S1x1024x128 .bf16) (N : ℕ)
    (f7 : Buf (Elt F) (arg7.view.loc (c : Thread nD τ))) : Prop :=
  ∀ t < N, ∀ h, arg7.view.readAt (Elt F) (Rect.unit (s := S1x8192x128) ![0, 1024 * t, 0] S1x1024x128.size h).toLoadRect f7 = O t

theorem OutTo.step {c : Dev nD} {arg7 : Memref sig .tc .vmem S1x8192x128 .bf16} {O : ℕ → FVec F S1x1024x128 .bf16} {N : ℕ}
    {f7 : Buf (Elt F) (arg7.view.loc (c : Thread nD τ))} {L : List (View.Piece (Elt F) S1x8192x128 .bf16)}
    (H : OutTo c arg7 O N (arg7.view.writes (Elt F) f7 L)) {off : Fin 3 → ℕ} (hoff : off = ![0, 1024 * N, 0]) (h)
    {w : FVec F S1x1024x128 .bf16} (hw : w = O N) :
    OutTo c arg7 O (N + 1) (arg7.view.writes (Elt F) f7 (⟨Rect.unit (s := S1x8192x128) off S1x1024x128.size h, w⟩ :: L)) := by
  subst hoff hw
  intro t ht h'
  rcases Nat.lt_succ_iff_lt_or_eq.mp ht with hl | rfl
  · have ha : apart (![0, 1024 * N, 0] : Fin 3 → ℕ) S1x1024x128.size ![0, 1024 * t, 0] S1x1024x128.size = true := by
      unfold apart
      rw [List.any_eq_true]
      refine ⟨1, List.mem_finRange _, ?_⟩
      rw [Bool.or_eq_true, decide_eq_true_eq, decide_eq_true_eq]
      right
      show 1024 * t + 1024 ≤ 1024 * N
      omega
    exact (rd_disj _ _ _ _ _ _ ha).trans (H t hl h')
  · exact rd_same _ _ _ _ _

theorem off3_eq : ∀ k : Fin k0_t1_loop.trips, k0_off3 k = ![0, 1024 * (2 * k.val + 1), 0] := by decide +kernel
theorem off4_eq : ∀ k : Fin k0_t1_loop.trips, k0_off4 k = ![0, 1024 * (2 * k.val), 0] := by decide +kernel
theorem off7_eq : ∀ k : Fin k0_t1_loop.trips, k0_off7 k = ![0, 1024 * (2 * k.val + 2), 0] := by decide +kernel
theorem off8_eq : ∀ k : Fin k0_t1_loop.trips, k0_off8 k = ![0, 1024 * (2 * k.val + 1), 0] := by decide +kernel
theorem off9_eq : ∀ k : Fin k0_t1_loop.trips, k0_off9 k = ![0, 1024 * (2 * k.val + 1), 0] := by decide +kernel
theorem cond1_lt : ∀ k : Fin k0_t1_loop.trips, k0_cond1 k = 1#1 → k.val < 3 := by decide +kernel

theorem sM_eq (K : ℕ → Vec F S1x768x128 .bf16) (Q : Vec F S1x1x1024x128 .bf16) (n : ℕ) : sM K Q n = k0_pay48 (K n) Q := rfl
theorem cM_eq (K : ℕ → Vec F S1x768x128 .bf16) (Q : Vec F S1x1x1024x128 .bf16) (n : ℕ) : cM K Q n = k0_pay49 (K n) Q := rfl
theorem mM_z (K : ℕ → Vec F S1x768x128 .bf16) (Q : Vec F S1x1x1024x128 .bf16) : mM K Q 0 = k0_pay124 (cM K Q 0) := rfl
theorem mM_s (K : ℕ → Vec F S1x768x128 .bf16) (Q : Vec F S1x1x1024x128 .bf16) (n : ℕ) :
    mM K Q (n + 1) = k0_pay58 (cM K Q (n + 1)) (mM K Q n) := rfl
theorem alM_eq (K : ℕ → Vec F S1x768x128 .bf16) (Q : Vec F S1x1x1024x128 .bf16) (n : ℕ) :
    alM K Q n = k0_pay56 (cM K Q (n + 1)) (mM K Q n) := rfl
theorem pM_z (K : ℕ → Vec F S1x768x128 .bf16) (Q : Vec F S1x1x1024x128 .bf16) : pM K Q 0 = k0_pay123 (cM K Q 0) (sM K Q 0) := rfl
theorem pM_s (K : ℕ → Vec F S1x768x128 .bf16) (Q : Vec F S1x1x1024x128 .bf16) (n : ℕ) :
    pM K Q (n + 1) = k0_pay57 (cM K Q (n + 1)) (mM K Q n) (sM K Q (n + 1)) := rfl
theorem accM_z (K : ℕ → Vec F S1x768x128 .bf16) (V : ℕ → Vec F S144x768 .bf16) (Q : Vec F S1x1x1024x128 .bf16) :
    accM K V Q 0 = k0_pay241 (V 0) (pM K Q 0) := rfl
theorem accM_s (K : ℕ → Vec F S1x768x128 .bf16) (V : ℕ → Vec F S144x768 .bf16) (Q : Vec F S1x1x1024x128 .bf16) (n : ℕ) :
    accM K V Q (n + 1) = k0_pay64 (V (n + 1)) (pM K Q (n + 1)) (alM K Q n) (accM K V Q n) := rfl
theorem qa_eq (v15 : IVec S1x128 32) (X : S1x8192x128.Idx → Elt F .bf16) (t : ℕ) : qa v15 X t = k0_pay179 v15 (qch X t) := rfl
theorem qb_eq (v15 : IVec S1x128 32) (X : S1x8192x128.Idx → Elt F .bf16) (t : ℕ) : qb v15 X t = k0_pay180 v15 (qch X t) := rfl

attribute [local irreducible] sM cM mM alM pM accM qa qb

set_option maxHeartbeats 1000000 in
/-- What one trip does: two more tiles of the output, and the next tile's start. -/
theorem facts_run1A (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips) (h1 : k0_cond1 k = 1#1) (h2 : ¬ k0_cond2 k = 1#1)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ)))
    (H : Facts c arg9 arg10 arg11 arg12 arg13 arg14 arg15 0 1 (kch (arg3.view.read (Elt F) f3)) (vch (arg8.view.read (Elt F) f8)) (qa v15 (arg2.view.read (Elt F) f2) (2 * k.val)) (qb v15 (arg2.view.read (Elt F) f2) (2 * k.val)) 0 f9 f10 f11 f12 f13 f14 f15)
    (HO : OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k.val) f7) :
    OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k.val + 2) (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).1 ∧
    Facts c arg9 arg10 arg11 arg12 arg13 arg14 arg15 0 1 (kch (arg3.view.read (Elt F) f3)) (vch (arg8.view.read (Elt F) f8)) (qa v15 (arg2.view.read (Elt F) f2) (2 * k.val + 2)) (qb v15 (arg2.view.read (Elt F) f2) (2 * k.val + 2)) 0 (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.1
      (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.2.1 (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.2.2.1 (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.2.2.2.1 (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.2.2.2.2.1 (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.2.2.2.2.2.1 (run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).2.2.2.2.2.2.2.1 := by
  have c0 := fun h => kch_eq c arg3 f3 0 (by decide) (off := ![0, 0, 0]) (by decide) h
  have c1 := fun h => kch_eq c arg3 f3 1 (by decide) (off := ![0, 768, 0]) (by decide) h
  have c2 := fun h => kch_eq c arg3 f3 2 (by decide) (off := ![0, 1536, 0]) (by decide) h
  have v0 := fun h => vch_eq c arg8 f8 0 (by decide) (off := ![0, 0]) (by decide) h
  have v9 := fun h => vch_eq c arg8 f8 9 (by decide) (off := ![0, 6912]) (by decide) h
  have v10 := fun h => vch_eq c arg8 f8 10 (by decide) (off := ![0, 7680]) (by decide) h
  have q1 := fun h => qch_eq c arg2 f2 _ (by have := k.isLt; change k.val < 4 at this; omega) (off3_eq k) h
  have q2 := fun h => qch_eq c arg2 f2 _ (by have := cond1_lt k h1; omega) (off7_eq k) h
  have H2 := facts_fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 (1#32) k f3 f8 f9 (f10, f11, f12, f13, f14, f15) H
  have wv249 : run1A.sl.v249 c arg2 arg9 v15 k f2 = qa v15 (arg2.view.read (Elt F) f2) (2 * k.val + 1) := by
    unfold run1A.sl.v249 run1A.sl.H9_2
    simp (disch := decide) only [↓rd_cov, ↓rd_same, ↓rd_disj]
    simp only [q1, q2]
    exact Eq.trans (by rfl) (qa_eq _ _ _).symm
  have wv493 : run1A.sl.v493 c arg2 arg3 arg9 arg13 v15 k f2 f3 = cM (kch (arg3.view.read (Elt F) f3)) (qa v15 (arg2.view.read (Elt F) f2) (2 * k.val + 1)) 1 := by
    unfold run1A.sl.v493 run1A.sl.H13_6 run1A.sl.H13_4 run1A.sl.H13_2
    simp (disch := decide) only [↓rd_cov, ↓rd_same, ↓rd_disj]
    simp only [run1A.sl.r_7, wv249, c1]
    exact Eq.trans (by rfl) (cM_eq _ _ 1).symm
  have wv371 : run1A.sl.v371 c arg2 arg3 arg9 arg13 v15 k f2 f3 = cM (kch (arg3.view.read (Elt F) f3)) (qa v15 (arg2.view.read (Elt F) f2) (2 * k.val + 1)) 0 := by
    unfold run1A.sl.v371 run1A.sl.H13_4 run1A.sl.H13_2
    simp (disch := decide) only [↓rd_cov, ↓rd_same, ↓rd_disj]
    simp only [run1A.sl.r, wv249, c0]
    exact Eq.trans (by rfl) (cM_eq _ _ 0).symm
  have wv495 : run1A.sl.v495 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qa v15 (arg2.view.read (Elt F) f2) (2 * k.val + 1)) 0 := by
    unfold run1A.sl.v495 run1A.sl.H10_4 run1A.sl.H10_2 run1A.sl.H10_1
    simp (disch := decide) only [↓rd_cov, ↓rd_same, ↓rd_disj]
    simp only [run1A.sl.r_8, wv371]
    exact Eq.trans (by rfl) (mM_z _ _).symm
  have wv503 : run1A.sl.v503 c arg2 arg3 arg9 arg12 v15 k f2 f3 = sM (kch (arg3.view.read (Elt F) f3)) (qa v15 (arg2.view.read (Elt F) f2) (2 * k.val + 1)) 1 := by
    unfold run1A.sl.v503 run1A.sl.H12_6 run1A.sl.H12_4 run1A.sl.H12_2
    simp (disch := decide) only [↓rd_cov, ↓rd_same, ↓rd_disj]
    simp only [run1A.sl.r_7, wv249, c1]
    exact Eq.trans (by rfl) (sM_eq _ _ 1).symm
  have wv373 : run1A.sl.v373 c arg2 arg3 arg9 arg12 v15 k f2 f3 = sM (kch (arg3.view.read (Elt F) f3)) (qa v15 (arg2.view.read (Elt F) f2) (2 * k.val + 1)) 0 := by
    unfold run1A.sl.v373 run1A.sl.H12_4 run1A.sl.H12_2
    simp (disch := decide) only [↓rd_cov, ↓rd_same, ↓rd_disj]
    simp only [run1A.sl.r, wv249, c0]
    exact Eq.trans (by rfl) (sM_eq _ _ 0).symm
  have wv540 : run1A.sl.v540 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val + 1)) 0 := by
    unfold run1A.sl.v540 run1A.sl.H14_6 run1A.sl.H14_5 run1A.sl.H14_4 run1A.sl.H14_2 run1A.sl.H14_1
    simp (disch := decide) only [↓rd_cov, ↓rd_same, ↓rd_disj]
    simp only [run1A.sl.r_9, wv371, wv373]
    exact Eq.trans (by rfl) (pM_z _ _).symm
  have wv260 : run1A.sl.v260 c arg2 arg9 v15 k f2 = qb v15 (arg2.view.read (Elt F) f2) (2 * k.val + 1) := by
    unfold run1A.sl.v260 run1A.sl.H9_2
    simp (disch := decide) only [↓rd_cov, ↓rd_same, ↓rd_disj]
    simp only [q1, q2]
    exact Eq.trans (by rfl) (qb_eq _ _ _).symm
  have wv515 : run1A.sl.v515 c arg2 arg3 arg9 arg13 v15 k f2 f3 = cM (kch (arg3.view.read (Elt F) f3)) (qb v15 (arg2.view.read (Elt F) f2) (2 * k.val + 1)) 1 := by
    unfold run1A.sl.v515 run1A.sl.H13_6 run1A.sl.H13_4 run1A.sl.H13_2
    simp (disch := decide) only [↓rd_cov, ↓rd_same, ↓rd_disj]
    simp only [run1A.sl.r_6, wv260, c1]
    exact Eq.trans (by rfl) (cM_eq _ _ 1).symm
  have wv385 : run1A.sl.v385 c arg2 arg3 arg9 arg13 v15 k f2 f3 = cM (kch (arg3.view.read (Elt F) f3)) (qb v15 (arg2.view.read (Elt F) f2) (2 * k.val + 1)) 0 := by
    unfold run1A.sl.v385 run1A.sl.H13_4 run1A.sl.H13_2
    simp (disch := decide) only [↓rd_cov, ↓rd_same, ↓rd_disj]
    simp only [run1A.sl.r, wv260, c0]
    exact Eq.trans (by rfl) (cM_eq _ _ 0).symm
  have wv517 : run1A.sl.v517 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qb v15 (arg2.view.read (Elt F) f2) (2 * k.val + 1)) 0 := by
    unfold run1A.sl.v517 run1A.sl.H10_5 run1A.sl.H10_4 run1A.sl.H10_2 run1A.sl.H10_1
    simp (disch := decide) only [↓rd_cov, ↓rd_same, ↓rd_disj]
    simp only [wv385]
    exact Eq.trans (by rfl) (mM_z _ _).symm
  have wv525 : run1A.sl.v525 c arg2 arg3 arg9 arg12 v15 k f2 f3 = sM (kch (arg3.view.read (Elt F) f3)) (qb v15 (arg2.view.read (Elt F) f2) (2 * k.val + 1)) 1 := by
    unfold run1A.sl.v525 run1A.sl.H12_6 run1A.sl.H12_4 run1A.sl.H12_2
    simp (disch := decide) only [↓rd_cov, ↓rd_same, ↓rd_disj]
    simp only [run1A.sl.r_6, wv260, c1]
    exact Eq.trans (by rfl) (sM_eq _ _ 1).symm
  have wv387 : run1A.sl.v387 c arg2 arg3 arg9 arg12 v15 k f2 f3 = sM (kch (arg3.view.read (Elt F) f3)) (qb v15 (arg2.view.read (Elt F) f2) (2 * k.val + 1)) 0 := by
    unfold run1A.sl.v387 run1A.sl.H12_4 run1A.sl.H12_2
    simp (disch := decide) only [↓rd_cov, ↓rd_same, ↓rd_disj]
    simp only [run1A.sl.r, wv260, c0]
    exact Eq.trans (by rfl) (sM_eq _ _ 0).symm
  have wv546 : run1A.sl.v546 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val + 1)) 0 := by
    unfold run1A.sl.v546 run1A.sl.H14_6 run1A.sl.H14_5 run1A.sl.H14_4 run1A.sl.H14_2 run1A.sl.H14_1
    simp (disch := decide) only [↓rd_cov, ↓rd_same, ↓rd_disj]
    simp only [wv385, wv387]
    exact Eq.trans (by rfl) (pM_z _ _).symm
  have hs : Facts c arg9 arg10 arg11 arg12 arg13 arg14 arg15 1 0 (kch (arg3.view.read (Elt F) f3)) (vch (arg8.view.read (Elt F) f8)) (qa v15 (arg2.view.read (Elt F) f2) (2 * k.val + 1)) (qb v15 (arg2.view.read (Elt F) f2) (2 * k.val + 1)) 0
      (arg9.view.writes (Elt F) f9 (run1A.sl.H9_2 c arg2 v15 k f2))
      (arg10.view.writes (Elt F) arg10.view.junk (run1A.sl.H10_6 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15))
      (arg11.view.writes (Elt F) arg11.view.junk (run1A.sl.H11_6 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15))
      (arg12.view.writes (Elt F) arg12.view.junk (run1A.sl.H12_6 c arg2 arg3 arg9 v15 k f2 f3))
      (arg13.view.writes (Elt F) arg13.view.junk (run1A.sl.H13_6 c arg2 arg3 arg9 v15 k f2 f3))
      (arg14.view.writes (Elt F) arg14.view.junk (run1A.sl.H14_6 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15))
      (arg15.view.writes (Elt F) (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 (1#32) k f3 f8 f9 (f10, f11, f12, f13, f14, f15)).2.2.2.2.2 (⟨Rect.unit ![0, 1, 0, 0] S1x1x1x1024.size inb_S2x2x1x1024_S1x1x1x1024_0_1_0_0, k0_pay238 (run1A.sl.r_16 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15)⟩ :: run1A.sl.H15_3 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15)) := by
    constructor
    · intro hh
      unfold run1A.sl.H9_2
      simp (disch := decide) only [↓rd_same, ↓rd_disj]
      simp only [q1, q2]
      exact Eq.trans (by rfl) (qa_eq _ _ _).symm
    · intro hh
      unfold run1A.sl.H12_6 run1A.sl.H12_4 run1A.sl.H12_2
      simp (disch := decide) only [↓rd_same, ↓rd_disj]
      simp only [run1A.sl.r_13, wv249, c2]
      exact Eq.trans (by rfl) (sM_eq _ _ 2).symm
    · intro hh
      unfold run1A.sl.H13_6 run1A.sl.H13_4 run1A.sl.H13_2
      simp (disch := decide) only [↓rd_same, ↓rd_disj]
      simp only [run1A.sl.r_13, wv249, c2]
      exact Eq.trans (by rfl) (cM_eq _ _ 2).symm
    · intro hh
      unfold run1A.sl.H10_6 run1A.sl.H10_5 run1A.sl.H10_4 run1A.sl.H10_2 run1A.sl.H10_1
      simp (disch := decide) only [↓rd_same, ↓rd_disj]
      simp only [run1A.sl.r_14, wv493, wv495]
      exact Eq.trans (by rfl) (mM_s _ _ 0).symm
    · intro hh
      unfold run1A.sl.H14_6 run1A.sl.H14_5 run1A.sl.H14_4 run1A.sl.H14_2 run1A.sl.H14_1
      simp (disch := decide) only [↓rd_same, ↓rd_disj]
      simp only [run1A.sl.r_14, wv493, wv495, wv503]
      exact Eq.trans (by rfl) (pM_s _ _ 0).symm
    · intro hh
      unfold run1A.sl.H15_3 run1A.sl.H15_2 run1A.sl.H15_1
      simp (disch := decide) only [↓rd_same, ↓rd_disj]
      simp only [run1A.sl.r_14, wv493, wv495]
      exact Eq.trans (by rfl) (alM_eq _ _ 0).symm
    · intro hh
      unfold run1A.sl.H11_6 run1A.sl.H11_4 run1A.sl.H11_3 run1A.sl.H11_2
      simp (disch := decide) only [↓rd_same, ↓rd_disj]
      simp only [wv540, v0]
      exact Eq.trans (by rfl) (accM_z _ _ _).symm
    · intro hh
      unfold run1A.sl.H9_2
      simp (disch := decide) only [↓rd_same, ↓rd_disj]
      simp only [q1, q2]
      exact Eq.trans (by rfl) (qb_eq _ _ _).symm
    · intro hh
      unfold run1A.sl.H12_6 run1A.sl.H12_4 run1A.sl.H12_2
      simp (disch := decide) only [↓rd_same, ↓rd_disj]
      simp only [run1A.sl.r_13, wv260, c2]
      exact Eq.trans (by rfl) (sM_eq _ _ 2).symm
    · intro hh
      unfold run1A.sl.H13_6 run1A.sl.H13_4 run1A.sl.H13_2
      simp (disch := decide) only [↓rd_same, ↓rd_disj]
      simp only [run1A.sl.r_13, wv260, c2]
      exact Eq.trans (by rfl) (cM_eq _ _ 2).symm
    · intro hh
      unfold run1A.sl.H10_6 run1A.sl.H10_5 run1A.sl.H10_4 run1A.sl.H10_2 run1A.sl.H10_1
      simp (disch := decide) only [↓rd_same, ↓rd_disj]
      simp only [run1A.sl.r_15, wv515, wv517]
      exact Eq.trans (by rfl) (mM_s _ _ 0).symm
    · intro hh
      unfold run1A.sl.H14_6 run1A.sl.H14_5 run1A.sl.H14_4 run1A.sl.H14_2 run1A.sl.H14_1
      simp (disch := decide) only [↓rd_same, ↓rd_disj]
      simp only [run1A.sl.r_15, wv515, wv517, wv525]
      exact Eq.trans (by rfl) (pM_s _ _ 0).symm
    · intro hh
      unfold run1A.sl.H15_3 run1A.sl.H15_2 run1A.sl.H15_1
      simp (disch := decide) only [↓rd_same, ↓rd_disj]
      simp only [run1A.sl.r_16, wv515, wv517]
      exact Eq.trans (by rfl) (alM_eq _ _ 0).symm
    · intro hh
      unfold run1A.sl.H11_6 run1A.sl.H11_4 run1A.sl.H11_3 run1A.sl.H11_2
      simp (disch := decide) only [↓rd_same, ↓rd_disj]
      simp only [run1A.sl.r_17, wv546, v0]
      exact Eq.trans (by rfl) (accM_z _ _ _).symm
  have H3 := facts_fin3_of c i arg2 harg2 arg3 harg3 arg4 harg4 arg5 harg5 arg6 harg6 arg7 harg7 arg8 harg8 arg9 harg9 arg10 harg10 arg11 harg11 arg12 harg12 arg13 harg13 arg14 harg14 arg15 harg15 f3 f8 _ _ _ _ _ _ _ hs
  have wv271 : run1A.sl.v271 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = cM (kch (arg3.view.read (Elt F) f3)) (qa v15 (arg2.view.read (Elt F) f2) (2 * k.val)) 10 := by
    unfold run1A.sl.v271
    exact H2.c0 _
  have wv273 : run1A.sl.v273 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = mM (kch (arg3.view.read (Elt F) f3)) (qa v15 (arg2.view.read (Elt F) f2) (2 * k.val)) 9 := by
    unfold run1A.sl.v273
    exact H2.m0 _
  have wv281 : run1A.sl.v281 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = sM (kch (arg3.view.read (Elt F) f3)) (qa v15 (arg2.view.read (Elt F) f2) (2 * k.val)) 10 := by
    unfold run1A.sl.v281
    exact H2.s0 _
  have wv402 : run1A.sl.v402 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val)) 10 := by
    unfold run1A.sl.v402 run1A.sl.H14_4 run1A.sl.H14_2 run1A.sl.H14_1
    simp (disch := decide) only [↓rd_cov, ↓rd_same, ↓rd_disj]
    simp only [run1A.sl.r_1, wv271, wv273, wv281]
    exact Eq.trans (by rfl) (pM_s _ _ 9).symm
  have wv405 : run1A.sl.v405 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qa v15 (arg2.view.read (Elt F) f2) (2 * k.val)) 9 := by
    unfold run1A.sl.v405 run1A.sl.H15_2 run1A.sl.H15_1
    simp (disch := decide) only [↓rd_cov, ↓rd_same, ↓rd_disj]
    simp only [run1A.sl.r_1, wv271, wv273]
    exact Eq.trans (by rfl) (alM_eq _ _ 9).symm
  have wv318 : run1A.sl.v318 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = pM (kch (arg3.view.read (Elt F) f3)) (qa v15 (arg2.view.read (Elt F) f2) (2 * k.val)) 9 := by
    unfold run1A.sl.v318
    exact H2.p0 _
  have wv321 : run1A.sl.v321 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qa v15 (arg2.view.read (Elt F) f2) (2 * k.val)) 8 := by
    unfold run1A.sl.v321
    exact H2.al0 _
  have wv323 : run1A.sl.v323 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = accM (kch (arg3.view.read (Elt F) f3)) (vch (arg8.view.read (Elt F) f8)) (qa v15 (arg2.view.read (Elt F) f2) (2 * k.val)) 8 := by
    unfold run1A.sl.v323
    exact H2.acc0 _
  have wv407 : run1A.sl.v407 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = accM (kch (arg3.view.read (Elt F) f3)) (vch (arg8.view.read (Elt F) f8)) (qa v15 (arg2.view.read (Elt F) f2) (2 * k.val)) 9 := by
    unfold run1A.sl.v407 run1A.sl.H11_2
    simp (disch := decide) only [↓rd_cov, ↓rd_same, ↓rd_disj]
    simp only [run1A.sl.r_5, wv318, wv321, wv323, v9]
    exact Eq.trans (by rfl) (accM_s _ _ _ 8).symm
  have wv429 : run1A.sl.v429 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val)) 10 := by
    unfold run1A.sl.v429 run1A.sl.H11_4 run1A.sl.H11_3 run1A.sl.H11_2
    simp (disch := decide) only [↓rd_cov, ↓rd_same, ↓rd_disj]
    simp only [run1A.sl.r_11, wv402, wv405, wv407, v10]
    exact Eq.trans (by rfl) (accM_s _ _ _ 9).symm
  have wv293 : run1A.sl.v293 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = cM (kch (arg3.view.read (Elt F) f3)) (qb v15 (arg2.view.read (Elt F) f2) (2 * k.val)) 10 := by
    unfold run1A.sl.v293
    exact H2.c1 _
  have wv295 : run1A.sl.v295 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = mM (kch (arg3.view.read (Elt F) f3)) (qb v15 (arg2.view.read (Elt F) f2) (2 * k.val)) 9 := by
    unfold run1A.sl.v295
    exact H2.m1 _
  have wv303 : run1A.sl.v303 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = sM (kch (arg3.view.read (Elt F) f3)) (qb v15 (arg2.view.read (Elt F) f2) (2 * k.val)) 10 := by
    unfold run1A.sl.v303
    exact H2.s1 _
  have wv415 : run1A.sl.v415 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val)) 10 := by
    unfold run1A.sl.v415 run1A.sl.H14_4 run1A.sl.H14_2 run1A.sl.H14_1
    simp (disch := decide) only [↓rd_cov, ↓rd_same, ↓rd_disj]
    simp only [run1A.sl.r_2, wv293, wv295, wv303]
    exact Eq.trans (by rfl) (pM_s _ _ 9).symm
  have wv418 : run1A.sl.v418 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qb v15 (arg2.view.read (Elt F) f2) (2 * k.val)) 9 := by
    unfold run1A.sl.v418 run1A.sl.H15_2 run1A.sl.H15_1
    simp (disch := decide) only [↓rd_cov, ↓rd_same, ↓rd_disj]
    simp only [run1A.sl.r_3, wv293, wv295]
    exact Eq.trans (by rfl) (alM_eq _ _ 9).symm
  have wv331 : run1A.sl.v331 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = pM (kch (arg3.view.read (Elt F) f3)) (qb v15 (arg2.view.read (Elt F) f2) (2 * k.val)) 9 := by
    unfold run1A.sl.v331
    exact H2.p1 _
  have wv334 : run1A.sl.v334 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qb v15 (arg2.view.read (Elt F) f2) (2 * k.val)) 8 := by
    unfold run1A.sl.v334
    exact H2.al1 _
  have wv336 : run1A.sl.v336 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = accM (kch (arg3.view.read (Elt F) f3)) (vch (arg8.view.read (Elt F) f8)) (qb v15 (arg2.view.read (Elt F) f2) (2 * k.val)) 8 := by
    unfold run1A.sl.v336
    exact H2.acc1 _
  have wv420 : run1A.sl.v420 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val)) 9 := by
    unfold run1A.sl.v420 run1A.sl.H11_3 run1A.sl.H11_2
    simp (disch := decide) only [↓rd_cov, ↓rd_same, ↓rd_disj]
    simp only [run1A.sl.r_4, wv331, wv334, wv336, v9]
    exact Eq.trans (by rfl) (accM_s _ _ _ 8).symm
  have wv431 : run1A.sl.v431 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val)) 10 := by
    unfold run1A.sl.v431 run1A.sl.H11_4 run1A.sl.H11_3 run1A.sl.H11_2
    simp (disch := decide) only [↓rd_cov, ↓rd_same, ↓rd_disj]
    simp only [run1A.sl.r_10, wv415, wv418, wv420, v10]
    exact Eq.trans (by rfl) (accM_s _ _ _ 9).symm
  have wv609 : run1A.sl.v609 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = cM (kch (arg3.view.read (Elt F) f3)) (qa v15 (arg2.view.read (Elt F) f2) (2 * k.val + 1)) 10 := by
    unfold run1A.sl.v609
    exact H3.c0 _
  have wv611 : run1A.sl.v611 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qa v15 (arg2.view.read (Elt F) f2) (2 * k.val + 1)) 9 := by
    unfold run1A.sl.v611
    exact H3.m0 _
  have wv619 : run1A.sl.v619 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = sM (kch (arg3.view.read (Elt F) f3)) (qa v15 (arg2.view.read (Elt F) f2) (2 * k.val + 1)) 10 := by
    unfold run1A.sl.v619
    exact H3.s0 _
  have wv740 : run1A.sl.v740 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = pM (kch (arg3.view.read (Elt F) f3)) (qa v15 (arg2.view.read (Elt F) f2) (2 * k.val + 1)) 10 := by
    unfold run1A.sl.v740 run1A.sl.H14_4_1 run1A.sl.H14_3 run1A.sl.H14_2_1 run1A.sl.H14_1_1
    simp (disch := decide) only [↓rd_cov, ↓rd_same, ↓rd_disj]
    simp only [run1A.sl.r_20, wv609, wv611, wv619]
    exact Eq.trans (by rfl) (pM_s _ _ 9).symm
  have wv743 : run1A.sl.v743 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qa v15 (arg2.view.read (Elt F) f2) (2 * k.val + 1)) 9 := by
    unfold run1A.sl.v743 run1A.sl.H15_2_1
    simp (disch := decide) only [↓rd_cov, ↓rd_same, ↓rd_disj]
    simp only [run1A.sl.r_21, wv609, wv611]
    exact Eq.trans (by rfl) (alM_eq _ _ 9).symm
  have wv656 : run1A.sl.v656 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val + 1)) 9 := by
    unfold run1A.sl.v656
    exact H3.p0 _
  have wv659 : run1A.sl.v659 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qa v15 (arg2.view.read (Elt F) f2) (2 * k.val + 1)) 8 := by
    unfold run1A.sl.v659
    exact H3.al0 _
  have wv661 : run1A.sl.v661 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val + 1)) 8 := by
    unfold run1A.sl.v661
    exact H3.acc0 _
  have wv745 : run1A.sl.v745 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val + 1)) 9 := by
    unfold run1A.sl.v745 run1A.sl.H11_2_1 run1A.sl.H11_1
    simp (disch := decide) only [↓rd_cov, ↓rd_same, ↓rd_disj]
    simp only [wv656, wv659, wv661, v9]
    exact Eq.trans (by rfl) (accM_s _ _ _ 8).symm
  have wv767 : run1A.sl.v767 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = accM (kch (arg3.view.read (Elt F) f3)) (vch (arg8.view.read (Elt F) f8)) (qa v15 (arg2.view.read (Elt F) f2) (2 * k.val + 1)) 10 := by
    unfold run1A.sl.v767 run1A.sl.H11_4_1 run1A.sl.H11_3_1 run1A.sl.H11_2_1 run1A.sl.H11_1
    simp (disch := decide) only [↓rd_cov, ↓rd_same, ↓rd_disj]
    simp only [run1A.sl.r_30, run1A.sl.r_31, wv740, wv743, wv745, v10]
    exact Eq.trans (by rfl) (accM_s _ _ _ 9).symm
  have wv631 : run1A.sl.v631 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = cM (kch (arg3.view.read (Elt F) f3)) (qb v15 (arg2.view.read (Elt F) f2) (2 * k.val + 1)) 10 := by
    unfold run1A.sl.v631
    exact H3.c1 _
  have wv633 : run1A.sl.v633 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qb v15 (arg2.view.read (Elt F) f2) (2 * k.val + 1)) 9 := by
    unfold run1A.sl.v633
    exact H3.m1 _
  have wv641 : run1A.sl.v641 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = sM (kch (arg3.view.read (Elt F) f3)) (qb v15 (arg2.view.read (Elt F) f2) (2 * k.val + 1)) 10 := by
    unfold run1A.sl.v641
    exact H3.s1 _
  have wv753 : run1A.sl.v753 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = pM (kch (arg3.view.read (Elt F) f3)) (qb v15 (arg2.view.read (Elt F) f2) (2 * k.val + 1)) 10 := by
    unfold run1A.sl.v753 run1A.sl.H14_4_1 run1A.sl.H14_3 run1A.sl.H14_2_1 run1A.sl.H14_1_1
    simp (disch := decide) only [↓rd_cov, ↓rd_same, ↓rd_disj]
    simp only [run1A.sl.r_23, run1A.sl.r_24, wv631, wv633, wv641]
    exact Eq.trans (by rfl) (pM_s _ _ 9).symm
  have wv756 : run1A.sl.v756 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qb v15 (arg2.view.read (Elt F) f2) (2 * k.val + 1)) 9 := by
    unfold run1A.sl.v756 run1A.sl.H15_2_1
    simp (disch := decide) only [↓rd_cov, ↓rd_same, ↓rd_disj]
    simp only [wv631, wv633]
    exact Eq.trans (by rfl) (alM_eq _ _ 9).symm
  have wv669 : run1A.sl.v669 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val + 1)) 9 := by
    unfold run1A.sl.v669
    exact H3.p1 _
  have wv672 : run1A.sl.v672 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qb v15 (arg2.view.read (Elt F) f2) (2 * k.val + 1)) 8 := by
    unfold run1A.sl.v672
    exact H3.al1 _
  have wv674 : run1A.sl.v674 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val + 1)) 8 := by
    unfold run1A.sl.v674
    exact H3.acc1 _
  have wv758 : run1A.sl.v758 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = accM (kch (arg3.view.read (Elt F) f3)) (vch (arg8.view.read (Elt F) f8)) (qb v15 (arg2.view.read (Elt F) f2) (2 * k.val + 1)) 9 := by
    unfold run1A.sl.v758 run1A.sl.H11_3_1 run1A.sl.H11_2_1 run1A.sl.H11_1
    simp (disch := decide) only [↓rd_cov, ↓rd_same, ↓rd_disj]
    simp only [run1A.sl.r_25, wv669, wv672, wv674, v9]
    exact Eq.trans (by rfl) (accM_s _ _ _ 8).symm
  have wv769 : run1A.sl.v769 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = accM (kch (arg3.view.read (Elt F) f3)) (vch (arg8.view.read (Elt F) f8)) (qb v15 (arg2.view.read (Elt F) f2) (2 * k.val + 1)) 10 := by
    unfold run1A.sl.v769 run1A.sl.H11_4_1 run1A.sl.H11_3_1 run1A.sl.H11_2_1 run1A.sl.H11_1
    simp (disch := decide) only [↓rd_cov, ↓rd_same, ↓rd_disj]
    simp only [run1A.sl.r_29, wv753, wv756, wv758, v10]
    exact Eq.trans (by rfl) (accM_s _ _ _ 9).symm
  have wv587 : run1A.sl.v587 c arg2 arg9 v15 k h1 f2 = qa v15 (arg2.view.read (Elt F) f2) (2 * k.val + 2) := by
    unfold run1A.sl.v587 run1A.sl.H9_4 run1A.sl.H9_2
    simp (disch := decide) only [↓rd_cov, ↓rd_same, ↓rd_disj]
    simp only [q1, q2]
    exact Eq.trans (by rfl) (qa_eq _ _ _).symm
  have wv831 : run1A.sl.v831 c arg2 arg3 arg9 arg13 v15 k h1 f2 f3 = cM (kch (arg3.view.read (Elt F) f3)) (qa v15 (arg2.view.read (Elt F) f2) (2 * k.val + 2)) 1 := by
    unfold run1A.sl.v831 run1A.sl.H13_6_1 run1A.sl.H13_4_1 run1A.sl.H13_2_1
    simp (disch := decide) only [↓rd_cov, ↓rd_same, ↓rd_disj]
    simp only [run1A.sl.r_27, wv587, c1]
    exact Eq.trans (by rfl) (cM_eq _ _ 1).symm
  have wv709 : run1A.sl.v709 c arg2 arg3 arg9 arg13 v15 k h1 f2 f3 = cM (kch (arg3.view.read (Elt F) f3)) (qa v15 (arg2.view.read (Elt F) f2) (2 * k.val + 2)) 0 := by
    unfold run1A.sl.v709 run1A.sl.H13_4_1 run1A.sl.H13_2_1
    simp (disch := decide) only [↓rd_cov, ↓rd_same, ↓rd_disj]
    simp only [run1A.sl.r_19, wv587, c0]
    exact Eq.trans (by rfl) (cM_eq _ _ 0).symm
  have wv833 : run1A.sl.v833 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = mM (kch (arg3.view.read (Elt F) f3)) (qa v15 (arg2.view.read (Elt F) f2) (2 * k.val + 2)) 0 := by
    unfold run1A.sl.v833 run1A.sl.H10_4_1 run1A.sl.H10_2_1 run1A.sl.H10_1_1
    simp (disch := decide) only [↓rd_cov, ↓rd_same, ↓rd_disj]
    simp only [run1A.sl.r_28, wv709]
    exact Eq.trans (by rfl) (mM_z _ _).symm
  have wv841 : run1A.sl.v841 c arg2 arg3 arg9 arg12 v15 k h1 f2 f3 = sM (kch (arg3.view.read (Elt F) f3)) (qa v15 (arg2.view.read (Elt F) f2) (2 * k.val + 2)) 1 := by
    unfold run1A.sl.v841 run1A.sl.H12_6_1 run1A.sl.H12_4_1 run1A.sl.H12_3 run1A.sl.H12_2_1
    simp (disch := decide) only [↓rd_cov, ↓rd_same, ↓rd_disj]
    simp only [wv587, c1]
    exact Eq.trans (by rfl) (sM_eq _ _ 1).symm
  have wv711 : run1A.sl.v711 c arg2 arg3 arg9 arg12 v15 k h1 f2 f3 = sM (kch (arg3.view.read (Elt F) f3)) (qa v15 (arg2.view.read (Elt F) f2) (2 * k.val + 2)) 0 := by
    unfold run1A.sl.v711 run1A.sl.H12_4_1 run1A.sl.H12_3 run1A.sl.H12_2_1
    simp (disch := decide) only [↓rd_cov, ↓rd_same, ↓rd_disj]
    simp only [run1A.sl.r_19, wv587, c0]
    exact Eq.trans (by rfl) (sM_eq _ _ 0).symm
  have wv878 : run1A.sl.v878 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = pM (kch (arg3.view.read (Elt F) f3)) (qa v15 (arg2.view.read (Elt F) f2) (2 * k.val + 2)) 0 := by
    unfold run1A.sl.v878 run1A.sl.H14_6_1 run1A.sl.H14_4_1 run1A.sl.H14_3 run1A.sl.H14_2_1 run1A.sl.H14_1_1
    simp (disch := decide) only [↓rd_cov, ↓rd_same, ↓rd_disj]
    simp only [wv709, wv711]
    exact Eq.trans (by rfl) (pM_z _ _).symm
  have wv598 : run1A.sl.v598 c arg2 arg9 v15 k h1 f2 = qb v15 (arg2.view.read (Elt F) f2) (2 * k.val + 2) := by
    unfold run1A.sl.v598 run1A.sl.H9_4 run1A.sl.H9_2
    simp (disch := decide) only [↓rd_cov, ↓rd_same, ↓rd_disj]
    simp only [q1, q2]
    exact Eq.trans (by rfl) (qb_eq _ _ _).symm
  have wv853 : run1A.sl.v853 c arg2 arg3 arg9 arg13 v15 k h1 f2 f3 = cM (kch (arg3.view.read (Elt F) f3)) (qb v15 (arg2.view.read (Elt F) f2) (2 * k.val + 2)) 1 := by
    unfold run1A.sl.v853 run1A.sl.H13_6_1 run1A.sl.H13_4_1 run1A.sl.H13_2_1
    simp (disch := decide) only [↓rd_cov, ↓rd_same, ↓rd_disj]
    simp only [run1A.sl.r_26, wv598, c1]
    exact Eq.trans (by rfl) (cM_eq _ _ 1).symm
  have wv723 : run1A.sl.v723 c arg2 arg3 arg9 arg13 v15 k h1 f2 f3 = cM (kch (arg3.view.read (Elt F) f3)) (qb v15 (arg2.view.read (Elt F) f2) (2 * k.val + 2)) 0 := by
    unfold run1A.sl.v723 run1A.sl.H13_4_1 run1A.sl.H13_2_1
    simp (disch := decide) only [↓rd_cov, ↓rd_same, ↓rd_disj]
    simp only [run1A.sl.r_18, wv598, c0]
    exact Eq.trans (by rfl) (cM_eq _ _ 0).symm
  have wv855 : run1A.sl.v855 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = mM (kch (arg3.view.read (Elt F) f3)) (qb v15 (arg2.view.read (Elt F) f2) (2 * k.val + 2)) 0 := by
    unfold run1A.sl.v855 run1A.sl.H10_5_1 run1A.sl.H10_4_1 run1A.sl.H10_2_1 run1A.sl.H10_1_1
    simp (disch := decide) only [↓rd_cov, ↓rd_same, ↓rd_disj]
    simp only [wv723]
    exact Eq.trans (by rfl) (mM_z _ _).symm
  have wv863 : run1A.sl.v863 c arg2 arg3 arg9 arg12 v15 k h1 f2 f3 = sM (kch (arg3.view.read (Elt F) f3)) (qb v15 (arg2.view.read (Elt F) f2) (2 * k.val + 2)) 1 := by
    unfold run1A.sl.v863 run1A.sl.H12_6_1 run1A.sl.H12_4_1 run1A.sl.H12_3 run1A.sl.H12_2_1
    simp (disch := decide) only [↓rd_cov, ↓rd_same, ↓rd_disj]
    simp only [run1A.sl.r_26, wv598, c1]
    exact Eq.trans (by rfl) (sM_eq _ _ 1).symm
  have wv725 : run1A.sl.v725 c arg2 arg3 arg9 arg12 v15 k h1 f2 f3 = sM (kch (arg3.view.read (Elt F) f3)) (qb v15 (arg2.view.read (Elt F) f2) (2 * k.val + 2)) 0 := by
    unfold run1A.sl.v725 run1A.sl.H12_4_1 run1A.sl.H12_3 run1A.sl.H12_2_1
    simp (disch := decide) only [↓rd_cov, ↓rd_same, ↓rd_disj]
    simp only [run1A.sl.r_18, wv598, c0]
    exact Eq.trans (by rfl) (sM_eq _ _ 0).symm
  have wv884 : run1A.sl.v884 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k h1 f2 f3 f8 f9 f10 f11 f12 f13 f14 f15 = pM (kch (arg3.view.read (Elt F) f3)) (qb v15 (arg2.view.read (Elt F) f2) (2 * k.val + 2)) 0 := by
    unfold run1A.sl.v884 run1A.sl.H14_6_1 run1A.sl.H14_4_1 run1A.sl.H14_3 run1A.sl.H14_2_1 run1A.sl.H14_1_1
    simp (disch := decide) only [↓rd_cov, ↓rd_same, ↓rd_disj]
    simp only [wv723, wv725]
    exact Eq.trans (by rfl) (pM_z _ _).symm
  unfold run1A
  dsimp only
  refine ⟨?_, ?_⟩
  · unfold run1A.sl.H7_2 run1A.sl.H7_1
    refine OutTo.step (OutTo.step (L := []) HO (off4_eq k) _ ?_) (off8_eq k) _ ?_
    · simp only [run1A.sl.r_12, wv429, wv431]
      rfl
    · simp only [run1A.sl.r_32, run1A.sl.r_33, run1A.sl.r_34, wv767, wv769]
      rfl
  · constructor
    · intro hh
      unfold run1A.sl.H9_4 run1A.sl.H9_2
      simp (disch := decide) only [↓rd_same, ↓rd_disj]
      simp only [q1, q2]
      exact Eq.trans (by rfl) (qa_eq _ _ _).symm
    · intro hh
      unfold run1A.sl.H12_6_1 run1A.sl.H12_4_1 run1A.sl.H12_3 run1A.sl.H12_2_1
      simp (disch := decide) only [↓rd_same, ↓rd_disj]
      simp only [run1A.sl.r_37, wv587, c2]
      exact Eq.trans (by rfl) (sM_eq _ _ 2).symm
    · intro hh
      unfold run1A.sl.H13_6_1 run1A.sl.H13_4_1 run1A.sl.H13_2_1
      simp (disch := decide) only [↓rd_same, ↓rd_disj]
      simp only [run1A.sl.r_36, wv587, c2]
      exact Eq.trans (by rfl) (cM_eq _ _ 2).symm
    · intro hh
      unfold run1A.sl.H10_5_1 run1A.sl.H10_4_1 run1A.sl.H10_2_1 run1A.sl.H10_1_1
      simp (disch := decide) only [↓rd_same, ↓rd_disj]
      simp only [run1A.sl.r_38, wv831, wv833]
      exact Eq.trans (by rfl) (mM_s _ _ 0).symm
    · intro hh
      unfold run1A.sl.H14_6_1 run1A.sl.H14_4_1 run1A.sl.H14_3 run1A.sl.H14_2_1 run1A.sl.H14_1_1
      simp (disch := decide) only [↓rd_same, ↓rd_disj]
      simp only [run1A.sl.r_38, wv831, wv833, wv841]
      exact Eq.trans (by rfl) (pM_s _ _ 0).symm
    · intro hh
      unfold run1A.sl.H15_2_1
      simp (disch := decide) only [↓rd_same, ↓rd_disj]
      simp only [run1A.sl.r_39, wv831, wv833]
      exact Eq.trans (by rfl) (alM_eq _ _ 0).symm
    · intro hh
      unfold run1A.sl.H11_4_1 run1A.sl.H11_3_1 run1A.sl.H11_2_1 run1A.sl.H11_1
      simp (disch := decide) only [↓rd_same, ↓rd_disj]
      simp only [wv878, v0]
      exact Eq.trans (by rfl) (accM_z _ _ _).symm
    · intro hh
      unfold run1A.sl.H9_4 run1A.sl.H9_2
      simp (disch := decide) only [↓rd_same, ↓rd_disj]
      simp only [q1, q2]
      exact Eq.trans (by rfl) (qb_eq _ _ _).symm
    · intro hh
      unfold run1A.sl.H12_6_1 run1A.sl.H12_4_1 run1A.sl.H12_3 run1A.sl.H12_2_1
      simp (disch := decide) only [↓rd_same, ↓rd_disj]
      simp only [run1A.sl.r_35, wv598, c2]
      exact Eq.trans (by rfl) (sM_eq _ _ 2).symm
    · intro hh
      unfold run1A.sl.H13_6_1 run1A.sl.H13_4_1 run1A.sl.H13_2_1
      simp (disch := decide) only [↓rd_same, ↓rd_disj]
      simp only [run1A.sl.r_35, wv598, c2]
      exact Eq.trans (by rfl) (cM_eq _ _ 2).symm
    · intro hh
      unfold run1A.sl.H10_5_1 run1A.sl.H10_4_1 run1A.sl.H10_2_1 run1A.sl.H10_1_1
      simp (disch := decide) only [↓rd_same, ↓rd_disj]
      simp only [run1A.sl.r_40, wv853, wv855]
      exact Eq.trans (by rfl) (mM_s _ _ 0).symm
    · intro hh
      unfold run1A.sl.H14_6_1 run1A.sl.H14_4_1 run1A.sl.H14_3 run1A.sl.H14_2_1 run1A.sl.H14_1_1
      simp (disch := decide) only [↓rd_same, ↓rd_disj]
      simp only [run1A.sl.r_41, wv853, wv855, wv863]
      exact Eq.trans (by rfl) (pM_s _ _ 0).symm
    · intro hh
      unfold run1A.sl.H15_2_1
      simp (disch := decide) only [↓rd_same, ↓rd_disj]
      simp only [wv853, wv855]
      exact Eq.trans (by rfl) (alM_eq _ _ 0).symm
    · intro hh
      unfold run1A.sl.H11_4_1 run1A.sl.H11_3_1 run1A.sl.H11_2_1 run1A.sl.H11_1
      simp (disch := decide) only [↓rd_same, ↓rd_disj]
      simp only [run1A.sl.r_42, wv884, v0]
      exact Eq.trans (by rfl) (accM_z _ _ _).symm

set_option maxHeartbeats 1000000 in
/-- What one trip does: two more tiles of the output. -/
theorem facts_run1B (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips) (h1 : ¬ k0_cond1 k = 1#1) (h2 : k0_cond2 k = 1#1)
    (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ)))
    (H : Facts c arg9 arg10 arg11 arg12 arg13 arg14 arg15 0 1 (kch (arg3.view.read (Elt F) f3)) (vch (arg8.view.read (Elt F) f8)) (qa v15 (arg2.view.read (Elt F) f2) (2 * k.val)) (qb v15 (arg2.view.read (Elt F) f2) (2 * k.val)) 0 f9 f10 f11 f12 f13 f14 f15)
    (HO : OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k.val) f7) :
    OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k.val + 2) (run1B c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k h1 h2 f2 f3 f6 f8 f7 f9 f10 f11 f12 f13 f14 f15).1 := by
  have c0 := fun h => kch_eq c arg3 f3 0 (by decide) (off := ![0, 0, 0]) (by decide) h
  have c1 := fun h => kch_eq c arg3 f3 1 (by decide) (off := ![0, 768, 0]) (by decide) h
  have c2 := fun h => kch_eq c arg3 f3 2 (by decide) (off := ![0, 1536, 0]) (by decide) h
  have v0 := fun h => vch_eq c arg8 f8 0 (by decide) (off := ![0, 0]) (by decide) h
  have v9 := fun h => vch_eq c arg8 f8 9 (by decide) (off := ![0, 6912]) (by decide) h
  have v10 := fun h => vch_eq c arg8 f8 10 (by decide) (off := ![0, 7680]) (by decide) h
  have q1 := fun h => qch_eq c arg2 f2 _ (by have := k.isLt; change k.val < 4 at this; omega) (off3_eq k) h
  have H2 := facts_fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 (1#32) k f3 f8 f9 (f10, f11, f12, f13, f14, f15) H
  have wv249 : run1B.sl.v249 c arg2 arg9 v15 k f2 = qa v15 (arg2.view.read (Elt F) f2) (2 * k.val + 1) := by
    unfold run1B.sl.v249 run1B.sl.H9_2
    simp (disch := decide) only [↓rd_cov, ↓rd_same, ↓rd_disj]
    simp only [q1]
    exact Eq.trans (by rfl) (qa_eq _ _ _).symm
  have wv493 : run1B.sl.v493 c arg2 arg3 arg9 arg13 v15 k f2 f3 = cM (kch (arg3.view.read (Elt F) f3)) (qa v15 (arg2.view.read (Elt F) f2) (2 * k.val + 1)) 1 := by
    unfold run1B.sl.v493 run1B.sl.H13_6 run1B.sl.H13_4 run1B.sl.H13_2
    simp (disch := decide) only [↓rd_cov, ↓rd_same, ↓rd_disj]
    simp only [run1B.sl.r_7, wv249, c1]
    exact Eq.trans (by rfl) (cM_eq _ _ 1).symm
  have wv371 : run1B.sl.v371 c arg2 arg3 arg9 arg13 v15 k f2 f3 = cM (kch (arg3.view.read (Elt F) f3)) (qa v15 (arg2.view.read (Elt F) f2) (2 * k.val + 1)) 0 := by
    unfold run1B.sl.v371 run1B.sl.H13_4 run1B.sl.H13_2
    simp (disch := decide) only [↓rd_cov, ↓rd_same, ↓rd_disj]
    simp only [run1B.sl.r, wv249, c0]
    exact Eq.trans (by rfl) (cM_eq _ _ 0).symm
  have wv495 : run1B.sl.v495 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qa v15 (arg2.view.read (Elt F) f2) (2 * k.val + 1)) 0 := by
    unfold run1B.sl.v495 run1B.sl.H10_4 run1B.sl.H10_2 run1B.sl.H10_1
    simp (disch := decide) only [↓rd_cov, ↓rd_same, ↓rd_disj]
    simp only [run1B.sl.r_8, wv371]
    exact Eq.trans (by rfl) (mM_z _ _).symm
  have wv503 : run1B.sl.v503 c arg2 arg3 arg9 arg12 v15 k f2 f3 = sM (kch (arg3.view.read (Elt F) f3)) (qa v15 (arg2.view.read (Elt F) f2) (2 * k.val + 1)) 1 := by
    unfold run1B.sl.v503 run1B.sl.H12_6 run1B.sl.H12_4 run1B.sl.H12_2
    simp (disch := decide) only [↓rd_cov, ↓rd_same, ↓rd_disj]
    simp only [run1B.sl.r_7, wv249, c1]
    exact Eq.trans (by rfl) (sM_eq _ _ 1).symm
  have wv373 : run1B.sl.v373 c arg2 arg3 arg9 arg12 v15 k f2 f3 = sM (kch (arg3.view.read (Elt F) f3)) (qa v15 (arg2.view.read (Elt F) f2) (2 * k.val + 1)) 0 := by
    unfold run1B.sl.v373 run1B.sl.H12_4 run1B.sl.H12_2
    simp (disch := decide) only [↓rd_cov, ↓rd_same, ↓rd_disj]
    simp only [run1B.sl.r, wv249, c0]
    exact Eq.trans (by rfl) (sM_eq _ _ 0).symm
  have wv540 : run1B.sl.v540 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val + 1)) 0 := by
    unfold run1B.sl.v540 run1B.sl.H14_6 run1B.sl.H14_5 run1B.sl.H14_4 run1B.sl.H14_2 run1B.sl.H14_1
    simp (disch := decide) only [↓rd_cov, ↓rd_same, ↓rd_disj]
    simp only [run1B.sl.r_9, wv371, wv373]
    exact Eq.trans (by rfl) (pM_z _ _).symm
  have wv260 : run1B.sl.v260 c arg2 arg9 v15 k f2 = qb v15 (arg2.view.read (Elt F) f2) (2 * k.val + 1) := by
    unfold run1B.sl.v260 run1B.sl.H9_2
    simp (disch := decide) only [↓rd_cov, ↓rd_same, ↓rd_disj]
    simp only [q1]
    exact Eq.trans (by rfl) (qb_eq _ _ _).symm
  have wv515 : run1B.sl.v515 c arg2 arg3 arg9 arg13 v15 k f2 f3 = cM (kch (arg3.view.read (Elt F) f3)) (qb v15 (arg2.view.read (Elt F) f2) (2 * k.val + 1)) 1 := by
    unfold run1B.sl.v515 run1B.sl.H13_6 run1B.sl.H13_4 run1B.sl.H13_2
    simp (disch := decide) only [↓rd_cov, ↓rd_same, ↓rd_disj]
    simp only [run1B.sl.r_6, wv260, c1]
    exact Eq.trans (by rfl) (cM_eq _ _ 1).symm
  have wv385 : run1B.sl.v385 c arg2 arg3 arg9 arg13 v15 k f2 f3 = cM (kch (arg3.view.read (Elt F) f3)) (qb v15 (arg2.view.read (Elt F) f2) (2 * k.val + 1)) 0 := by
    unfold run1B.sl.v385 run1B.sl.H13_4 run1B.sl.H13_2
    simp (disch := decide) only [↓rd_cov, ↓rd_same, ↓rd_disj]
    simp only [run1B.sl.r, wv260, c0]
    exact Eq.trans (by rfl) (cM_eq _ _ 0).symm
  have wv517 : run1B.sl.v517 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qb v15 (arg2.view.read (Elt F) f2) (2 * k.val + 1)) 0 := by
    unfold run1B.sl.v517 run1B.sl.H10_5 run1B.sl.H10_4 run1B.sl.H10_2 run1B.sl.H10_1
    simp (disch := decide) only [↓rd_cov, ↓rd_same, ↓rd_disj]
    simp only [wv385]
    exact Eq.trans (by rfl) (mM_z _ _).symm
  have wv525 : run1B.sl.v525 c arg2 arg3 arg9 arg12 v15 k f2 f3 = sM (kch (arg3.view.read (Elt F) f3)) (qb v15 (arg2.view.read (Elt F) f2) (2 * k.val + 1)) 1 := by
    unfold run1B.sl.v525 run1B.sl.H12_6 run1B.sl.H12_4 run1B.sl.H12_2
    simp (disch := decide) only [↓rd_cov, ↓rd_same, ↓rd_disj]
    simp only [run1B.sl.r_6, wv260, c1]
    exact Eq.trans (by rfl) (sM_eq _ _ 1).symm
  have wv387 : run1B.sl.v387 c arg2 arg3 arg9 arg12 v15 k f2 f3 = sM (kch (arg3.view.read (Elt F) f3)) (qb v15 (arg2.view.read (Elt F) f2) (2 * k.val + 1)) 0 := by
    unfold run1B.sl.v387 run1B.sl.H12_4 run1B.sl.H12_2
    simp (disch := decide) only [↓rd_cov, ↓rd_same, ↓rd_disj]
    simp only [run1B.sl.r, wv260, c0]
    exact Eq.trans (by rfl) (sM_eq _ _ 0).symm
  have wv546 : run1B.sl.v546 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val + 1)) 0 := by
    unfold run1B.sl.v546 run1B.sl.H14_6 run1B.sl.H14_5 run1B.sl.H14_4 run1B.sl.H14_2 run1B.sl.H14_1
    simp (disch := decide) only [↓rd_cov, ↓rd_same, ↓rd_disj]
    simp only [wv385, wv387]
    exact Eq.trans (by rfl) (pM_z _ _).symm
  have hs : Facts c arg9 arg10 arg11 arg12 arg13 arg14 arg15 1 0 (kch (arg3.view.read (Elt F) f3)) (vch (arg8.view.read (Elt F) f8)) (qa v15 (arg2.view.read (Elt F) f2) (2 * k.val + 1)) (qb v15 (arg2.view.read (Elt F) f2) (2 * k.val + 1)) 0
      (arg9.view.writes (Elt F) f9 (run1B.sl.H9_2 c arg2 v15 k f2))
      (arg10.view.writes (Elt F) arg10.view.junk (run1B.sl.H10_6 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15))
      (arg11.view.writes (Elt F) arg11.view.junk (run1B.sl.H11_6 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15))
      (arg12.view.writes (Elt F) arg12.view.junk (run1B.sl.H12_6 c arg2 arg3 arg9 v15 k f2 f3))
      (arg13.view.writes (Elt F) arg13.view.junk (run1B.sl.H13_6 c arg2 arg3 arg9 v15 k f2 f3))
      (arg14.view.writes (Elt F) arg14.view.junk (run1B.sl.H14_6 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15))
      (arg15.view.writes (Elt F) (fin2 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 (1#32) k f3 f8 f9 (f10, f11, f12, f13, f14, f15)).2.2.2.2.2 (⟨Rect.unit ![0, 1, 0, 0] S1x1x1x1024.size inb_S2x2x1x1024_S1x1x1x1024_0_1_0_0, k0_pay238 (run1B.sl.r_16 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15)⟩ :: run1B.sl.H15_3 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15)) := by
    constructor
    · intro hh
      unfold run1B.sl.H9_2
      simp (disch := decide) only [↓rd_same, ↓rd_disj]
      simp only [q1]
      exact Eq.trans (by rfl) (qa_eq _ _ _).symm
    · intro hh
      unfold run1B.sl.H12_6 run1B.sl.H12_4 run1B.sl.H12_2
      simp (disch := decide) only [↓rd_same, ↓rd_disj]
      simp only [run1B.sl.r_13, wv249, c2]
      exact Eq.trans (by rfl) (sM_eq _ _ 2).symm
    · intro hh
      unfold run1B.sl.H13_6 run1B.sl.H13_4 run1B.sl.H13_2
      simp (disch := decide) only [↓rd_same, ↓rd_disj]
      simp only [run1B.sl.r_13, wv249, c2]
      exact Eq.trans (by rfl) (cM_eq _ _ 2).symm
    · intro hh
      unfold run1B.sl.H10_6 run1B.sl.H10_5 run1B.sl.H10_4 run1B.sl.H10_2 run1B.sl.H10_1
      simp (disch := decide) only [↓rd_same, ↓rd_disj]
      simp only [run1B.sl.r_14, wv493, wv495]
      exact Eq.trans (by rfl) (mM_s _ _ 0).symm
    · intro hh
      unfold run1B.sl.H14_6 run1B.sl.H14_5 run1B.sl.H14_4 run1B.sl.H14_2 run1B.sl.H14_1
      simp (disch := decide) only [↓rd_same, ↓rd_disj]
      simp only [run1B.sl.r_14, wv493, wv495, wv503]
      exact Eq.trans (by rfl) (pM_s _ _ 0).symm
    · intro hh
      unfold run1B.sl.H15_3 run1B.sl.H15_2 run1B.sl.H15_1
      simp (disch := decide) only [↓rd_same, ↓rd_disj]
      simp only [run1B.sl.r_14, wv493, wv495]
      exact Eq.trans (by rfl) (alM_eq _ _ 0).symm
    · intro hh
      unfold run1B.sl.H11_6 run1B.sl.H11_4 run1B.sl.H11_3 run1B.sl.H11_2
      simp (disch := decide) only [↓rd_same, ↓rd_disj]
      simp only [wv540, v0]
      exact Eq.trans (by rfl) (accM_z _ _ _).symm
    · intro hh
      unfold run1B.sl.H9_2
      simp (disch := decide) only [↓rd_same, ↓rd_disj]
      simp only [q1]
      exact Eq.trans (by rfl) (qb_eq _ _ _).symm
    · intro hh
      unfold run1B.sl.H12_6 run1B.sl.H12_4 run1B.sl.H12_2
      simp (disch := decide) only [↓rd_same, ↓rd_disj]
      simp only [run1B.sl.r_13, wv260, c2]
      exact Eq.trans (by rfl) (sM_eq _ _ 2).symm
    · intro hh
      unfold run1B.sl.H13_6 run1B.sl.H13_4 run1B.sl.H13_2
      simp (disch := decide) only [↓rd_same, ↓rd_disj]
      simp only [run1B.sl.r_13, wv260, c2]
      exact Eq.trans (by rfl) (cM_eq _ _ 2).symm
    · intro hh
      unfold run1B.sl.H10_6 run1B.sl.H10_5 run1B.sl.H10_4 run1B.sl.H10_2 run1B.sl.H10_1
      simp (disch := decide) only [↓rd_same, ↓rd_disj]
      simp only [run1B.sl.r_15, wv515, wv517]
      exact Eq.trans (by rfl) (mM_s _ _ 0).symm
    · intro hh
      unfold run1B.sl.H14_6 run1B.sl.H14_5 run1B.sl.H14_4 run1B.sl.H14_2 run1B.sl.H14_1
      simp (disch := decide) only [↓rd_same, ↓rd_disj]
      simp only [run1B.sl.r_15, wv515, wv517, wv525]
      exact Eq.trans (by rfl) (pM_s _ _ 0).symm
    · intro hh
      unfold run1B.sl.H15_3 run1B.sl.H15_2 run1B.sl.H15_1
      simp (disch := decide) only [↓rd_same, ↓rd_disj]
      simp only [run1B.sl.r_16, wv515, wv517]
      exact Eq.trans (by rfl) (alM_eq _ _ 0).symm
    · intro hh
      unfold run1B.sl.H11_6 run1B.sl.H11_4 run1B.sl.H11_3 run1B.sl.H11_2
      simp (disch := decide) only [↓rd_same, ↓rd_disj]
      simp only [run1B.sl.r_17, wv546, v0]
      exact Eq.trans (by rfl) (accM_z _ _ _).symm
  have H3 := facts_fin3_of c i arg2 harg2 arg3 harg3 arg4 harg4 arg5 harg5 arg6 harg6 arg7 harg7 arg8 harg8 arg9 harg9 arg10 harg10 arg11 harg11 arg12 harg12 arg13 harg13 arg14 harg14 arg15 harg15 f3 f8 _ _ _ _ _ _ _ hs
  have wv271 : run1B.sl.v271 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = cM (kch (arg3.view.read (Elt F) f3)) (qa v15 (arg2.view.read (Elt F) f2) (2 * k.val)) 10 := by
    unfold run1B.sl.v271
    exact H2.c0 _
  have wv273 : run1B.sl.v273 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = mM (kch (arg3.view.read (Elt F) f3)) (qa v15 (arg2.view.read (Elt F) f2) (2 * k.val)) 9 := by
    unfold run1B.sl.v273
    exact H2.m0 _
  have wv281 : run1B.sl.v281 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = sM (kch (arg3.view.read (Elt F) f3)) (qa v15 (arg2.view.read (Elt F) f2) (2 * k.val)) 10 := by
    unfold run1B.sl.v281
    exact H2.s0 _
  have wv402 : run1B.sl.v402 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val)) 10 := by
    unfold run1B.sl.v402 run1B.sl.H14_4 run1B.sl.H14_2 run1B.sl.H14_1
    simp (disch := decide) only [↓rd_cov, ↓rd_same, ↓rd_disj]
    simp only [run1B.sl.r_1, wv271, wv273, wv281]
    exact Eq.trans (by rfl) (pM_s _ _ 9).symm
  have wv405 : run1B.sl.v405 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qa v15 (arg2.view.read (Elt F) f2) (2 * k.val)) 9 := by
    unfold run1B.sl.v405 run1B.sl.H15_2 run1B.sl.H15_1
    simp (disch := decide) only [↓rd_cov, ↓rd_same, ↓rd_disj]
    simp only [run1B.sl.r_1, wv271, wv273]
    exact Eq.trans (by rfl) (alM_eq _ _ 9).symm
  have wv318 : run1B.sl.v318 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = pM (kch (arg3.view.read (Elt F) f3)) (qa v15 (arg2.view.read (Elt F) f2) (2 * k.val)) 9 := by
    unfold run1B.sl.v318
    exact H2.p0 _
  have wv321 : run1B.sl.v321 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qa v15 (arg2.view.read (Elt F) f2) (2 * k.val)) 8 := by
    unfold run1B.sl.v321
    exact H2.al0 _
  have wv323 : run1B.sl.v323 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = accM (kch (arg3.view.read (Elt F) f3)) (vch (arg8.view.read (Elt F) f8)) (qa v15 (arg2.view.read (Elt F) f2) (2 * k.val)) 8 := by
    unfold run1B.sl.v323
    exact H2.acc0 _
  have wv407 : run1B.sl.v407 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = accM (kch (arg3.view.read (Elt F) f3)) (vch (arg8.view.read (Elt F) f8)) (qa v15 (arg2.view.read (Elt F) f2) (2 * k.val)) 9 := by
    unfold run1B.sl.v407 run1B.sl.H11_2
    simp (disch := decide) only [↓rd_cov, ↓rd_same, ↓rd_disj]
    simp only [run1B.sl.r_5, wv318, wv321, wv323, v9]
    exact Eq.trans (by rfl) (accM_s _ _ _ 8).symm
  have wv429 : run1B.sl.v429 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val)) 10 := by
    unfold run1B.sl.v429 run1B.sl.H11_4 run1B.sl.H11_3 run1B.sl.H11_2
    simp (disch := decide) only [↓rd_cov, ↓rd_same, ↓rd_disj]
    simp only [run1B.sl.r_11, wv402, wv405, wv407, v10]
    exact Eq.trans (by rfl) (accM_s _ _ _ 9).symm
  have wv293 : run1B.sl.v293 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = cM (kch (arg3.view.read (Elt F) f3)) (qb v15 (arg2.view.read (Elt F) f2) (2 * k.val)) 10 := by
    unfold run1B.sl.v293
    exact H2.c1 _
  have wv295 : run1B.sl.v295 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = mM (kch (arg3.view.read (Elt F) f3)) (qb v15 (arg2.view.read (Elt F) f2) (2 * k.val)) 9 := by
    unfold run1B.sl.v295
    exact H2.m1 _
  have wv303 : run1B.sl.v303 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = sM (kch (arg3.view.read (Elt F) f3)) (qb v15 (arg2.view.read (Elt F) f2) (2 * k.val)) 10 := by
    unfold run1B.sl.v303
    exact H2.s1 _
  have wv415 : run1B.sl.v415 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val)) 10 := by
    unfold run1B.sl.v415 run1B.sl.H14_4 run1B.sl.H14_2 run1B.sl.H14_1
    simp (disch := decide) only [↓rd_cov, ↓rd_same, ↓rd_disj]
    simp only [run1B.sl.r_2, wv293, wv295, wv303]
    exact Eq.trans (by rfl) (pM_s _ _ 9).symm
  have wv418 : run1B.sl.v418 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qb v15 (arg2.view.read (Elt F) f2) (2 * k.val)) 9 := by
    unfold run1B.sl.v418 run1B.sl.H15_2 run1B.sl.H15_1
    simp (disch := decide) only [↓rd_cov, ↓rd_same, ↓rd_disj]
    simp only [run1B.sl.r_3, wv293, wv295]
    exact Eq.trans (by rfl) (alM_eq _ _ 9).symm
  have wv331 : run1B.sl.v331 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = pM (kch (arg3.view.read (Elt F) f3)) (qb v15 (arg2.view.read (Elt F) f2) (2 * k.val)) 9 := by
    unfold run1B.sl.v331
    exact H2.p1 _
  have wv334 : run1B.sl.v334 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = alM (kch (arg3.view.read (Elt F) f3)) (qb v15 (arg2.view.read (Elt F) f2) (2 * k.val)) 8 := by
    unfold run1B.sl.v334
    exact H2.al1 _
  have wv336 : run1B.sl.v336 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f3 f8 f9 f10 f11 f12 f13 f14 f15 = accM (kch (arg3.view.read (Elt F) f3)) (vch (arg8.view.read (Elt F) f8)) (qb v15 (arg2.view.read (Elt F) f2) (2 * k.val)) 8 := by
    unfold run1B.sl.v336
    exact H2.acc1 _
  have wv420 : run1B.sl.v420 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val)) 9 := by
    unfold run1B.sl.v420 run1B.sl.H11_3 run1B.sl.H11_2
    simp (disch := decide) only [↓rd_cov, ↓rd_same, ↓rd_disj]
    simp only [run1B.sl.r_4, wv331, wv334, wv336, v9]
    exact Eq.trans (by rfl) (accM_s _ _ _ 8).symm
  have wv431 : run1B.sl.v431 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val)) 10 := by
    unfold run1B.sl.v431 run1B.sl.H11_4 run1B.sl.H11_3 run1B.sl.H11_2
    simp (disch := decide) only [↓rd_cov, ↓rd_same, ↓rd_disj]
    simp only [run1B.sl.r_10, wv415, wv418, wv420, v10]
    exact Eq.trans (by rfl) (accM_s _ _ _ 9).symm
  have wv560 : run1B.sl.v560 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = cM (kch (arg3.view.read (Elt F) f3)) (qa v15 (arg2.view.read (Elt F) f2) (2 * k.val + 1)) 10 := by
    unfold run1B.sl.v560
    exact H3.c0 _
  have wv562 : run1B.sl.v562 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qa v15 (arg2.view.read (Elt F) f2) (2 * k.val + 1)) 9 := by
    unfold run1B.sl.v562
    exact H3.m0 _
  have wv570 : run1B.sl.v570 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = sM (kch (arg3.view.read (Elt F) f3)) (qa v15 (arg2.view.read (Elt F) f2) (2 * k.val + 1)) 10 := by
    unfold run1B.sl.v570
    exact H3.s0 _
  have wv636 : run1B.sl.v636 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val + 1)) 10 := by
    unfold run1B.sl.v636 run1B.sl.H14_2_1 run1B.sl.H14_1_1
    simp (disch := decide) only [↓rd_cov, ↓rd_same, ↓rd_disj]
    simp only [wv560, wv562, wv570]
    exact Eq.trans (by rfl) (pM_s _ _ 9).symm
  have wv639 : run1B.sl.v639 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qa v15 (arg2.view.read (Elt F) f2) (2 * k.val + 1)) 9 := by
    unfold run1B.sl.v639 run1B.sl.H15_2_1 run1B.sl.H15_1_1
    simp (disch := decide) only [↓rd_cov, ↓rd_same, ↓rd_disj]
    simp only [wv560, wv562]
    exact Eq.trans (by rfl) (alM_eq _ _ 9).symm
  have wv607 : run1B.sl.v607 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qa v15 (arg2.view.read (Elt F) f2) (2 * k.val + 1)) 9 := by
    unfold run1B.sl.v607
    exact H3.p0 _
  have wv610 : run1B.sl.v610 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qa v15 (arg2.view.read (Elt F) f2) (2 * k.val + 1)) 8 := by
    unfold run1B.sl.v610
    exact H3.al0 _
  have wv612 : run1B.sl.v612 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val + 1)) 8 := by
    unfold run1B.sl.v612
    exact H3.acc0 _
  have wv641 : run1B.sl.v641 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val + 1)) 9 := by
    unfold run1B.sl.v641 run1B.sl.H11_2_1
    simp (disch := decide) only [↓rd_cov, ↓rd_same, ↓rd_disj]
    simp only [run1B.sl.r_20, run1B.sl.r_21, wv607, wv610, wv612, v9]
    exact Eq.trans (by rfl) (accM_s _ _ _ 8).symm
  have wv662 : run1B.sl.v662 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qa v15 (arg2.view.read (Elt F) f2) (2 * k.val + 1)) 10 := by
    unfold run1B.sl.v662 run1B.sl.H11_4_1 run1B.sl.H11_3_1 run1B.sl.H11_2_1
    simp (disch := decide) only [↓rd_cov, ↓rd_same, ↓rd_disj]
    simp only [run1B.sl.r_23, wv636, wv639, wv641, v10]
    exact Eq.trans (by rfl) (accM_s _ _ _ 9).symm
  have wv582 : run1B.sl.v582 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = cM (kch (arg3.view.read (Elt F) f3)) (qb v15 (arg2.view.read (Elt F) f2) (2 * k.val + 1)) 10 := by
    unfold run1B.sl.v582
    exact H3.c1 _
  have wv584 : run1B.sl.v584 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = mM (kch (arg3.view.read (Elt F) f3)) (qb v15 (arg2.view.read (Elt F) f2) (2 * k.val + 1)) 9 := by
    unfold run1B.sl.v584
    exact H3.m1 _
  have wv592 : run1B.sl.v592 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = sM (kch (arg3.view.read (Elt F) f3)) (qb v15 (arg2.view.read (Elt F) f2) (2 * k.val + 1)) 10 := by
    unfold run1B.sl.v592
    exact H3.s1 _
  have wv649 : run1B.sl.v649 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val + 1)) 10 := by
    unfold run1B.sl.v649 run1B.sl.H14_2_1 run1B.sl.H14_1_1
    simp (disch := decide) only [↓rd_cov, ↓rd_same, ↓rd_disj]
    simp only [run1B.sl.r_18, wv582, wv584, wv592]
    exact Eq.trans (by rfl) (pM_s _ _ 9).symm
  have wv652 : run1B.sl.v652 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qb v15 (arg2.view.read (Elt F) f2) (2 * k.val + 1)) 9 := by
    unfold run1B.sl.v652 run1B.sl.H15_2_1 run1B.sl.H15_1_1
    simp (disch := decide) only [↓rd_cov, ↓rd_same, ↓rd_disj]
    simp only [run1B.sl.r_18, wv582, wv584]
    exact Eq.trans (by rfl) (alM_eq _ _ 9).symm
  have wv620 : run1B.sl.v620 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = pM (kch (arg3.view.read (Elt F) f3)) (qb v15 (arg2.view.read (Elt F) f2) (2 * k.val + 1)) 9 := by
    unfold run1B.sl.v620
    exact H3.p1 _
  have wv623 : run1B.sl.v623 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = alM (kch (arg3.view.read (Elt F) f3)) (qb v15 (arg2.view.read (Elt F) f2) (2 * k.val + 1)) 8 := by
    unfold run1B.sl.v623
    exact H3.al1 _
  have wv625 : run1B.sl.v625 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val + 1)) 8 := by
    unfold run1B.sl.v625
    exact H3.acc1 _
  have wv654 : run1B.sl.v654 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val + 1)) 9 := by
    unfold run1B.sl.v654 run1B.sl.H11_3_1 run1B.sl.H11_2_1
    simp (disch := decide) only [↓rd_cov, ↓rd_same, ↓rd_disj]
    simp only [run1B.sl.r_19, wv620, wv623, wv625, v9]
    exact Eq.trans (by rfl) (accM_s _ _ _ 8).symm
  have wv664 : run1B.sl.v664 c i arg2 harg2 arg3 harg3 arg4 harg4 arg5 harg5 arg6 harg6 arg7 harg7 arg8 harg8 arg9 harg9 arg10 harg10 arg11 harg11 arg12 harg12 arg13 harg13 arg14 harg14 arg15 harg15 v15 c0_i32_214 k f2 f3 f8 f9 f10 f11 f12 f13 f14 f15 = accM (kch (arg3.view.read (Elt F) f3)) (vch (arg8.view.read (Elt F) f8)) (qb v15 (arg2.view.read (Elt F) f2) (2 * k.val + 1)) 10 := by
    unfold run1B.sl.v664 run1B.sl.H11_4_1 run1B.sl.H11_3_1 run1B.sl.H11_2_1
    simp (disch := decide) only [↓rd_cov, ↓rd_same, ↓rd_disj]
    simp only [run1B.sl.r_22, wv649, wv652, wv654, v10]
    exact Eq.trans (by rfl) (accM_s _ _ _ 9).symm
  unfold run1B
  dsimp only
  unfold run1B.sl.H7_1
  refine OutTo.step (OutTo.step (L := []) HO (off4_eq k) _ ?_) (off9_eq k) _ ?_
  · simp only [run1B.sl.r_12, wv429, wv431]
    rfl
  · simp only [run1B.sl.r_24, wv662, wv664]
    rfl

end Cert.KernelIdeal.Attn
-- ==== Proof.AttnTiles.lean ====
module

public import proofs.«01_k».proof.Proof.Gen.KernelIdeal.Frame
public import proofs.«01_k».proof.Proof.AttnTrip
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

attribute [local irreducible] sM cM mM alM pM accM qa qb

theorem cond2_of : ∀ k : Fin k0_t1_loop.trips, k0_cond2 k = 1#1 → ¬ k.val + 1 < k0_t1_loop.trips := by decide +kernel

/-- What one trip of the outer loop does. -/
theorem facts_next1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (k : Fin k0_t1_loop.trips) (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (s : St1 (F := F) c arg7 arg9 arg10 arg11 arg12 arg13 arg14 arg15)
    (HO : OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k.val) s.1)
    (H : Facts c arg9 arg10 arg11 arg12 arg13 arg14 arg15 0 1 (kch (arg3.view.read (Elt F) f3)) (vch (arg8.view.read (Elt F) f8)) (qa v15 (arg2.view.read (Elt F) f2) (2 * k.val)) (qb v15 (arg2.view.read (Elt F) f2) (2 * k.val)) 0 s.2.1 s.2.2.1 s.2.2.2.1 s.2.2.2.2.1 s.2.2.2.2.2.1 s.2.2.2.2.2.2.1 s.2.2.2.2.2.2.2) :
    OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k.val + 2) (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).1 ∧ (k.val + 1 < k0_t1_loop.trips → Facts c arg9 arg10 arg11 arg12 arg13 arg14 arg15 0 1 (kch (arg3.view.read (Elt F) f3)) (vch (arg8.view.read (Elt F) f8)) (qa v15 (arg2.view.read (Elt F) f2) (2 * k.val + 2)) (qb v15 (arg2.view.read (Elt F) f2) (2 * k.val + 2)) 0 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.1 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.2.1 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.2.2.1 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.2.2.2.1 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.2.2.2.2.1 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.2.2.2.2.2.1 (next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k f2 f3 f6 f8 s).2.2.2.2.2.2.2) := by
  unfold next1
  by_cases h : k0_cond2 k = 1#1
  · rw [dif_pos h]
    dsimp only
    exact ⟨facts_run1B c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k (conds' k h) h f2 f3 f6 f8 _ _ _ _ _ _ _ _ H HO, fun hlt => absurd hlt (cond2_of k h)⟩
  · rw [dif_neg h]
    dsimp only
    have := facts_run1A c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 k (conds k h) h f2 f3 f6 f8 _ _ _ _ _ _ _ _ H HO
    exact ⟨this.1, fun _ => this.2⟩

/-- Before trip `k`, and after the last. -/
theorem facts_st1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (s : St1 (F := F) c arg7 arg9 arg10 arg11 arg12 arg13 arg14 arg15)
    (H : Facts c arg9 arg10 arg11 arg12 arg13 arg14 arg15 0 1 (kch (arg3.view.read (Elt F) f3)) (vch (arg8.view.read (Elt F) f8)) (qa v15 (arg2.view.read (Elt F) f2) (0)) (qb v15 (arg2.view.read (Elt F) f2) (0)) 0 s.2.1 s.2.2.1 s.2.2.2.1 s.2.2.2.2.1 s.2.2.2.2.2.1 s.2.2.2.2.2.2.1 s.2.2.2.2.2.2.2) (k : ℕ) (hk : k ≤ k0_t1_loop.trips) :
    OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) (2 * k) (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).1 ∧ (k < k0_t1_loop.trips → Facts c arg9 arg10 arg11 arg12 arg13 arg14 arg15 0 1 (kch (arg3.view.read (Elt F) f3)) (vch (arg8.view.read (Elt F) f8)) (qa v15 (arg2.view.read (Elt F) f2) (2 * k)) (qb v15 (arg2.view.read (Elt F) f2) (2 * k)) 0 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.1 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.2.1 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.2.2.1 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.2.2.2.1 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.2.2.2.2.1 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.2.2.2.2.2.1 (st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 s k).2.2.2.2.2.2.2) := by
  induction k with
  | zero => exact ⟨fun t ht => absurd ht (Nat.not_lt_zero t), fun _ => H⟩
  | succ k ih =>
    obtain ⟨h1, h2⟩ := ih (Nat.le_of_succ_le hk)
    have h := facts_next1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 ⟨k, hk⟩ f2 f3 f6 f8 _ h1 (h2 hk)
    rw [← st1_succ] at h
    exact h

/-- After the last trip all eight tiles stand in the output's block. -/
theorem facts_fin1 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (v15 : IVec S1x128 32) (v31 : FVec F S1x1 .f32) (c0_i32_214 : BitVec 32) (f2 : Buf (Elt F) (arg2.view.loc (c : Thread nD τ))) (f3 : Buf (Elt F) (arg3.view.loc (c : Thread nD τ))) (f6 : Buf (Elt F) (arg6.view.loc (c : Thread nD τ))) (f8 : Buf (Elt F) (arg8.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ)))
    (H : Facts c arg9 arg10 arg11 arg12 arg13 arg14 arg15 0 1 (kch (arg3.view.read (Elt F) f3)) (vch (arg8.view.read (Elt F) f8)) (qa v15 (arg2.view.read (Elt F) f2) (0)) (qb v15 (arg2.view.read (Elt F) f2) (0)) 0 f9 f10 f11 f12 f13 f14 f15) :
    OutTo c arg7 (outM (kch (arg3.view.read (Elt F) f3)) (vch (arg8.view.read (Elt F) f8)) v15 v31 (arg2.view.read (Elt F) f2) (arg6.view.readAt (Elt F) (Rect.unit (s := S1x128) ![0, 0] S1x128.size inb_S1x128_S1x128_0_0).toLoadRect f6)) 8 (fin1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15)).1 := by
  unfold fin1
  exact (facts_st1 c i arg2 harg2 arg3 harg3 arg4 harg4 arg5 harg5 arg6 harg6 arg7 harg7 arg8 harg8 arg9 harg9 arg10 harg10 arg11 harg11 arg12 harg12 arg13 harg13 arg14 harg14 arg15 harg15 v15 v31 c0_i32_214 f2 f3 f6 f8 (f7, f9, f10, f11, f12, f13, f14, f15) H k0_t1_loop.trips le_rfl).1

set_option maxHeartbeats 1000000 in
/-- All eight tiles of the output after the body, whatever the scratch held before. -/
theorem facts_run0 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    OutTo c arg7 (outM (kch (arg3.view.read (Elt F) f3)) (vch (arg8.view.read (Elt F) (arg8.view.writes (Elt F) arg8.view.junk (run0.sl.H8_2 c arg4 f4)))) run0.sl.v15 (run0.sl.r c arg5 f5) (arg2.view.read (Elt F) f2) (arg6.view.readAt (Elt F) (Rect.unit (s := S1x128) ![0, 0] S1x128.size inb_S1x128_S1x128_0_0).toLoadRect f6)) 8 (run0 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1 := by
  have c0 := fun h => kch_eq c arg3 f3 0 (by decide) (off := ![0, 0, 0]) (by decide) h
  have c1 := fun h => kch_eq c arg3 f3 1 (by decide) (off := ![0, 768, 0]) (by decide) h
  have c2 := fun h => kch_eq c arg3 f3 2 (by decide) (off := ![0, 1536, 0]) (by decide) h
  have q0 := fun h => qch_eq c arg2 f2 0 (by decide) (off := ![0, 0, 0]) (by decide) h
  have wv205 : run0.sl.v205 c arg4 arg8 f4 = vch (arg8.view.read (Elt F) (arg8.view.writes (Elt F) arg8.view.junk (run0.sl.H8_2 c arg4 f4))) 0 := by
    unfold run0.sl.v205
    rw [rd_cov]
    exact vch_eq c arg8 _ 0 (by decide) (by decide) _
  have wv57 : run0.sl.v57 c arg2 arg9 f2 = qa run0.sl.v15 (arg2.view.read (Elt F) f2) (0) := by
    unfold run0.sl.v57 run0.sl.H9_2
    simp (disch := decide) only [↓rd_cov, ↓rd_same, ↓rd_disj]
    simp only [run0.sl.r_1, q0]
    exact Eq.trans (by rfl) (qa_eq _ _ _).symm
  have wv159 : run0.sl.v159 c arg2 arg3 arg9 arg13 f2 f3 = cM (kch (arg3.view.read (Elt F) f3)) (qa run0.sl.v15 (arg2.view.read (Elt F) f2) (0)) 1 := by
    unfold run0.sl.v159 run0.sl.H13_6 run0.sl.H13_4 run0.sl.H13_2
    simp (disch := decide) only [↓rd_cov, ↓rd_same, ↓rd_disj]
    simp only [run0.sl.r_5, wv57, c1]
    exact Eq.trans (by rfl) (cM_eq _ _ 1).symm
  have wv105 : run0.sl.v105 c arg2 arg3 arg9 arg13 f2 f3 = cM (kch (arg3.view.read (Elt F) f3)) (qa run0.sl.v15 (arg2.view.read (Elt F) f2) (0)) 0 := by
    unfold run0.sl.v105 run0.sl.H13_4 run0.sl.H13_2
    simp (disch := decide) only [↓rd_cov, ↓rd_same, ↓rd_disj]
    simp only [run0.sl.r_3, wv57, c0]
    exact Eq.trans (by rfl) (cM_eq _ _ 0).symm
  have wv161 : run0.sl.v161 c arg2 arg3 arg9 arg10 arg13 f2 f3 = mM (kch (arg3.view.read (Elt F) f3)) (qa run0.sl.v15 (arg2.view.read (Elt F) f2) (0)) 0 := by
    unfold run0.sl.v161 run0.sl.H10_2
    simp (disch := decide) only [↓rd_cov, ↓rd_same, ↓rd_disj]
    simp only [run0.sl.r_6, wv105]
    exact Eq.trans (by rfl) (mM_z _ _).symm
  have wv169 : run0.sl.v169 c arg2 arg3 arg9 arg12 f2 f3 = sM (kch (arg3.view.read (Elt F) f3)) (qa run0.sl.v15 (arg2.view.read (Elt F) f2) (0)) 1 := by
    unfold run0.sl.v169 run0.sl.H12_6 run0.sl.H12_5 run0.sl.H12_4 run0.sl.H12_3 run0.sl.H12_1
    simp (disch := decide) only [↓rd_cov, ↓rd_same, ↓rd_disj]
    simp only [wv57, c1]
    exact Eq.trans (by rfl) (sM_eq _ _ 1).symm
  have wv107 : run0.sl.v107 c arg2 arg3 arg9 arg12 f2 f3 = sM (kch (arg3.view.read (Elt F) f3)) (qa run0.sl.v15 (arg2.view.read (Elt F) f2) (0)) 0 := by
    unfold run0.sl.v107 run0.sl.H12_4 run0.sl.H12_3 run0.sl.H12_1
    simp (disch := decide) only [↓rd_cov, ↓rd_same, ↓rd_disj]
    simp only [wv57, c0]
    exact Eq.trans (by rfl) (sM_eq _ _ 0).symm
  have wv206 : run0.sl.v206 c arg2 arg3 arg9 arg10 arg12 arg13 arg14 f2 f3 = pM (kch (arg3.view.read (Elt F) f3)) (qa run0.sl.v15 (arg2.view.read (Elt F) f2) (0)) 0 := by
    unfold run0.sl.v206 run0.sl.H14_4 run0.sl.H14_2 run0.sl.H14_1
    simp (disch := decide) only [↓rd_cov, ↓rd_same, ↓rd_disj]
    simp only [wv105, wv107]
    exact Eq.trans (by rfl) (pM_z _ _).symm
  have wv68 : run0.sl.v68 c arg2 arg9 f2 = qb run0.sl.v15 (arg2.view.read (Elt F) f2) (0) := by
    unfold run0.sl.v68 run0.sl.H9_2
    simp (disch := decide) only [↓rd_cov, ↓rd_same, ↓rd_disj]
    simp only [run0.sl.r_1, q0]
    exact Eq.trans (by rfl) (qb_eq _ _ _).symm
  have wv181 : run0.sl.v181 c arg2 arg3 arg9 arg13 f2 f3 = cM (kch (arg3.view.read (Elt F) f3)) (qb run0.sl.v15 (arg2.view.read (Elt F) f2) (0)) 1 := by
    unfold run0.sl.v181 run0.sl.H13_6 run0.sl.H13_4 run0.sl.H13_2
    simp (disch := decide) only [↓rd_cov, ↓rd_same, ↓rd_disj]
    simp only [run0.sl.r_4, wv68, c1]
    exact Eq.trans (by rfl) (cM_eq _ _ 1).symm
  have wv119 : run0.sl.v119 c arg2 arg3 arg9 arg13 f2 f3 = cM (kch (arg3.view.read (Elt F) f3)) (qb run0.sl.v15 (arg2.view.read (Elt F) f2) (0)) 0 := by
    unfold run0.sl.v119 run0.sl.H13_4 run0.sl.H13_2
    simp (disch := decide) only [↓rd_cov, ↓rd_same, ↓rd_disj]
    simp only [run0.sl.r_2, wv68, c0]
    exact Eq.trans (by rfl) (cM_eq _ _ 0).symm
  have wv183 : run0.sl.v183 c arg2 arg3 arg9 arg10 arg13 f2 f3 = mM (kch (arg3.view.read (Elt F) f3)) (qb run0.sl.v15 (arg2.view.read (Elt F) f2) (0)) 0 := by
    unfold run0.sl.v183 run0.sl.H10_3 run0.sl.H10_2
    simp (disch := decide) only [↓rd_cov, ↓rd_same, ↓rd_disj]
    simp only [wv119]
    exact Eq.trans (by rfl) (mM_z _ _).symm
  have wv191 : run0.sl.v191 c arg2 arg3 arg9 arg12 f2 f3 = sM (kch (arg3.view.read (Elt F) f3)) (qb run0.sl.v15 (arg2.view.read (Elt F) f2) (0)) 1 := by
    unfold run0.sl.v191 run0.sl.H12_6 run0.sl.H12_5 run0.sl.H12_4 run0.sl.H12_3 run0.sl.H12_1
    simp (disch := decide) only [↓rd_cov, ↓rd_same, ↓rd_disj]
    simp only [run0.sl.r_4, wv68, c1]
    exact Eq.trans (by rfl) (sM_eq _ _ 1).symm
  have wv121 : run0.sl.v121 c arg2 arg3 arg9 arg12 f2 f3 = sM (kch (arg3.view.read (Elt F) f3)) (qb run0.sl.v15 (arg2.view.read (Elt F) f2) (0)) 0 := by
    unfold run0.sl.v121 run0.sl.H12_4 run0.sl.H12_3 run0.sl.H12_1
    simp (disch := decide) only [↓rd_cov, ↓rd_same, ↓rd_disj]
    simp only [run0.sl.r_2, wv68, c0]
    exact Eq.trans (by rfl) (sM_eq _ _ 0).symm
  have wv212 : run0.sl.v212 c arg2 arg3 arg9 arg10 arg12 arg13 arg14 f2 f3 = pM (kch (arg3.view.read (Elt F) f3)) (qb run0.sl.v15 (arg2.view.read (Elt F) f2) (0)) 0 := by
    unfold run0.sl.v212 run0.sl.H14_4 run0.sl.H14_2 run0.sl.H14_1
    simp (disch := decide) only [↓rd_cov, ↓rd_same, ↓rd_disj]
    simp only [wv119, wv121]
    exact Eq.trans (by rfl) (pM_z _ _).symm
  have hs : Facts c arg9 arg10 arg11 arg12 arg13 arg14 arg15 0 1 (kch (arg3.view.read (Elt F) f3)) (vch (arg8.view.read (Elt F) (arg8.view.writes (Elt F) arg8.view.junk (run0.sl.H8_2 c arg4 f4)))) (qa run0.sl.v15 (arg2.view.read (Elt F) f2) 0) (qb run0.sl.v15 (arg2.view.read (Elt F) f2) 0) 0
      (arg9.view.writes (Elt F) f9 (run0.sl.H9_2 c arg2 f2))
      (arg10.view.writes (Elt F) f10 (⟨Rect.unit ![0, 1, 0, 0] S1x1x1x1024.size inb_S2x2x1x1024_S1x1x1x1024_0_1_0_0, k0_pay290 (run0.sl.r_10 c arg2 arg3 arg9 arg10 arg13 f2 f3)⟩ :: run0.sl.H10_3 c arg2 arg3 arg9 arg10 arg13 f2 f3))
      (arg11.view.writes (Elt F) f11 [⟨Rect.unit ![0, 1, 0, 0] S1x1x144x1024.size inb_S2x2x144x1024_S1x1x144x1024_0_1_0_0, k0_pay292 (run0.sl.v205 c arg4 arg8 f4) (run0.sl.v212 c arg2 arg3 arg9 arg10 arg12 arg13 arg14 f2 f3)⟩, ⟨Rect.unit ![0, 0, 0, 0] S1x1x144x1024.size inb_S2x2x144x1024_S1x1x144x1024_0_0_0_0, k0_pay291 (run0.sl.v205 c arg4 arg8 f4) (run0.sl.v206 c arg2 arg3 arg9 arg10 arg12 arg13 arg14 f2 f3)⟩])
      (arg12.view.writes (Elt F) arg12.view.junk (run0.sl.H12_6 c arg2 arg3 arg9 f2 f3))
      (arg13.view.writes (Elt F) arg13.view.junk (run0.sl.H13_6 c arg2 arg3 arg9 f2 f3))
      (arg14.view.writes (Elt F) arg14.view.junk (run0.sl.H14_4 c arg2 arg3 arg9 arg10 arg12 arg13 f2 f3))
      (arg15.view.writes (Elt F) f15 (⟨Rect.unit ![1, 1, 0, 0] S1x1x1x1024.size inb_S2x2x1x1024_S1x1x1x1024_1_1_0_0, k0_pay287 (run0.sl.v181 c arg2 arg3 arg9 arg13 f2 f3) (run0.sl.v183 c arg2 arg3 arg9 arg10 arg13 f2 f3)⟩ :: run0.sl.H15_1 c arg2 arg3 arg9 arg10 arg13 f2 f3)) := by
    constructor
    · intro hh
      unfold run0.sl.H9_2
      simp (disch := decide) only [↓rd_same, ↓rd_disj]
      simp only [run0.sl.r_1, q0]
      exact Eq.trans (by rfl) (qa_eq _ _ _).symm
    · intro hh
      unfold run0.sl.H12_6 run0.sl.H12_5 run0.sl.H12_4 run0.sl.H12_3 run0.sl.H12_1
      simp (disch := decide) only [↓rd_same, ↓rd_disj]
      simp only [wv57, c2]
      exact Eq.trans (by rfl) (sM_eq _ _ 2).symm
    · intro hh
      unfold run0.sl.H13_6 run0.sl.H13_4 run0.sl.H13_2
      simp (disch := decide) only [↓rd_same, ↓rd_disj]
      simp only [run0.sl.r_8, wv57, c2]
      exact Eq.trans (by rfl) (cM_eq _ _ 2).symm
    · intro hh
      unfold run0.sl.H10_3 run0.sl.H10_2
      simp (disch := decide) only [↓rd_same, ↓rd_disj]
      simp only [run0.sl.r_9, wv159, wv161]
      exact Eq.trans (by rfl) (mM_s _ _ 0).symm
    · intro hh
      unfold run0.sl.H14_4 run0.sl.H14_2 run0.sl.H14_1
      simp (disch := decide) only [↓rd_same, ↓rd_disj]
      simp only [run0.sl.r_9, wv159, wv161, wv169]
      exact Eq.trans (by rfl) (pM_s _ _ 0).symm
    · intro hh
      unfold run0.sl.H15_1
      simp (disch := decide) only [↓rd_same, ↓rd_disj]
      simp only [wv159, wv161]
      exact Eq.trans (by rfl) (alM_eq _ _ 0).symm
    · intro hh
      simp (disch := decide) only [↓rd_same, ↓rd_disj]
      simp only [wv205, wv206]
      exact Eq.trans (by rfl) (accM_z _ _ _).symm
    · intro hh
      unfold run0.sl.H9_2
      simp (disch := decide) only [↓rd_same, ↓rd_disj]
      simp only [run0.sl.r_1, q0]
      exact Eq.trans (by rfl) (qb_eq _ _ _).symm
    · intro hh
      unfold run0.sl.H12_6 run0.sl.H12_5 run0.sl.H12_4 run0.sl.H12_3 run0.sl.H12_1
      simp (disch := decide) only [↓rd_same, ↓rd_disj]
      simp only [run0.sl.r_7, wv68, c2]
      exact Eq.trans (by rfl) (sM_eq _ _ 2).symm
    · intro hh
      unfold run0.sl.H13_6 run0.sl.H13_4 run0.sl.H13_2
      simp (disch := decide) only [↓rd_same, ↓rd_disj]
      simp only [run0.sl.r_7, wv68, c2]
      exact Eq.trans (by rfl) (cM_eq _ _ 2).symm
    · intro hh
      unfold run0.sl.H10_3 run0.sl.H10_2
      simp (disch := decide) only [↓rd_same, ↓rd_disj]
      simp only [run0.sl.r_10, wv181, wv183]
      exact Eq.trans (by rfl) (mM_s _ _ 0).symm
    · intro hh
      unfold run0.sl.H14_4 run0.sl.H14_2 run0.sl.H14_1
      simp (disch := decide) only [↓rd_same, ↓rd_disj]
      simp only [run0.sl.r_11, wv181, wv183, wv191]
      exact Eq.trans (by rfl) (pM_s _ _ 0).symm
    · intro hh
      unfold run0.sl.H15_1
      simp (disch := decide) only [↓rd_same, ↓rd_disj]
      simp only [wv181, wv183]
      exact Eq.trans (by rfl) (alM_eq _ _ 0).symm
    · intro hh
      simp (disch := decide) only [↓rd_same, ↓rd_disj]
      simp only [wv205, wv212]
      exact Eq.trans (by rfl) (accM_z _ _ _).symm
  unfold run0
  dsimp only
  exact facts_fin1 c i arg2 harg2 arg3 harg3 arg4 harg4 arg5 harg5 arg6 harg6 arg7 harg7 arg8 harg8 arg9 harg9 arg10 harg10 arg11 harg11 arg12 harg12 arg13 harg13 arg14 harg14 arg15 harg15 run0.sl.v15 (run0.sl.r c arg5 f5) (0#32) f2 f3 f6 (arg8.view.writes (Elt F) arg8.view.junk (run0.sl.H8_2 c arg4 f4)) _ _ _ _ _ _ _ _ hs

end Cert.KernelIdeal.Attn
-- ==== Proof.AttnFrame.lean ====
module

public import proofs.«01_k».proof.Proof.Gen.KernelIdeal.Frame
public import proofs.«01_k».proof.Proof.AttnTiles
public import Idealize.ShloMosaic.Lib.Pipeline.ValueKit
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-! ## What the body leaves in the output's block, from the blocks alone -/

/-- The values with the row of ones and its zeros below. -/
def vaug (v : Vec F S1x128x8448 .bf16) : S144x8448.Idx → Elt F .bf16 :=
  View.canon [⟨Rect.unit (s := S144x8448) ![128, 0] S16x8448.size inb_S144x8448_S16x8448_128_0, k0_pay244⟩,
    ⟨Rect.unit (s := S144x8448) ![0, 0] S128x8448.size inb_S144x8448_S128x8448_0_0, k0_pay243 v⟩]

/-- The place of a row of the block within its tile. -/
def inTile (y : S1x8192x128.Idx) : S1x1024x128.Idx := fun a => ⟨(y a).val % S1x1024x128.size a, Nat.mod_lt _ (by
  revert a; decide)⟩

/-- The whole block: row `r` from tile `r / 1024`. -/
def outBlk (q : Vec F S1x8192x128 .bf16) (k : Vec F S1x8448x128 .bf16) (v : Vec F S1x128x8448 .bf16) (lam : Vec F S4x64 .f32) (g : Vec F S1x128 .f32) :
    Vec F S1x8192x128 .bf16 :=
  fun y => outM (kch k) (vch (vaug v)) run0.sl.v15 (k0_pay245 lam) q g ((y 1).val / 1024) (inTile y)

theorem inTile_idx (y : S1x8192x128.Idx) (h) :
    (Rect.unit (s := S1x8192x128) ![0, 1024 * ((y 1).val / 1024), 0] S1x1024x128.size h).toLoadRect.idx (inTile y) = y := by
  funext a
  apply Fin.ext
  have h0 := (y 0).isLt
  have h2 := (y 2).isLt
  change (y 0).val < 1 at h0
  change (y 2).val < 128 at h2
  have h1 := Nat.div_add_mod (y 1).val 1024
  fin_cases a
  · change 0 + 1 * ((y 0).val % 1) = (y 0).val; omega
  · change 1024 * ((y 1).val / 1024) + 1 * ((y 1).val % 1024) = (y 1).val; omega
  · change 0 + 1 * ((y 2).val % 128) = (y 2).val; omega

theorem tile_inb (y : S1x8192x128.Idx) : ∀ a, (![0, 1024 * ((y 1).val / 1024), 0] : Fin 3 → ℕ) a + S1x1024x128.size a ≤ S1x8192x128.size a := by
  have h1 := (y 1).isLt
  change (y 1).val < 8192 at h1
  intro a
  fin_cases a <;> simp [S1x1024x128, S1x8192x128] <;> omega

/-- Eight tiles are the block. -/
theorem read_of_OutTo (c : Dev nD) (arg7 : Memref sig .tc .vmem S1x8192x128 .bf16) (O : ℕ → FVec F S1x1024x128 .bf16) (f7 : Buf (Elt F) (arg7.view.loc (c : Thread nD τ)))
    (H : OutTo c arg7 O 8 f7) : arg7.view.read (Elt F) f7 = fun y => O ((y 1).val / 1024) (inTile y) := by
  funext y
  have h1 := (y 1).isLt
  change (y 1).val < 8192 at h1
  have h := congrFun (H ((y 1).val / 1024) (by omega) (tile_inb y)) (inTile y)
  rw [← h, View.readAt_apply, inTile_idx y]

theorem read_run0 (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    arg7.view.read (Elt F) (run0 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1
      = outBlk (arg2.view.read (Elt F) f2) (arg3.view.read (Elt F) f3) (arg4.view.read (Elt F) f4) (arg5.view.read (Elt F) f5) (arg6.view.read (Elt F) f6) := by
  rw [read_of_OutTo c arg7 _ _ (facts_run0 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15)]
  unfold outBlk vaug run0.sl.r run0.sl.H8_2
  rw [View.read_writes_junk_eq_canon]
  simp only [View.readAt_eq_ld]
  rw [View.ld_unit_lit inb_S1x128_S1x128_0_0 (arg6.view.read (Elt F) f6) (by decide),
    View.ld_unit_lit inb_S4x64_S4x64_0_0 (arg5.view.read (Elt F) f5) (by decide),
    View.ld_unit_lit inb_S1x128x8448_S1x128x8448_0_0_0 (arg4.view.read (Elt F) f4) (by decide)]

theorem weaken (c : Dev nD) (arg2 : Memref sig .tc .vmem S1x8192x128 .bf16) (arg3 : Memref sig .tc .vmem S1x8448x128 .bf16) (arg4 : Memref sig .tc .vmem S1x128x8448 .bf16) (arg5 : Memref sig .tc .vmem S4x64 .f32) (arg6 : Memref sig .tc .vmem S1x128 .f32) (arg7 : Memref sig .tc .vmem S1x8192x128 .bf16) (arg8 : Memref sig .tc .vmem S144x8448 .bf16) (arg9 : Memref sig .tc .vmem S2x2x1024x128 .bf16) (arg10 : Memref sig .tc .vmem S2x2x1x1024 .f32) (arg11 : Memref sig .tc .vmem S2x2x144x1024 .f32) (arg12 : Memref sig .tc .vmem S2x2x768x1024 .f32) (arg13 : Memref sig .tc .vmem S2x2x1x1024 .f32) (arg14 : Memref sig .tc .vmem S2x2x768x1024 .bf16) (arg15 : Memref sig .tc .vmem S2x2x1x1024 .f32) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (g7 : Buf (Elt F) (arg7.view.loc (c : Thread nD τ))) (g8 : Buf (Elt F) (arg8.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (O : Vec F S1x8192x128 .bf16) (hg : arg7.view.read (Elt F) g7 = O) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15)) : sProp 𝕄)
      ⊢ iprop((∃ f, ⌜arg2.view.read (Elt F) f = arg2.view.read (Elt F) f2⌝ ∗ (arg2.view.loc (c : Thread nD τ) ↦[arg2.view.set]{fullShare} f)) ∗ (∃ f, ⌜arg3.view.read (Elt F) f = arg3.view.read (Elt F) f3⌝ ∗ (arg3.view.loc (c : Thread nD τ) ↦[arg3.view.set]{fullShare} f)) ∗ (∃ f, ⌜arg4.view.read (Elt F) f = arg4.view.read (Elt F) f4⌝ ∗ (arg4.view.loc (c : Thread nD τ) ↦[arg4.view.set]{fullShare} f)) ∗ (∃ f, ⌜arg5.view.read (Elt F) f = arg5.view.read (Elt F) f5⌝ ∗ (arg5.view.loc (c : Thread nD τ) ↦[arg5.view.set]{fullShare} f)) ∗ (∃ f, ⌜arg6.view.read (Elt F) f = arg6.view.read (Elt F) f6⌝ ∗ (arg6.view.loc (c : Thread nD τ) ↦[arg6.view.set]{fullShare} f)) ∗ (∃ f, ⌜arg7.view.read (Elt F) f = O⌝ ∗ (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) := by
  iintro ⟨H2, H3, H4, H5, H6, H7, H8, H9, H10, H11, H12, H13, H14, H15⟩
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists g7; isplitr; · ipureintro; exact hg
    iexact H7
  isplitl [H8]; · iexists g8; iexact H8
  isplitl [H9]; · iexists g9; iexact H9
  isplitl [H10]; · iexists g10; iexact H10
  isplitl [H11]; · iexists g11; iexact H11
  isplitl [H12]; · iexists g12; iexact H12
  isplitl [H13]; · iexists g13; iexact H13
  isplitl [H14]; · iexists g14; iexact H14
  iexists g15; iexact H15

/-- The body on whole buffers: the inputs stay, the output's block is `outBlk` of them, and the scratch is left at something. -/
theorem sound_kernel (c : Dev nD) (i : grid0.Coords) (arg2 : Memref sig .tc .vmem S1x8192x128 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S144x8448 .bf16) (harg8 : arg8.IsWhole) (arg9 : Memref sig .tc .vmem S2x2x1024x128 .bf16) (harg9 : arg9.IsWhole) (arg10 : Memref sig .tc .vmem S2x2x1x1024 .f32) (harg10 : arg10.IsWhole) (arg11 : Memref sig .tc .vmem S2x2x144x1024 .f32) (harg11 : arg11.IsWhole) (arg12 : Memref sig .tc .vmem S2x2x768x1024 .f32) (harg12 : arg12.IsWhole) (arg13 : Memref sig .tc .vmem S2x2x1x1024 .f32) (harg13 : arg13.IsWhole) (arg14 : Memref sig .tc .vmem S2x2x768x1024 .bf16) (harg14 : arg14.IsWhole) (arg15 : Memref sig .tc .vmem S2x2x1x1024 .f32) (harg15 : arg15.IsWhole) (x2 : Vec F S1x8192x128 .bf16) (x3 : Vec F S1x8448x128 .bf16) (x4 : Vec F S1x128x8448 .bf16) (x5 : Vec F S4x64 .f32) (x6 : Vec F S1x128 .f32) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
      ⊢ wp (M := 𝕄) frame (wpE (defs₀ (F := F)) Variants.none (c : Thread nD τ) none) Set.univ (cc0_attn (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outBlk x2 x3 x4 x5 x6) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, ⟨%f12, H12⟩, ⟨%f13, H13⟩, ⟨%f14, H14⟩, ⟨%f15, H15⟩⟩
  subst hf2 hf3 hf4 hf5 hf6
  iapply (BI.BIBase.Entails.trans (run0 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).2.2.2.2.2.2.2.2.property (wp_mono _ _ _ fun _ => weaken c arg2 arg3 arg4 arg5 arg6 arg7 arg8 arg9 arg10 arg11 arg12 arg13 arg14 arg15 f2 f3 f4 f5 f6 f7 f8 f9 f10 f11 f12 f13 f14 f15 _ _ _ _ _ _ _ _ _ _ (read_run0 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15))) $$ [H2 H3 H4 H5 H6 H7 H8 H9 H10 H11 H12 H13 H14 H15]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-! ## The pipeline's proof data -/

variable (m : (ℓ : Loc nD τ sig) → Buf (Elt F) ℓ) (ρ : Dev nD → PrngReg)

/-- The proof data: the arrays as found; each input's buffer at its block and the output's at `outBlk` of the blocks;
    the scratch at anything between points; the two windows on one array share it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => outBlk (X0_0 m c t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk (X0_0 m c t) (iblk m c 1 t) (iblk m c 2 t) (iblk m c 3 t) (iblk m c 4 t) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

/-- A whole scratch buffer, as the body's memref has it. -/
theorem scratch_eq (c : Dev nD) (b : Ref sig .tc) (f : Buf (Elt F) ((c : Thread nD τ).loc b)) :
    ((((c : Thread nD τ).loc b) ↦{fullShare} f) : sProp 𝕄) = ((Memref.whole b).view.loc (c : Thread nD τ) ↦[(Memref.whole b).view.set]{fullShare} f) := by
  rw [(Memref.isWhole_whole b).set_eq_univ]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [scratch_eq]
  iintro ⟨⟨⟨S0, S1, S2, S3, S4, S5, S6, S7⟩, Hr⟩, Ho, ⟨%d0, H0⟩, ⟨%d1, H1⟩, ⟨%d2, H2⟩, ⟨%d3, H3⟩, ⟨%d4, H4⟩, ⟨%d5, H5⟩⟩
  iapply (wp_wand_r frame _ _)
  isplitl [S0 S1 S2 S3 S4 S5 S6 S7 H0 H1 H2 H3 H4 H5]
  · iapply (sound_kernel c (grid0.coords t) _ _ _ _ _ _ _ _ _ _ _ _ _ _ _ _ _ _ _ _ _ _ _ _ _ _ _ _  (X0_0 m c t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro %u ⟨H0, H1, H2, H3, H4, H5, S0, S1, S2, S3, S4, S5, S6, S7⟩
    isplitl [S0 S1 S2 S3 S4 S5 S6 S7 Hr]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays end as the proof data say, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.AttnMath.lean ====
/- The extended-real arithmetic of the attention: the running maximum and rescaled sums of a softmax taken chunk by chunk,
   and the difference of two normalised maps under the root-mean-square scaling. -/
module

public import Idealize.ShloMosaic.PureOps.Ideal
public import Idealize.ShloMosaic.PureOps.Ideal.Laws

@[expose] public section

noncomputable section

namespace Cert.AttnMath

open Idealize.ShloMosaic

/-- The weight `2 ^ (x - m)` of a score under a maximum, as a real number. -/
def wt (x m : EReal) : ℝ := (Ideal.exp2 (x - m)).toReal

theorem exp2_sub {x m : EReal} (h : x ≤ m) : Ideal.exp2 (x - m) = (wt x m : EReal) := by
  unfold wt
  induction m with
  | top => simp [EReal.sub_top]
  | bot => obtain rfl := le_bot_iff.mp h; simp
  | coe m =>
    induction x with
    | top => exact absurd h (by simp)
    | bot => simp
    | coe x => rw [← EReal.coe_sub, Ideal.exp2_coe, EReal.toReal_coe]

theorem wt_nonneg (x m : EReal) : 0 ≤ wt x m := by
  unfold wt
  generalize x - m = d
  induction d with
  | top => simp
  | bot => simp
  | coe d => rw [Ideal.exp2_coe, EReal.toReal_coe]; exact (Real.rpow_pos_of_pos two_pos d).le

/-- Rescaling a weight to a larger maximum. -/
theorem wt_mul {x m m' : EReal} (h : x ≤ m) (h' : m ≤ m') : wt m m' * wt x m = wt x m' := by
  unfold wt
  induction m' with
  | top => simp [EReal.sub_top]
  | bot =>
    obtain rfl := le_bot_iff.mp h'
    obtain rfl := le_bot_iff.mp h
    simp
  | coe m' =>
    induction m with
    | top => exact absurd h' (by simp)
    | bot =>
      obtain rfl := le_bot_iff.mp h
      simp
    | coe m =>
      induction x with
      | top => exact absurd h (by simp)
      | bot => simp
      | coe x =>
        simp only [← EReal.coe_sub, Ideal.exp2_coe, EReal.toReal_coe]
        exact (Real.rpow_add two_pos _ _).symm.trans (congrArg _ (by ring))

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The accumulator of a softmax taken chunk by chunk, each step rescaling by the change of the running maximum, holds
    the weighted sum under the maximum so far. -/
theorem online {ι : Type*} [Fintype ι] (s : ℕ → ι → EReal) (v : ℕ → ι → ℝ) (m a : ℕ → EReal)
    (hm : ∀ c i, s c i ≤ m c) (hmono : ∀ c, m c ≤ m (c + 1))
    (h0 : a 0 = ∑ i, (v 0 i : EReal) * Ideal.exp2 (s 0 i - m 0))
    (hs : ∀ c, a (c + 1) = Ideal.exp2 (m c - m (c + 1)) * a c + ∑ i, (v (c + 1) i : EReal) * Ideal.exp2 (s (c + 1) i - m (c + 1)))
    (c : ℕ) : a c = ((∑ k ∈ Finset.range (c + 1), ∑ i, v k i * wt (s k i) (m c) : ℝ) : EReal) := by
  have hle : ∀ c k, k ≤ c → m k ≤ m c := fun c k h => monotone_nat_of_le_succ hmono h
  induction c with
  | zero =>
    rw [h0, Finset.sum_range_one, coe_sum]
    exact Finset.sum_congr rfl fun i _ => by rw [exp2_sub (hm 0 i), EReal.coe_mul]
  | succ c ih =>
    rw [hs, ih, exp2_sub (hmono c), Finset.sum_range_succ _ (c + 1), EReal.coe_add, ← EReal.coe_mul]
    congr 1
    · refine congrArg _ ?_
      rw [Finset.mul_sum]
      refine Finset.sum_congr rfl fun k hk => ?_
      rw [Finset.mul_sum]
      refine Finset.sum_congr rfl fun i _ => ?_
      rw [← wt_mul ((hm k i).trans (hle c k (Nat.lt_succ_iff.mp (Finset.mem_range.mp hk)))) (hmono c)]
      ring
    · rw [coe_sum]
      exact Finset.sum_congr rfl fun i _ => by rw [exp2_sub (hm (c + 1) i), EReal.coe_mul]

/-- A number that is zero or infinite. -/
def Flat (x : EReal) : Prop := x = 0 ∨ x = ⊤ ∨ x = ⊥

theorem Flat.add {x y : EReal} (hx : Flat x) (hy : Flat y) : Flat (x + y) := by
  rcases hx with rfl | rfl | rfl <;> rcases hy with rfl | rfl | rfl <;> simp [Flat]

theorem Flat.sum {ι : Type*} (s : Finset ι) (f : ι → EReal) (h : ∀ i ∈ s, Flat (f i)) : Flat (∑ i ∈ s, f i) := by
  classical
  induction s using Finset.induction_on with
  | empty => exact Or.inl rfl
  | insert i s hi ih =>
    rw [Finset.sum_insert hi]
    exact (h i (Finset.mem_insert_self i s)).add (ih fun j hj => h j (Finset.mem_insert_of_mem hj))

theorem Flat.real_mul {x : EReal} (r : ℝ) (hx : x = ⊤ ∨ x = ⊥) : Flat ((r : EReal) * x) := by
  rcases lt_trichotomy r 0 with h | rfl | h
  · rcases hx with rfl | rfl
    · exact Or.inr (Or.inr (EReal.coe_mul_top_of_neg h))
    · exact Or.inr (Or.inl (EReal.coe_mul_bot_of_neg h))
  · exact Or.inl (by simp)
  · rcases hx with rfl | rfl
    · exact Or.inr (Or.inl (EReal.coe_mul_top_of_pos h))
    · exact Or.inr (Or.inr (EReal.coe_mul_bot_of_pos h))

/-- The scale of a row `o`: the reciprocal root of its mean square plus a small constant. -/
def rms {ι : Type*} [Fintype ι] (o : ι → EReal) : EReal :=
  Ideal.rsqrt (Ideal.div (∑ e, o e * o e) (Ideal.ofBits .f32 0x43000000#32) + Ideal.ofBits .f32 0x358637BD#32)

theorem ofBits_128 : Ideal.ofBits .f32 0x43000000#32 = ((128 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_neg_inf : Ideal.ofBits .f32 0xFF800000#32 = ⊥ := by
  simp [Ideal.ofBits, Ideal.ieee]

theorem ofBits_eps : Ideal.ofBits .f32 0x358637BD#32 ≠ ⊥ := by
  simp only [Ideal.ofBits, Ideal.ieee]
  rw [if_neg (by decide), if_neg (by decide)]
  exact EReal.coe_ne_bot _

theorem sq_nonneg' (x : EReal) : 0 ≤ x * x := by
  induction x with
  | top => simp
  | bot => simp
  | coe x => rw [← EReal.coe_mul]; exact EReal.coe_nonneg.mpr (mul_self_nonneg x)

/-- Scaled, a row of zeros and infinities is zero. -/
theorem flat_rms {ι : Type*} [Fintype ι] (o : ι → EReal) (h : ∀ e, Flat (o e)) (e : ι) : o e * rms o = 0 := by
  rcases h e with h0 | hi
  · rw [h0, zero_mul]
  · have hsq : o e * o e = ⊤ := by rcases hi with h | h <;> simp [h]
    have hsum : ∑ e, o e * o e = ⊤ :=
      top_le_iff.mp (hsq ▸ Finset.single_le_sum (f := fun e => o e * o e) (fun i _ => sq_nonneg' (o i)) (Finset.mem_univ e))
    have h128 : Ideal.div ⊤ (Ideal.ofBits .f32 0x43000000#32) = ⊤ := by
      rw [ofBits_128, Ideal.div, if_neg (by norm_num [EReal.coe_eq_zero]), ← EReal.coe_inv]
      exact EReal.top_mul_coe_of_pos (by norm_num)
    have : rms o = 0 := by
      unfold rms
      rw [hsum, h128, EReal.top_add_of_ne_bot ofBits_eps]; rfl
    rw [this, mul_zero]

theorem div_coe (x : ℝ) {y : ℝ} (hy : y ≠ 0) : Ideal.div x y = ((x / y : ℝ) : EReal) := by
  rw [Ideal.div, if_neg (by exact_mod_cast hy), ← EReal.coe_inv, ← EReal.coe_mul, div_eq_mul_inv]

theorem div_zero' : Ideal.div ((0 : ℝ) : EReal) ((0 : ℝ) : EReal) = ⊥ := by simp [Ideal.div]

/-- The scaled difference of two attention maps: normalising after the sums over the keys, or before. -/
theorem diff_rms {ι J : Type*} [Fintype ι] [Fintype J] (v : ι → J → ℝ) (E0 E1 : J → ℝ) (h0 : ∀ j, 0 ≤ E0 j) (h1 : ∀ j, 0 ≤ E1 j)
    (lam : ℝ) (o o' : ι → EReal)
    (ho : ∀ e, o e = Ideal.div ((∑ j, v e j * E0 j : ℝ) : EReal) ((∑ j, E0 j : ℝ) : EReal)
      - (lam : EReal) * Ideal.div ((∑ j, v e j * E1 j : ℝ) : EReal) ((∑ j, E1 j : ℝ) : EReal))
    (ho' : ∀ e, o' e = ∑ j, (v e j : EReal) * (Ideal.div (E0 j : EReal) ((∑ j, E0 j : ℝ) : EReal)
      - (lam : EReal) * Ideal.div (E1 j : EReal) ((∑ j, E1 j : ℝ) : EReal)))
    (e : ι) : o e * rms o = o' e * rms o' := by
  have key : (∀ e, o e = o' e) ∨ ((∀ e, Flat (o e)) ∧ ∀ e, Flat (o' e)) := by
    by_cases z0 : ∑ j, E0 j = 0
    · have hz : ∀ j, E0 j = 0 := fun j => (Finset.sum_eq_zero_iff_of_nonneg fun j _ => h0 j).mp z0 j (Finset.mem_univ j)
      refine Or.inr ⟨fun e => ?_, fun e => ?_⟩
      · have hN : ∑ j, v e j * E0 j = 0 := Finset.sum_eq_zero fun j _ => by rw [hz j, mul_zero]
        rw [ho, z0, hN, div_zero', sub_eq_add_neg, EReal.bot_add]
        exact Or.inr (Or.inr rfl)
      · rw [ho']
        refine Flat.sum _ _ fun j _ => Flat.real_mul _ (Or.inr ?_)
        rw [hz j, z0, div_zero', sub_eq_add_neg, EReal.bot_add]
    · by_cases z1 : ∑ j, E1 j = 0
      · have hz : ∀ j, E1 j = 0 := fun j => (Finset.sum_eq_zero_iff_of_nonneg fun j _ => h1 j).mp z1 j (Finset.mem_univ j)
        by_cases hl : lam = 0
        · refine Or.inl fun e => ?_
          rw [ho, ho', hl]
          simp only [EReal.coe_zero, zero_mul, sub_zero, div_coe _ z0, ← EReal.coe_mul, ← coe_sum]
          rw [Finset.sum_div]
          exact congrArg _ (Finset.sum_congr rfl fun j _ => by ring)
        · have hb : (lam : EReal) * ⊥ = ⊤ ∨ (lam : EReal) * ⊥ = ⊥ := by
            rcases lt_or_gt_of_ne hl with h | h
            · exact Or.inl (EReal.coe_mul_bot_of_neg h)
            · exact Or.inr (EReal.coe_mul_bot_of_pos h)
          have hx : ∀ r : ℝ, (r : EReal) - (lam : EReal) * ⊥ = ⊤ ∨ (r : EReal) - (lam : EReal) * ⊥ = ⊥ := fun r => by
            rcases hb with h | h <;> rw [h] <;> simp
          refine Or.inr ⟨fun e => ?_, fun e => ?_⟩
          · have hN : ∑ j, v e j * E1 j = 0 := Finset.sum_eq_zero fun j _ => by rw [hz j, mul_zero]
            rw [ho, z1, hN, div_zero', div_coe _ z0]
            exact Or.inr (hx _)
          · rw [ho']
            refine Flat.sum _ _ fun j _ => Flat.real_mul _ ?_
            rw [hz j, z1, div_zero', div_coe _ z0]
            exact hx _
      · refine Or.inl fun e => ?_
        rw [ho, ho']
        simp only [div_coe _ z0, div_coe _ z1, ← EReal.coe_mul, ← EReal.coe_sub, ← coe_sum]
        refine congrArg _ ?_
        rw [Finset.sum_div, Finset.sum_div, Finset.mul_sum, ← Finset.sum_sub_distrib]
        exact Finset.sum_congr rfl fun j _ => by ring
  rcases key with h | ⟨h, h'⟩
  · rw [funext h]
  · rw [flat_rms o h, flat_rms o' h']

/-- The largest of finitely many scores. -/
def top {ι : Type*} [Fintype ι] (s : ι → EReal) : EReal := (Finset.univ : Finset ι).fold max ⊥ s

theorem le_top' {ι : Type*} [Fintype ι] (s : ι → EReal) (i : ι) : s i ≤ top s :=
  ((Finset.fold_max_le (top s)).mp le_rfl).2 i (Finset.mem_univ i)

theorem top_le' {ι : Type*} [Fintype ι] (s : ι → EReal) (b : EReal) (h : ∀ i, s i ≤ b) : top s ≤ b :=
  (Finset.fold_max_le b).mpr ⟨bot_le, fun i _ => h i⟩

/-- `2 ^ x` by the power function is the exponential to base two. -/
theorem pow_two (x : EReal) : Ideal.pow ((2 : ℝ) : EReal) x = Ideal.exp2 x := by
  induction x with
  | top => exact (if_neg (show ¬(2 : ℝ) < 0 by norm_num)).trans (if_pos (show (1 : ℝ) < 2 by norm_num))
  | bot => exact (if_neg (show ¬(2 : ℝ) < 0 by norm_num)).trans (if_pos (show (1 : ℝ) < 2 by norm_num))
  | coe x => rfl

end Cert.AttnMath

end
-- ==== Proof.AttnRead.lean ====
/- The kernel's steps on one tile, read at an index over the extended reals. -/
module

public import proofs.«01_k».proof.Proof.AttnFrame
public import proofs.«01_k».proof.Proof.AttnMath
public import Idealize.ShloMosaic.Lib.Pointwise

@[expose] public section

set_option maxRecDepth 16384

noncomputable section

namespace Cert.KernelIdeal.Attn

open Cert.KernelIdeal Cert.KernelIdeal.Gen Idealize.ShloMosaic Cert.AttnMath

theorem pay48_at (K : Vec Ideal S1x768x128 .bf16) (Q : Vec Ideal S1x1x1024x128 .bf16) (i : Fin 768) (x : Fin 1024) :
    k0_pay48 (F := Ideal) K Q (ix4 0 0 i x) = ∑ d : Fin 128, K (ix3 0 i d) * Q (ix4 0 0 x d) := by
  unfold_payloads
  pointwise [dot_S768x128_S1024x128_S768x1024_1_1_0_0_n_n]

theorem pay124_at (m : Vec Ideal S1x1x1x1024 .f32) (x : Fin 1024) : k0_pay124 (F := Ideal) m (ix4 0 0 0 x) = m (ix4 0 0 0 x) := by
  unfold_payloads
  pointwise

theorem pay58_at (n m : Vec Ideal S1x1x1x1024 .f32) (x : Fin 1024) :
    k0_pay58 (F := Ideal) n m (ix4 0 0 0 x) = max (m (ix4 0 0 0 x)) (n (ix4 0 0 0 x)) := by
  unfold_payloads
  pointwise

theorem pay56_at (n m : Vec Ideal S1x1x1x1024 .f32) (x : Fin 1024) :
    k0_pay56 (F := Ideal) n m (ix4 0 0 0 x) = Ideal.exp2 (m (ix4 0 0 0 x) - max (m (ix4 0 0 0 x)) (n (ix4 0 0 0 x))) := by
  unfold_payloads
  pointwise
  rfl

theorem pay123_at (m : Vec Ideal S1x1x1x1024 .f32) (s : Vec Ideal S1x1x768x1024 .f32) (i : Fin 768) (x : Fin 1024) :
    k0_pay123 (F := Ideal) m s (ix4 0 0 i x) = Ideal.exp2 (s (ix4 0 0 i x) - m (ix4 0 0 0 x)) := by
  unfold_payloads
  pointwise
  rfl

theorem pay57_at (n m : Vec Ideal S1x1x1x1024 .f32) (s : Vec Ideal S1x1x768x1024 .f32) (i : Fin 768) (x : Fin 1024) :
    k0_pay57 (F := Ideal) n m s (ix4 0 0 i x) =
      Ideal.exp2 (s (ix4 0 0 i x) - max (m (ix4 0 0 0 x)) (n (ix4 0 0 0 x))) := by
  unfold_payloads
  pointwise
  rfl

theorem pay241_at (V : Vec Ideal S144x768 .bf16) (p : Vec Ideal S1x1x768x1024 .bf16) (e : Fin 144) (x : Fin 1024) :
    k0_pay241 (F := Ideal) V p (ix4 0 0 e x) = ∑ i : Fin 768, V (ix2 e i) * p (ix4 0 0 i x) := by
  unfold_payloads
  pointwise [dot_S144x768_S768x1024_S144x1024_1_0_0_1_n_n]

theorem pay64_at (V : Vec Ideal S144x768 .bf16) (p : Vec Ideal S1x1x768x1024 .bf16) (al : Vec Ideal S1x1x1x1024 .f32)
    (a : Vec Ideal S1x1x144x1024 .f32) (e : Fin 144) (x : Fin 1024) :
    k0_pay64 (F := Ideal) V p al a (ix4 0 0 e x) =
      al (ix4 0 0 0 x) * a (ix4 0 0 e x) + ∑ i : Fin 768, V (ix2 e i) * p (ix4 0 0 i x) := by
  unfold_payloads
  pointwise [dot_S144x768_S768x1024_S144x1024_1_0_0_1_n_n]

theorem pay220_at (a : Vec Ideal S1x1x144x1024 .f32) (e : Fin 144) (x : Fin 1024) :
    k0_pay220 (F := Ideal) a (ix2 e x) = a (ix4 0 0 e x) := by
  unfold_payloads
  pointwise

theorem pay245_at (lam : Vec Ideal S4x64 .f32) :
    k0_pay245 (F := Ideal) lam (ix2 0 0) =
      Ideal.exp (∑ d : Fin 64, lam (ix2 0 d) * lam (ix2 1 d)) - Ideal.exp (∑ d : Fin 64, lam (ix2 2 d) * lam (ix2 3 d))
        + Ideal.ofBits .f32 0x3E4CCCCD#32 := by
  unfold_payloads
  pointwise

theorem pay243_at (v : Vec Ideal S1x128x8448 .bf16) (e : Fin 128) (j : Fin 8448) :
    k0_pay243 (F := Ideal) v (ix2 e j) = v (ix3 0 e j) := by
  unfold_payloads
  pointwise

theorem lane_lt : ∀ d : Fin 128, IntOp.cmpi .slt (BitVec.ofNat 32 d.val) 64#32 = if d.val < 64 then 1#1 else 0#1 := by
  decide

theorem lane_ge : ∀ d : Fin 128, IntOp.cmpi .sge (BitVec.ofNat 32 d.val) 64#32 = if d.val < 64 then 0#1 else 1#1 := by
  decide

theorem pay179_at (w : IVec S1x128 32) (hw : ∀ d : Fin 128, w (ix2 0 d) = BitVec.ofNat 32 d.val)
    (q : Vec Ideal S1x1024x128 .bf16) (x : Fin 1024) (d : Fin 128) :
    k0_pay179 (F := Ideal) w q (ix4 0 0 x d) = if d.val < 64 then q (ix3 0 x d) else 0 := by
  unfold_payloads
  pointwise
  rw [hw, lane_lt]
  split <;> rfl

theorem pay180_at (w : IVec S1x128 32) (hw : ∀ d : Fin 128, w (ix2 0 d) = BitVec.ofNat 32 d.val)
    (q : Vec Ideal S1x1024x128 .bf16) (x : Fin 1024) (d : Fin 128) :
    k0_pay180 (F := Ideal) w q (ix4 0 0 x d) = if d.val < 64 then 0 else q (ix3 0 x d) := by
  unfold_payloads
  pointwise
  rw [hw, lane_ge]
  split <;> rfl

theorem pay244_at (j : Fin 8448) : k0_pay244 (F := Ideal) (ix2 0 j) = 1 := by
  unfold_payloads
  pointwise

theorem pay49_at (K : Vec Ideal S1x768x128 .bf16) (Q : Vec Ideal S1x1x1024x128 .bf16) (x : Fin 1024) :
    k0_pay49 (F := Ideal) K Q (ix4 0 0 0 x) = top fun i : Fin 768 => k0_pay48 (F := Ideal) K Q (ix4 0 0 i x) := by
  unfold_payloads
  pointwise [dot_S768x128_S1024x128_S768x1024_1_1_0_0_n_n]
  rw [ofBits_neg_inf]
  rfl

theorem pay221_at (l : FVec Ideal S1x1 .f32) (a : FVec Ideal S144x1024 .f32) (b : Vec Ideal S1x1x144x1024 .f32)
    (g : Vec Ideal S1x128 .f32) (x : Fin 1024) (e : Fin 128) (o : Fin 128 → EReal)
    (ho : ∀ e : Fin 128, o e = Ideal.div (a (ix2 ⟨e.val, by omega⟩ x)) (a (ix2 128 x)) -
      l (ix2 0 0) * Ideal.div (b (ix4 0 0 ⟨e.val, by omega⟩ x)) (b (ix4 0 0 128 x))) :
    k0_pay221 (F := Ideal) l a b g (ix3 0 x e) = o e * rms o * g (ix2 0 e) * Ideal.ofBits .f32 0x3F4CCCCD#32 := by
  unfold rms
  simp only [ho]
  unfold_payloads
  pointwise

/-! ## One query tile -/

section Tile

variable (K : ℕ → Vec Ideal S1x768x128 .bf16) (V : ℕ → Vec Ideal S144x768 .bf16) (Q : Vec Ideal S1x1x1024x128 .bf16) (x : Fin 1024)

theorem mM_zero : mM K Q 0 (ix4 0 0 0 x) = top fun i : Fin 768 => sM K Q 0 (ix4 0 0 i x) :=
  (pay124_at _ x).trans (pay49_at (K 0) Q x)

theorem mM_succ (c : ℕ) : mM K Q (c + 1) (ix4 0 0 0 x) =
    max (mM K Q c (ix4 0 0 0 x)) (top fun i : Fin 768 => sM K Q (c + 1) (ix4 0 0 i x)) :=
  (pay58_at _ _ x).trans (congrArg (max _) (pay49_at (K (c + 1)) Q x))

theorem pM_at (c : ℕ) (i : Fin 768) : pM K Q c (ix4 0 0 i x) =
    Ideal.exp2 (sM K Q c (ix4 0 0 i x) - mM K Q c (ix4 0 0 0 x)) := by
  cases c with
  | zero => exact (pay123_at _ _ i x).trans (congrArg (fun m => Ideal.exp2 (_ - m)) (pay124_at _ x).symm)
  | succ c => exact (pay57_at _ _ _ i x).trans (congrArg (fun m => Ideal.exp2 (_ - m)) (pay58_at _ _ x).symm)

theorem alM_at (c : ℕ) : alM K Q c (ix4 0 0 0 x) =
    Ideal.exp2 (mM K Q c (ix4 0 0 0 x) - mM K Q (c + 1) (ix4 0 0 0 x)) :=
  (pay56_at _ _ x).trans (congrArg (fun m => Ideal.exp2 (_ - m)) (pay58_at _ _ x).symm)

theorem score_le (c : ℕ) (i : Fin 768) : sM K Q c (ix4 0 0 i x) ≤ mM K Q c (ix4 0 0 0 x) := by
  cases c with
  | zero => rw [mM_zero]; exact le_top' (fun i : Fin 768 => sM K Q 0 (ix4 0 0 i x)) i
  | succ c =>
    rw [mM_succ]
    exact (le_top' (fun i : Fin 768 => sM K Q (c + 1) (ix4 0 0 i x)) i).trans (le_max_right _ _)

theorem mM_mono (c : ℕ) : mM K Q c (ix4 0 0 0 x) ≤ mM K Q (c + 1) (ix4 0 0 0 x) := by
  rw [mM_succ]; exact le_max_left _ _

theorem mM_le (b : EReal) (c : ℕ) (h : ∀ k ≤ c, ∀ i : Fin 768, sM K Q k (ix4 0 0 i x) ≤ b) : mM K Q c (ix4 0 0 0 x) ≤ b := by
  induction c with
  | zero => rw [mM_zero]; exact top_le' _ _ fun i => h 0 le_rfl i
  | succ c ih =>
    rw [mM_succ]
    exact max_le (ih fun k hk => h k (hk.trans c.le_succ)) (top_le' _ _ fun i => h (c + 1) le_rfl i)

/-- The accumulator's row `e`: the row's values weighed by their scores under the maximum so far. -/
theorem accM_at (e : Fin 144) (v : ℕ → Fin 768 → ℝ) (hv : ∀ c i, V c (ix2 e i) = (v c i : EReal)) (c : ℕ) :
    accM K V Q c (ix4 0 0 e x) = ((∑ k ∈ Finset.range (c + 1), ∑ i, v k i *
      wt (sM K Q k (ix4 0 0 i x)) (mM K Q c (ix4 0 0 0 x)) : ℝ) : EReal) := by
  refine online (fun c i => sM K Q c (ix4 0 0 i x)) v (fun c => mM K Q c (ix4 0 0 0 x)) (fun c => accM K V Q c (ix4 0 0 e x))
    (score_le K Q x) (mM_mono K Q x) ?_ (fun c => ?_) c
  · refine (pay241_at (V 0) (pM K Q 0) e x).trans (Finset.sum_congr rfl fun i _ => ?_)
    rw [hv, pM_at]
  · refine (pay64_at (V (c + 1)) (pM K Q (c + 1)) (alM K Q c) (accM K V Q c) e x).trans ?_
    rw [alM_at]
    refine congrArg (_ + ·) (Finset.sum_congr rfl fun i _ => ?_)
    rw [hv, pM_at]

end Tile

/-! ## All key chunks as one -/

/-- A sum over the chunks and within each is a sum over all keys. -/
theorem sum_chunks (f : ℕ → Fin 768 → ℝ) : ∑ k ∈ Finset.range 11, ∑ i, f k i =
    ∑ j : Fin 8448, f (j.val / 768) ⟨j.val % 768, Nat.mod_lt _ (by decide)⟩ := by
  rw [Finset.sum_range, ← Fintype.sum_prod_type']
  exact Fintype.sum_equiv (finProdFinEquiv (m := 11) (n := 768)) _ _ fun y => by
    have h1 := y.1.isLt
    have h2 := y.2.isLt
    have e1 : ((finProdFinEquiv y : Fin (11 * 768)).val) / 768 = y.1.val := by simp [finProdFinEquiv]; omega
    have e2 : ((finProdFinEquiv y : Fin (11 * 768)).val) % 768 = y.2.val := by simp [finProdFinEquiv]
    simp only [e1, e2]

theorem mM_last (K : ℕ → Vec Ideal S1x768x128 .bf16) (Q : Vec Ideal S1x1x1024x128 .bf16) (x : Fin 1024) :
    mM K Q 10 (ix4 0 0 0 x) = top fun j : Fin 8448 => sM K Q (j.val / 768) (ix4 0 0 ⟨j.val % 768, Nat.mod_lt _ (by decide)⟩ x) := by
  refine le_antisymm (mM_le K Q x _ 10 fun k hk i => ?_) (top_le' _ _ fun j => ?_)
  · have hi := i.isLt
    have := le_top' (fun j : Fin 8448 => sM K Q (j.val / 768) (ix4 0 0 ⟨j.val % 768, Nat.mod_lt _ (by decide)⟩ x))
      ⟨768 * k + i.val, by omega⟩
    have e1 : (768 * k + i.val) / 768 = k := by omega
    have e2 : (⟨(768 * k + i.val) % 768, Nat.mod_lt _ (by decide)⟩ : Fin 768) = i := Fin.ext (by show (768 * k + i.val) % 768 = _; omega)
    simp only [e1, e2] at this
    exact this
  · have hj := j.isLt
    refine (score_le K Q x _ _).trans ?_
    exact monotone_nat_of_le_succ (mM_mono K Q x) (show j.val / 768 ≤ 10 by omega)

/-! ## The staged blocks -/

theorem kch_at (k : Vec Ideal S1x8448x128 .bf16) (c : ℕ) (i : Fin 768) (d : Fin 128) :
    kch k c (ix3 0 i d) = k (ix3 0 ⟨768 * (c % 11) + i.val, by omega⟩ d) := by
  unfold kch
  pointwise

theorem vch_at (v : S144x8448.Idx → Elt Ideal .bf16) (c : ℕ) (e : Fin 144) (i : Fin 768) :
    vch v c (ix2 e i) = v (ix2 e ⟨768 * (c % 11) + i.val, by omega⟩) := by
  unfold vch
  pointwise

theorem qch_at (q : Vec Ideal S1x8192x128 .bf16) (t : ℕ) (x : Fin 1024) (d : Fin 128) :
    qch q t (ix3 0 x d) = q (ix3 0 ⟨1024 * (t % 8) + x.val, by omega⟩ d) := by
  unfold qch
  pointwise

theorem vaug_val (v : Vec Ideal S1x128x8448 .bf16) (e : Fin 128) (j : Fin 8448) :
    vaug v (ix2 ⟨e.val, by omega⟩ j) = v (ix3 0 e j) := by
  refine View.canon_eq_of_allAt _ _ _ ⟨_, List.mem_cons_of_mem _ List.mem_cons_self, ?_⟩
    (View.allAt_cons_unit _ _ _ _ _ (fun x hx => ?_) (View.allAt_cons_unit _ _ _ _ _ (fun x hx => ?_) (View.allAt_nil _ _)))
  · show _ ∈ (Rect.unit (s := S144x8448) ![0, 0] S128x8448.size inb_S144x8448_S128x8448_0_0).set
    rw [Rect.mem_set_unit]
    intro a
    fin_cases a <;> simp [ix2, S128x8448] <;> omega
  · have h0 : e.val = 128 + (x 0).val := hx 0
    omega
  · have h0 : e.val = 0 + (x 0).val := hx 0
    have h1 : j.val = 0 + (x 1).val := hx 1
    rw [← pay243_at v e j]
    exact congrArg _ (funext fun a => Fin.ext (by fin_cases a <;> simp [ix2] <;> omega))

theorem vaug_one (v : Vec Ideal S1x128x8448 .bf16) (j : Fin 8448) : vaug v (ix2 128 j) = (1 : EReal) := by
  refine View.canon_eq_of_allAt _ _ _ ⟨_, List.mem_cons_self, ?_⟩
    (View.allAt_cons_unit _ _ _ _ _ (fun x hx => ?_) (View.allAt_cons_unit _ _ _ _ _ (fun x hx => ?_) (View.allAt_nil _ _)))
  · show _ ∈ (Rect.unit (s := S144x8448) ![128, 0] S16x8448.size inb_S144x8448_S16x8448_128_0).set
    rw [Rect.mem_set_unit]
    intro a
    fin_cases a <;> simp [ix2, S16x8448] <;> omega
  · have h0 : 128 = 128 + (x 0).val := hx 0
    have h1 : j.val = 0 + (x 1).val := hx 1
    rw [← pay244_at j]
    exact congrArg _ (funext fun a => Fin.ext (by fin_cases a <;> simp [ix2] <;> omega))
  · have h0 : 128 = 0 + (x 0).val := hx 0
    have := (x 0).isLt
    change (x 0).val < 128 at this
    omega

end Cert.KernelIdeal.Attn

end
-- ==== Proof.AttnValue.lean ====
/- The output's block over the extended reals: each row the scaled difference of its two normalised maps. -/
module

public import proofs.«01_k».proof.Proof.AttnRead

@[expose] public section

set_option maxRecDepth 16384

noncomputable section

namespace Cert.KernelIdeal.Attn

open Cert.KernelIdeal Cert.KernelIdeal.Gen Idealize.ShloMosaic Cert.AttnMath

variable (q : Vec Ideal S1x8192x128 .bf16) (k : Vec Ideal S1x8448x128 .bf16) (v : Vec Ideal S1x128x8448 .bf16)

/-- The score of query `r` and key `j` under map `c`, from the head's own blocks. -/
def bscore (c : Fin 2) (r : Fin 8192) (j : Fin 8448) : EReal :=
  ∑ d : Fin 64, q (ix3 0 r ⟨64 * c.val + d.val, by omega⟩) * k (ix3 0 j ⟨64 * c.val + d.val, by omega⟩)

theorem v15_at (d : Fin 128) : run0.sl.v15 (ix2 0 d) = BitVec.ofNat 32 d.val := by
  unfold run0.sl.v15
  pointwise

/-- A product with the query cleared outside map `c`'s half is the half's own. -/
theorem half_sum (a b : Fin 128 → EReal) (c : Fin 2) :
    ∑ d : Fin 128, a d * (if d.val / 64 = c.val then b d else 0) =
      ∑ d : Fin 64, b ⟨64 * c.val + d.val, by omega⟩ * a ⟨64 * c.val + d.val, by omega⟩ := by
  refine (Fin.sum_univ_add (a := 64) (b := 64) fun d : Fin 128 => a d * (if d.val / 64 = c.val then b d else 0)).trans ?_
  have lo : ∀ d : Fin 64, (Fin.castAdd 64 d).val / 64 = 0 := fun d => by have := d.isLt; simp
  have hi : ∀ d : Fin 64, (Fin.natAdd 64 d).val / 64 = 1 := fun d => by have := d.isLt; simp
  simp only [lo, hi]
  fin_cases c
  · simp only [if_true, Nat.one_ne_zero, if_false, mul_zero, Finset.sum_const_zero, add_zero]
    refine Finset.sum_congr rfl fun d _ => (mul_comm _ _).trans ?_
    refine congrArg₂ (· * ·) (congrArg b ?_) (congrArg a ?_) <;> exact Fin.ext (by simp)
  · simp only [if_true, Nat.zero_ne_one, if_false, mul_zero, Finset.sum_const_zero, zero_add]
    refine Finset.sum_congr rfl fun d _ => (mul_comm _ _).trans ?_
    refine congrArg₂ (· * ·) (congrArg b ?_) (congrArg a ?_) <;> exact Fin.ext (by simp [add_comm])

/-- `Q` is the tile's rows cleared outside map `c`'s half; `r` the query at the tile's place `x`. -/
def Half (c : Fin 2) (r : Fin 8192) (x : Fin 1024) (Q : Vec Ideal S1x1x1024x128 .bf16) : Prop :=
  ∀ d : Fin 128, Q (ix4 0 0 x d) = if d.val / 64 = c.val then q (ix3 0 r d) else 0

theorem half_a (t : ℕ) (x : Fin 1024) (r : Fin 8192) (hr : r.val = 1024 * (t % 8) + x.val) :
    Half q 0 r x (qa run0.sl.v15 q t) := fun d => by
  refine (pay179_at _ v15_at _ x d).trans ?_
  rw [qch_at, show (⟨1024 * (t % 8) + x.val, by omega⟩ : Fin 8192) = r from Fin.ext hr.symm]
  by_cases h : d.val < 64
  · exact (if_pos h).trans (if_pos (show d.val / 64 = 0 by omega)).symm
  · exact (if_neg h).trans (if_neg (show ¬d.val / 64 = 0 by omega)).symm

theorem half_b (t : ℕ) (x : Fin 1024) (r : Fin 8192) (hr : r.val = 1024 * (t % 8) + x.val) :
    Half q 1 r x (qb run0.sl.v15 q t) := fun d => by
  have hd := d.isLt
  refine (pay180_at _ v15_at _ x d).trans ?_
  rw [qch_at, show (⟨1024 * (t % 8) + x.val, by omega⟩ : Fin 8192) = r from Fin.ext hr.symm]
  by_cases h : d.val < 64
  · exact (if_pos h).trans (if_neg (show ¬d.val / 64 = 1 by omega)).symm
  · exact (if_neg h).trans (if_pos (show d.val / 64 = 1 by omega)).symm

theorem sM_at (c : Fin 2) (r : Fin 8192) (x : Fin 1024) (Q : Vec Ideal S1x1x1024x128 .bf16) (hQ : Half q c r x Q) (j : Fin 8448) :
    sM (kch k) Q (j.val / 768) (ix4 0 0 ⟨j.val % 768, Nat.mod_lt _ (by decide)⟩ x) = bscore q k c r j := by
  have hj := j.isLt
  refine (pay48_at _ _ _ x).trans ?_
  have e : ∀ d : Fin 128, kch k (j.val / 768) (ix3 0 ⟨j.val % 768, Nat.mod_lt _ (by decide)⟩ d) = k (ix3 0 j d) := fun d => by
    rw [kch_at]
    refine congrArg k (congrArg (fun j => ix3 0 j d) (Fin.ext ?_))
    show 768 * (j.val / 768 % 11) + j.val % 768 = j.val
    omega
  simp only [e, hQ _]
  exact half_sum (fun d => k (ix3 0 j d)) (fun d => q (ix3 0 r d)) c

theorem acc_val (c : Fin 2) (r : Fin 8192) (x : Fin 1024) (Q : Vec Ideal S1x1x1024x128 .bf16) (hQ : Half q c r x Q) (e : Fin 144)
    (w : Fin 8448 → ℝ) (hw : ∀ j, vaug v (ix2 e j) = (w j : EReal)) :
    accM (kch k) (vch (vaug v)) Q 10 (ix4 0 0 e x) =
      ((∑ j, w j * wt (bscore q k c r j) (top (bscore q k c r)) : ℝ) : EReal) := by
  rw [accM_at (kch k) (vch (vaug v)) Q x e (fun c i => w ⟨768 * (c % 11) + i.val, by omega⟩) (fun c i => by rw [vch_at, hw]) 10]
  refine congrArg _ ((sum_chunks _).trans (Finset.sum_congr rfl fun j _ => ?_))
  have hj := j.isLt
  rw [mM_last, sM_at q k c r x Q hQ j]
  simp only [sM_at q k c r x Q hQ]
  refine congrArg (· * _) (congrArg w (Fin.ext ?_))
  show 768 * (j.val / 768 % 11) + j.val % 768 = j.val
  omega

/-- The block at row `r`, entry `e`. -/
theorem outBlk_at (lam : Vec Ideal S4x64 .f32) (g : Vec Ideal S1x128 .f32) (r : Fin 8192) (e : Fin 128)
    (vr : Fin 128 → Fin 8448 → ℝ) (hv : ∀ e j, v (ix3 0 e j) = (vr e j : EReal)) (o : Fin 128 → EReal)
    (ho : ∀ e, o e = Ideal.div ((∑ j, vr e j * wt (bscore q k 0 r j) (top (bscore q k 0 r)) : ℝ) : EReal)
        ((∑ j, wt (bscore q k 0 r j) (top (bscore q k 0 r)) : ℝ) : EReal)
      - k0_pay245 lam (ix2 0 0) * Ideal.div ((∑ j, vr e j * wt (bscore q k 1 r j) (top (bscore q k 1 r)) : ℝ) : EReal)
        ((∑ j, wt (bscore q k 1 r j) (top (bscore q k 1 r)) : ℝ) : EReal)) :
    outBlk q k v lam g (ix3 0 r e) = o e * rms o * g (ix2 0 e) * Ideal.ofBits .f32 0x3F4CCCCD#32 := by
  have hr := r.isLt
  have hx : r.val = 1024 * (r.val / 1024 % 8) + (⟨r.val % 1024, Nat.mod_lt _ (by decide)⟩ : Fin 1024).val := by
    show r.val = 1024 * (r.val / 1024 % 8) + r.val % 1024
    omega
  have hA := half_a q (r.val / 1024) _ r hx
  have hB := half_b q (r.val / 1024) _ r hx
  have hin : inTile (ix3 0 r e) = ix3 0 ⟨r.val % 1024, Nat.mod_lt _ (by decide)⟩ e := by
    funext a
    refine Fin.ext ?_
    fin_cases a
    · rfl
    · rfl
    · exact Nat.mod_eq_of_lt e.isLt
  have one : ∀ j, vaug v (ix2 128 j) = ((1 : ℝ) : EReal) := fun j => by rw [vaug_one]; rfl
  show outM (kch k) (vch (vaug v)) run0.sl.v15 (k0_pay245 lam) q g (r.val / 1024) (inTile (ix3 0 r e)) = _
  rw [hin]
  refine pay221_at _ _ _ g _ e o fun e => ?_
  have hve : ∀ j, vaug v (ix2 ⟨e.val, by omega⟩ j) = (vr e j : EReal) := fun j => by rw [vaug_val, hv]
  rw [ho, pay220_at, pay220_at, acc_val q k v 0 r _ _ hA _ _ hve, acc_val q k v 0 r _ _ hA _ _ one,
    acc_val q k v 1 r _ _ hB _ _ hve, acc_val q k v 1 r _ _ hB _ _ one]
  simp only [one_mul]

end Cert.KernelIdeal.Attn

end
-- ==== Proof.AttnRef.lean ====
/- The reference, read at an index: each entry of the result from the queries, keys and values it depends on. -/
module

public import proofs.«01_k».proof.Proof.Gen.ReferenceIdeal.Read
public import proofs.«01_k».proof.Proof.AttnMath
public import Idealize.ShloMosaic.Lib.Pointwise.Index
public import Idealize.ShloMosaic.Lib.KernelVsHost

@[expose] public section

set_option maxRecDepth 16384

noncomputable section

namespace Cert.AttnRef

open Cert.ReferenceIdeal Cert.ReferenceIdeal.Gen Cert.ReferenceIdeal.Read Cert.AttnMath Idealize.ShloMosaic

variable (p : S2x8448x6144.Idx → EReal) (vt : S2x1024x8448.Idx → EReal) (lam : S4x64.Idx → EReal) (g : S1x128.Idx → EReal)

/-- Column `64 * c + d` of head `h`. -/
abbrev col (o : ℕ) (ho : o + 1024 ≤ 6144) (h : Fin 8) (c : Fin 2) (d : Fin 64) : Fin 6144 :=
  ⟨o + (128 * h.val + 64 * c.val + d.val), by omega⟩

/-- Row `e` of head `h`. -/
abbrev row (h : Fin 8) (e : Fin 128) : Fin 1024 := ⟨128 * h.val + e.val, by omega⟩

/-- The score of query `r` and key `j` under map `c` of head `h`. -/
def score (b : Fin 2) (h : Fin 8) (c : Fin 2) (r : Fin 8192) (j : Fin 8448) : EReal :=
  ∑ d : Fin 64, p (ix3 b ⟨r.val, by omega⟩ (col 3072 (by omega) h c d)) * p (ix3 b j (col 4096 (by omega) h c d))

/-- The weight of key `j`, before normalisation. -/
def weight (b : Fin 2) (h : Fin 8) (c : Fin 2) (r : Fin 8192) (j : Fin 8448) : EReal :=
  Ideal.exp2 (score p b h c r j - top (score p b h c r))

/-- The factor of the second map. -/
def lamS : EReal :=
  Ideal.exp (∑ d : Fin 64, lam (ix2 0 d) * lam (ix2 1 d)) - Ideal.exp (∑ d : Fin 64, lam (ix2 2 d) * lam (ix2 3 d))
    + Ideal.ofBits .f32 0x3E4CCCCD#32

/-- One head's attention: the values weighed by the difference of its two maps. -/
def attn (b : Fin 2) (h : Fin 8) (r : Fin 8192) (e : Fin 128) : EReal :=
  ∑ j : Fin 8448, vt (ix3 b (row h e) j) *
    (Ideal.div (weight p b h 0 r j) (∑ j, weight p b h 0 r j)
      - lamS lam * Ideal.div (weight p b h 1 r j) (∑ j, weight p b h 1 r j))

theorem q_at (b : Fin 2) (r : Fin 8192) (h : Fin 8) (c : Fin 2) (d : Fin 64) :
    val_main_v2 (F := Ideal) p (ix5 b r h c d) = p (ix3 b ⟨r.val, by omega⟩ (col 3072 (by omega) h c d)) := by
  rw [val_main_v2_apply, val_main_v1_apply, val_main_v0_apply]
  refine congrArg p ?_
  funext a
  fin_cases a <;> refine Fin.ext ?_ <;> simp [ix5, ix3] <;> omega

theorem k_at (b : Fin 2) (j : Fin 8448) (h : Fin 8) (c : Fin 2) (d : Fin 64) :
    val_main_v5 (F := Ideal) p (ix5 b j h c d) = p (ix3 b j (col 4096 (by omega) h c d)) := by
  rw [val_main_v5_apply, val_main_v4_apply, val_main_v3_apply]
  refine congrArg p ?_
  funext a
  fin_cases a <;> refine Fin.ext ?_ <;> simp [ix5, ix3] <;> omega

theorem v_at (b : Fin 2) (h : Fin 8) (e : Fin 128) (j : Fin 8448) :
    val_main_v7 (F := Ideal) vt (ix4 b h e j) = vt (ix3 b (row h e) j) := by
  rw [val_main_v7_apply, val_main_v6_apply]
  refine congrArg vt ?_
  funext a
  fin_cases a <;> refine Fin.ext ?_ <;> simp [ix4, ix3] <;> omega

theorem score_at (b : Fin 2) (h : Fin 8) (c : Fin 2) (r : Fin 8192) (j : Fin 8448) :
    val_main_v24 (F := Ideal) p (ix5 b h c r j) = score p b h c r j := by
  rw [val_main_v24_apply]
  refine Finset.sum_congr rfl fun d _ => ?_
  refine Eq.trans ?_ (congrArg₂ (· * ·) (q_at p b r h c d) (k_at p b j h c d))
  refine congrArg₂ (· * ·) (congrArg _ ?_) (congrArg _ ?_) <;> funext a <;> fin_cases a <;> rfl

theorem max_at (b : Fin 2) (h : Fin 8) (c : Fin 2) (r : Fin 8192) :
    val_main_v26 (F := Ideal) p (ix4 b h c r) = top (score p b h c r) := by
  have hr : S2x8x2x8192x8448.Reduces [4] S2x8x2x8192 := by decide
  unfold val_main_v26
  unfold val_main_cst_3
  generalize hx : val_main_v24 (F := Ideal) p = x
  have hb : ∀ j, x (ix5 b h c r j) = score p b h c r j := fun j => hx ▸ score_at p b h c r j
  clear hx
  have key := hostReduce_maximumf_eq_multiReduction (F := Ideal) (φ := .f32) (u := S_) x 0xFF800000#32
    reducesTo_S2x8x2x8192x8448_S2x8x2x8192_d4 h_S_ hr (.inl rfl) rfl
  have key' := Ideal.multiReduction_maximumf_single (φ := .f32) (s := S2x8x2x8192x8448) (a := (4 : Fin 5)) x 0xFF800000#32
    hr (.inl rfl) rfl (ix4 b h c r)
  refine (congrFun key (ix4 b h c r)).trans (key'.trans ?_)
  unfold top
  rw [show (FloatOps.ofBits (F := Ideal) .f32 0xFF800000#32 : EReal) = ⊥ from ofBits_neg_inf]
  refine congrArg (fun f : Fin 8448 → EReal => Finset.fold max ⊥ f Finset.univ) (funext fun j => ?_)
  refine Eq.trans (congrArg x ?_) (hb j)
  funext a
  fin_cases a <;> rfl

theorem weight_at (b : Fin 2) (h : Fin 8) (c : Fin 2) (r : Fin 8192) (j : Fin 8448) :
    val_main_v30 (F := Ideal) p (ix5 b h c r j) = weight p b h c r j := by
  rw [val_main_v30_apply, val_main_v25_apply, val_main_cst_2_apply, val_main_v29_apply, val_main_v28_apply,
    val_main_v27_apply, score_at,
    show idx_main_v27 (idx_main_v28 (ix5 b h c r j)) = ix4 b h c r by funext a; fin_cases a <;> rfl, max_at]
  show Ideal.pow (Ideal.ofBits .f32 0x40000000#32) (score p b h c r j - top (score p b h c r)) = _
  rw [ofBits_two, pow_two]
  rfl

theorem zero_cst : FloatOps.ofBits (F := Ideal) .f32 0x00000000#32 = (0 : EReal) := by
  show Ideal.ofBits .f32 0x00000000#32 = 0
  simp [Ideal.ofBits, Ideal.ieee]

theorem total_at (b : Fin 2) (h : Fin 8) (c : Fin 2) (r : Fin 8192) :
    val_main_v31 (F := Ideal) p (ix4 b h c r) = ∑ j, weight p b h c r j := by
  rw [val_main_v31_apply, val_main_cst_4_apply, zero_cst, zero_add]
  refine Finset.sum_congr rfl fun j _ => ?_
  rw [← weight_at]
  refine congrArg _ ?_
  funext a
  fin_cases a <;> rfl

theorem map_at (b : Fin 2) (h : Fin 8) (c : Fin 2) (r : Fin 8192) (j : Fin 8448) :
    val_main_v34 (F := Ideal) p (ix5 b h c r j) = Ideal.div (weight p b h c r j) (∑ j, weight p b h c r j) := by
  rw [val_main_v34_apply, val_main_v33_apply, val_main_v32_apply, weight_at,
    show idx_main_v32 (idx_main_v33 (ix5 b h c r j)) = ix4 b h c r by funext a; fin_cases a <;> rfl, total_at]
  rfl

theorem lam_at (i : S_.Idx) : val_main_v23 (F := Ideal) lam i = lamS lam := by
  rw [val_main_v23_apply, val_main_v22_apply, val_main_v14_apply, val_main_v21_apply, val_main_v13_apply,
    val_main_v20_apply, val_main_cst_apply, val_main_cst_0_apply, val_main_cst_1_apply, zero_cst, zero_add, zero_add,
    sum_idx1 (n0 := 64), sum_idx1 (n0 := 64)]
  unfold lamS
  refine congrArg₂ (· + ·) (congrArg₂ (· - ·) (congrArg _ ?_) (congrArg _ ?_)) rfl <;>
    refine Finset.sum_congr rfl fun d _ => ?_
  · rw [val_main_v12_apply, val_main_v9_apply, val_main_v8_apply, val_main_v11_apply, val_main_v10_apply]
    refine congrArg₂ (· * ·) (congrArg lam ?_) (congrArg lam ?_) <;> funext a <;> fin_cases a <;>
      refine Fin.ext ?_ <;> simp [ix1, ix2] <;> omega
  · rw [val_main_v19_apply, val_main_v16_apply, val_main_v15_apply, val_main_v18_apply, val_main_v17_apply]
    refine congrArg₂ (· * ·) (congrArg lam ?_) (congrArg lam ?_) <;> funext a <;> fin_cases a <;>
      refine Fin.ext ?_ <;> simp [ix1, ix2] <;> omega

theorem attn_at (b : Fin 2) (h : Fin 8) (e : Fin 128) (r : Fin 8192) :
    val_main_v42 (F := Ideal) p vt lam (ix4 b h e r) = attn p vt lam b h r e := by
  rw [val_main_v42_apply]
  unfold attn
  refine Finset.sum_congr rfl fun j _ => ?_
  rw [show lidx_main_v42 (ix4 b h e r) j = ix4 b h e j by funext a; fin_cases a <;> rfl,
    show ridx_main_v42 (ix4 b h e r) j = ix4 b h r j by funext a; fin_cases a <;> rfl, v_at, val_main_v41_apply,
    val_main_v40_apply, val_main_v39_apply, lam_at, val_main_v38_apply, val_main_v37_apply, val_main_v36_apply,
    val_main_v35_apply,
    show idx_main_v35 (idx_main_v36 (ix4 b h r j)) = ix5 b h 0 r j by
      funext a; fin_cases a <;> refine Fin.ext ?_ <;> simp [ix4, ix5] <;> omega,
    show idx_main_v37 (idx_main_v38 (ix4 b h r j)) = ix5 b h 1 r j by
      funext a; fin_cases a <;> refine Fin.ext ?_ <;> simp [ix4, ix5] <;> omega, map_at, map_at]
  rfl

theorem attn_at' (b : Fin 2) (r : Fin 8192) (h : Fin 8) (e : Fin 128) :
    val_main_v43 (F := Ideal) p vt lam (ix4 b r h e) = attn p vt lam b h r e := by
  rw [val_main_v43_apply, ← attn_at]
  refine congrArg _ ?_
  funext a
  fin_cases a <;> rfl

theorem rms_at (b : Fin 2) (r : Fin 8192) (h : Fin 8) (i : S2x8192x8x1.Idx) (h0 : (i 0).val = b.val) (h1 : (i 1).val = r.val)
    (h2 : (i 2).val = h.val) :
    val_main_v52 (F := Ideal) p vt lam i = rms (attn p vt lam b h r) := by
  rw [val_main_v52_apply, val_main_v51_apply, val_main_v50_apply, val_main_cst_7_apply, val_main_v49_apply,
    val_main_v48_apply, val_main_cst_6_apply, val_main_v47_apply, val_main_v46_apply, val_main_cst_5_apply, zero_cst, zero_add]
  unfold rms
  refine congrArg Ideal.rsqrt (congrArg₂ (· + ·) (congrArg₂ Ideal.div (Finset.sum_congr rfl fun e _ => ?_) rfl) rfl)
  rw [val_main_v45_apply,
    show idx_main_v46 (idx_main_v47 i) e = ix4 b r h e by
      funext a; fin_cases a <;> refine Fin.ext ?_ <;> simp [ix4, h0, h1, h2], attn_at']
  rfl

/-- The reference's result at row `r` and entry `e` of head `h`. -/
theorem result_at (b : Fin 2) (r : Fin 8192) (h : Fin 8) (e : Fin 128) :
    val_main_v61 (F := Ideal) p vt lam g (ix3 b r (row h e)) =
      attn p vt lam b h r e * rms (attn p vt lam b h r) * g (ix2 0 e) * Ideal.ofBits .f32 0x3F4CCCCD#32 := by
  rw [val_main_v61_apply, val_main_v60_apply,
    show idx_main_v60 (ix3 b r (row h e)) = ix4 b r h e by
      funext a; fin_cases a <;> refine Fin.ext ?_ <;> simp [ix3, ix4] <;> omega,
    val_main_v59_apply, val_main_v58_apply, val_main_cst_8_apply, val_main_v57_apply, val_main_v56_apply, val_main_v55_apply,
    val_main_v44_apply, val_main_v54_apply, val_main_v53_apply, attn_at', rms_at p vt lam b r h _ rfl rfl rfl,
    show idx_main_v44 (idx_main_v55 (idx_main_v56 (ix4 b r h e))) = ix2 0 e by
      funext a; fin_cases a <;> refine Fin.ext ?_ <;> simp [ix2, ix4] <;> omega]
  rfl

end Cert.AttnRef

end
-- ==== Proof.AttnBlocks.lean ====
/- The attention's result array, read at an index: the entry of its head's block, the blocks entries of the arguments. -/
module

public import proofs.«01_k».proof.Proof.AttnValue
public import proofs.«01_k».proof.Proof.AttnRef

@[expose] public section

set_option maxRecDepth 16384

noncomputable section

namespace Cert.KernelIdeal.Attn

open Cert.KernelIdeal Cert.KernelIdeal.Gen Idealize.ShloMosaic Idealize.ShloMosaic.TcCoe Idealize.SL.Sem Cert.AttnMath Cert.AttnRef

variable (m : (ℓ : Loc nD τ sig) → Buf (Elt Ideal) ℓ)

/-! ## Where a point's blocks lie -/

theorem idx_q : ∀ t : Fin cfg0.N, win0_0.index t (0 : Fin 3) = t.val / 8 ∧ win0_0.index t (1 : Fin 3) = 0 ∧ win0_0.index t (2 : Fin 3) = 24 + t.val % 8 :=
  (by decide +kernel : ∀ t : Fin grid0.N, _)
theorem idx_k : ∀ t : Fin cfg0.N, win0_1.index t (0 : Fin 3) = t.val / 8 ∧ win0_1.index t (1 : Fin 3) = 0 ∧ win0_1.index t (2 : Fin 3) = 32 + t.val % 8 :=
  (by decide +kernel : ∀ t : Fin grid0.N, _)
theorem idx_v : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx_lam : ∀ t : Fin cfg0.N, win0_3.index t (0 : Fin 2) = 0 ∧ win0_3.index t (1 : Fin 2) = 0 :=
  (by decide +kernel : ∀ t : Fin grid0.N, _)
theorem idx_g : ∀ t : Fin cfg0.N, win0_4.index t (0 : Fin 2) = 0 ∧ win0_4.index t (1 : Fin 2) = 0 :=
  (by decide +kernel : ∀ t : Fin grid0.N, _)
theorem idx_o : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)

/-- The point of batch `b` and head `h`. -/
def pt (b : Fin 2) (h : Fin 8) : Fin cfg0.N := ⟨8 * b.val + h.val, by have hN : cfg0.N = 16 := N_0; omega⟩

theorem pt_div (b : Fin 2) (h : Fin 8) : (pt b h).val / 8 = b.val := by show (8 * b.val + h.val) / 8 = _; omega
theorem pt_mod (b : Fin 2) (h : Fin 8) : (pt b h).val % 8 = h.val := by show (8 * b.val + h.val) % 8 = _; omega

/-- The program's batch of a point, and its head. -/
theorem exists_pt (t : Fin cfg0.N) : ∃ b h, t = pt b h :=
  ⟨⟨t.val / 8, by have hN : cfg0.N = 16 := N_0; have := t.isLt; omega⟩, ⟨t.val % 8, by omega⟩, Fin.ext (by show t.val = 8 * (t.val / 8) + t.val % 8; omega)⟩

variable (c : Dev nD) (b : Fin 2) (h : Fin 8)

theorem q_blk (r : Fin 8192) (x : Fin 128) :
    X0_0 m c (pt b h) (ix3 0 r x) = V m c main_arg0 (ix3 b ⟨r.val, by omega⟩ ⟨3072 + (128 * h.val + x.val), by omega⟩) := by
  obtain ⟨e0, e1, e2⟩ := idx_q (pt b h)
  rw [pt_div] at e0
  rw [pt_mod] at e2
  unfold X0_0 Pipeline.Window.fill
  rw [dif_pos (moved0_0 _ _)]
  refine congrArg (V m c main_arg0) ?_
  funext a; apply Fin.ext
  match a with
  | ⟨0, _⟩ => show win0_0.index (pt b h) (0 : Fin 3) * 1 + 1 * 0 = b.val; omega
  | ⟨1, _⟩ => show win0_0.index (pt b h) (1 : Fin 3) * 8192 + 1 * r.val = r.val; omega
  | ⟨2, _⟩ => show win0_0.index (pt b h) (2 : Fin 3) * 128 + 1 * x.val = 3072 + (128 * h.val + x.val); omega

theorem k_blk (j : Fin 8448) (x : Fin 128) :
    iblk m c 1 (pt b h) (ix3 0 j x) = V m c main_arg0 (ix3 b j ⟨4096 + (128 * h.val + x.val), by omega⟩) := by
  obtain ⟨e0, e1, e2⟩ := idx_k (pt b h)
  rw [pt_div] at e0
  rw [pt_mod] at e2
  refine congrArg (V m c main_arg0) ?_
  funext a; apply Fin.ext
  match a with
  | ⟨0, _⟩ => show win0_1.index (pt b h) (0 : Fin 3) * 1 + 1 * 0 = b.val; omega
  | ⟨1, _⟩ => show win0_1.index (pt b h) (1 : Fin 3) * 8448 + 1 * j.val = j.val; omega
  | ⟨2, _⟩ => show win0_1.index (pt b h) (2 : Fin 3) * 128 + 1 * x.val = 4096 + (128 * h.val + x.val); omega

theorem v_blk (e : Fin 128) (j : Fin 8448) :
    iblk m c 2 (pt b h) (ix3 0 e j) = V m c main_arg1 (ix3 b (row h e) j) := by
  obtain ⟨e0, e1, e2⟩ := idx_v (pt b h)
  rw [pt_div] at e0
  rw [pt_mod] at e1
  refine congrArg (V m c main_arg1) ?_
  funext a; apply Fin.ext
  match a with
  | ⟨0, _⟩ => show win0_2.index (pt b h) (0 : Fin 3) * 1 + 1 * 0 = b.val; omega
  | ⟨1, _⟩ => show win0_2.index (pt b h) (1 : Fin 3) * 128 + 1 * e.val = 128 * h.val + e.val; omega
  | ⟨2, _⟩ => show win0_2.index (pt b h) (2 : Fin 3) * 8448 + 1 * j.val = j.val; omega

theorem lam_blk (t : Fin cfg0.N) : iblk m c 3 t = V m c main_arg2 := by
  obtain ⟨e0, e1⟩ := idx_lam t
  funext j
  refine congrArg (V m c main_arg2) ?_
  funext a; apply Fin.ext
  match a with
  | ⟨0, _⟩ => show win0_3.index t (0 : Fin 2) * 4 + 1 * (j 0).val = (j 0).val; omega
  | ⟨1, _⟩ => show win0_3.index t (1 : Fin 2) * 64 + 1 * (j 1).val = (j 1).val; omega

theorem g_blk (t : Fin cfg0.N) : iblk m c 4 t = V m c main_arg3 := by
  obtain ⟨e0, e1⟩ := idx_g t
  funext j
  refine congrArg (V m c main_arg3) ?_
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The block's scores are the head's. -/
theorem bscore_eq (k : Fin 2) (r : Fin 8192) :
    bscore (X0_0 m c (pt b h)) (iblk m c 1 (pt b h)) k r = score (V m c main_arg0) b h k r := by
  funext j
  unfold bscore score
  refine Finset.sum_congr rfl fun d _ => ?_
  rw [q_blk, k_blk]
  refine congrArg₂ (· * ·) (congrArg (V m c main_arg0) (congrArg (ix3 b _) (Fin.ext ?_)))
    (congrArg (V m c main_arg0) (congrArg (ix3 b _) (Fin.ext ?_)))
  · show 3072 + (128 * h.val + (64 * k.val + d.val)) = 3072 + (128 * h.val + 64 * k.val + d.val); omega
  · show 4096 + (128 * h.val + (64 * k.val + d.val)) = 4096 + (128 * h.val + 64 * k.val + d.val); omega

/-! ## The result array -/

/-- Every place of the result array is in some point's block. -/
theorem covered (i : S2x8192x1024.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 1024 := (i 2).isLt
  have hd : (i 2).val / 128 < 8 := by omega
  obtain ⟨e0, e1, e2⟩ := idx_o (pt ⟨(i 0).val, h0⟩ ⟨(i 2).val / 128, hd⟩)
  rw [pt_div] at e0
  rw [pt_mod] at e2
  dsimp only at e0 e2
  generalize pt ⟨(i 0).val, h0⟩ ⟨(i 2).val / 128, hd⟩ = t at e0 e1 e2
  refine ⟨t, flush0_5 t, ?_⟩
  show i ∈ ((View.whole main_v0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8192 ≤ (i 1).val ∧ (i 1).val < win0_5.index t (1 : Fin 3) * 8192 + 8192; omega
  | ⟨2, _⟩ => show win0_5.index t (2 : Fin 3) * 128 ≤ (i 2).val ∧ (i 2).val < win0_5.index t (2 : Fin 3) * 128 + 128; omega

/-- An array of which every point's block is the block the point writes is the one the run leaves. -/
theorem result_eq (G : Vec Ideal S2x8192x1024 .bf16)
    (hG : ∀ b h r e, G (ix3 b r (row h e)) =
      outBlk (X0_0 m c (pt b h)) (iblk m c 1 (pt b h)) (iblk m c 2 (pt b h)) (iblk m c 3 (pt b h)) (iblk m c 4 (pt b h)) (ix3 0 r e)) :
    (dats m 0 c).arrAt 5 cfg0.N = G := by
  refine (dats m 0 c).arrAt_eq_of_cover 5 G (fun t _ => ?_) covered
  obtain ⟨b, h, rfl⟩ := exists_pt t
  obtain ⟨e0, e1, e2⟩ := idx_o (pt b h)
  rw [pt_div] at e0
  rw [pt_mod] at e2
  show (cfg0.win 5).cut (grid0.coords (pt b h)) ((dats m 0 c).after 5 (pt b h)) = _
  rw [after0_5]
  funext j
  refine Eq.trans (b := outBlk (X0_0 m c (pt b h)) (iblk m c 1 (pt b h)) (iblk m c 2 (pt b h)) (iblk m c 3 (pt b h)) (iblk m c 4 (pt b h)) (ix3 0 (j 1) (j 2))) ?_ ((hG b h (j 1) (j 2)).symm.trans ?_)
  · refine congrArg (outBlk _ _ _ _ _) ?_
    funext a; apply Fin.ext
    match a with
    | ⟨0, _⟩ => exact Nat.lt_one_iff.mp (j 0).isLt
    | ⟨1, _⟩ => rfl
    | ⟨2, _⟩ => rfl
  · refine congrArg G ?_
    funext a; apply Fin.ext
    have hj : (j 0).val = 0 := Nat.lt_one_iff.mp (j 0).isLt
    match a with
    | ⟨0, _⟩ => show b.val = win0_5.index (pt b h) (0 : Fin 3) * 1 + 1 * (j 0).val; omega
    | ⟨1, _⟩ => show (j 1).val = win0_5.index (pt b h) (1 : Fin 3) * 8192 + 1 * (j 1).val; omega
    | ⟨2, _⟩ => show 128 * h.val + (j 2).val = win0_5.index (pt b h) (2 : Fin 3) * 128 + 1 * (j 2).val; omega

end Cert.KernelIdeal.Attn

end
-- ==== Proof.AttnAlg.lean ====
/- The attention kernel's result is the reference's, where the values and the factor's vectors are finite. -/
module

public import proofs.«01_k».proof.Proof.AttnBlocks
public import proofs.«01_k».proof.Proof.Gen.Pre_finite_values
public import proofs.«01_k».proof.Proof.Gen.ReferenceIdeal.Run
public import proofs.«01_k».proof.Defs

@[expose] public section

set_option maxRecDepth 16384

noncomputable section

namespace Cert.Proof

open Idealize.ShloMosaic Idealize.ShloMosaic.TcCoe Idealize.SL.Sem Cert.AttnMath Cert.AttnRef

/-- A number whose absolute value is at most the largest finite one is real. -/
theorem real_of_le (x : EReal) (h : Ideal.cmp .ole (max x (-x)) (Ideal.ofBits .f32 0x7F7FFFFF#32) = 1#1) : ∃ r : ℝ, x = r := by
  have hb : Ideal.ofBits .f32 0x7F7FFFFF#32 ≠ ⊤ := by
    simp only [Ideal.ofBits, Ideal.ieee]
    rw [if_neg (by decide), if_neg (by decide)]
    exact EReal.coe_ne_top _
  have hle : max x (-x) ≤ Ideal.ofBits .f32 0x7F7FFFFF#32 := by
    by_contra hn
    have : Ideal.cmp .ole (max x (-x)) (Ideal.ofBits .f32 0x7F7FFFFF#32) = 0#1 := by simp [Ideal.cmp, hn]
    rw [this] at h
    exact absurd h (by decide)
  have hlt := lt_of_le_of_lt hle (lt_top_iff_ne_top.mpr hb)
  induction x with
  | top => simp at hlt
  | bot => simp at hlt
  | coe r => exact ⟨r, rfl⟩

section

variable (p : Cert.KernelIdeal.S2x8448x6144.Idx → EReal) (vt : Cert.KernelIdeal.S2x1024x8448.Idx → EReal)
  (lam : Cert.KernelIdeal.S4x64.Idx → EReal) (g : Cert.KernelIdeal.S1x128.Idx → EReal)

theorem values_real (h : (Cert.Pre_finite_values.fn (F := Ideal) p vt lam g).1 = fun _ => 1#1) (i) : ∃ r : ℝ, vt i = r :=
  real_of_le _ (congrFun h i)

theorem factor_real (h : (Cert.Pre_finite_values.fn (F := Ideal) p vt lam g).2 = fun _ => 1#1) (i) : ∃ r : ℝ, lam i = r :=
  real_of_le _ (congrFun h i)

/-- The second map's factor is real when its vectors are. -/
theorem lamS_real (h : ∀ i, ∃ r : ℝ, lam i = r) : ∃ r : ℝ, lamS lam = r := by
  choose f hf using h
  have hc : ∃ r : ℝ, Ideal.ofBits .f32 0x3E4CCCCD#32 = r := by
    simp only [Ideal.ofBits, Ideal.ieee]
    rw [if_neg (by decide), if_neg (by decide)]
    exact ⟨_, rfl⟩
  obtain ⟨r, hr⟩ := hc
  unfold lamS
  simp only [hf, hr, ← EReal.coe_mul, ← coe_sum, Ideal.exp_coe, ← EReal.coe_sub, ← EReal.coe_add]
  exact ⟨_, rfl⟩

theorem weight_eq (b : Fin 2) (h : Fin 8) (k : Fin 2) (r : Fin 8192) (j : Fin 8448) :
    weight p b h k r j = (wt (score p b h k r j) (top (score p b h k r)) : EReal) :=
  exp2_sub (le_top' _ j)

end

open Cert.KernelIdeal Cert.KernelIdeal.Gen Cert.KernelIdeal.Attn

/-- The reference's array is the one the kernel leaves. -/
theorem result_ref (m : (ℓ : Loc nD τ sig) → Buf (Elt Ideal) ℓ) (hm : Pre_KernelIdeal_finite_values m) (c : Dev nD) :
    (dats m 0 c).arrAt 5 cfg0.N =
      Cert.ReferenceIdeal.Read.val_main_v61 (F := Ideal) (V m c main_arg0) (V m c main_arg1) (V m c main_arg2) (V m c main_arg3) := by
  obtain ⟨hv, hl⟩ := hm c
  have hv := values_real _ _ _ _ hv
  have hl := factor_real _ _ _ _ hl
  choose vr hvr using hv
  obtain ⟨l, hl⟩ := lamS_real _ hl
  refine result_eq m c _ fun b h r e => ?_
  refine (result_at _ _ _ _ b r h e).trans ?_
  rw [lam_blk, g_blk]
  obtain ⟨o, ho⟩ : ∃ o : Fin 128 → EReal, ∀ e, o e =
      Ideal.div ((∑ j, vr (ix3 b (row h e) j) * wt (score (V m c main_arg0) b h 0 r j) (top (score (V m c main_arg0) b h 0 r)) : ℝ) : EReal)
        ((∑ j, wt (score (V m c main_arg0) b h 0 r j) (top (score (V m c main_arg0) b h 0 r)) : ℝ) : EReal)
      - (l : EReal) * Ideal.div ((∑ j, vr (ix3 b (row h e) j) * wt (score (V m c main_arg0) b h 1 r j) (top (score (V m c main_arg0) b h 1 r)) : ℝ) : EReal)
        ((∑ j, wt (score (V m c main_arg0) b h 1 r j) (top (score (V m c main_arg0) b h 1 r)) : ℝ) : EReal) := ⟨_, fun _ => rfl⟩
  refine Eq.symm ((outBlk_at _ _ _ _ _ r e (fun e j => vr (ix3 b (row h e) j)) (fun e j => (v_blk m c b h e j).trans (hvr _)) o
    fun e => ?_).trans ?_)
  · rw [bscore_eq, bscore_eq, pay245_at]
    exact (ho e).trans (congrArg (fun x => _ - x * _) hl.symm)
  · refine congrArg (fun x => x * V m c main_arg3 (ix2 0 e) * Ideal.ofBits .f32 0x3F4CCCCD#32) ?_
    refine diff_rms _ _ _ (fun _ => wt_nonneg _ _) (fun _ => wt_nonneg _ _) l o _ ho (fun e => ?_) e
    unfold attn
    simp only [weight_eq, ← coe_sum]
    refine Finset.sum_congr rfl fun j _ => ?_
    rw [hl]
    exact congrArg (· * _) (hvr _)

/-- From the same arguments the kernel and the reference leave the same result. -/
theorem algebraic_attn : Cert.algebraic_KernelIdeal_ReferenceIdeal_pre_finite_values := fun m g m' g' hm hargs => by
  refine ⟨fun c => (dats m 0 c).arrAt 5 cfg0.N, ?_, ?_⟩
  · refine (θ_run defs _ _).mono (fun r h c => ⟨(h.1 c).1 5, h.2.1 c⟩) (θ_run_and (run_main m g) (frame_run m g))
  · refine (θ_run Cert.ReferenceIdeal.defs _ _).mono (fun r h c => ⟨(h c).1.trans ?_, (h c).2⟩) (Cert.ReferenceIdeal.Value.run (F := Ideal) m' g')
    obtain ⟨h0, h1, h2, h3⟩ := hargs c
    refine (Cert.ReferenceIdeal.Read.val_main_v61_eq m' c).trans (Eq.trans ?_ (result_ref m hm c).symm)
    rw [h0, h1, h2, h3]

end Cert.Proof

end
-- ==== Proof.AttnQuiescent.lean ====
module

public import proofs.«01_k».proof.Proof.AttnFrame
public import proofs.«01_k».proof.Proof.Gen.Kernel
public import proofs.«01_k».proof.Defs

@[expose] public section

noncomputable section

namespace Cert.Proof
open Idealize.ShloMosaic Idealize.ShloMosaic.TcCoe Idealize.SL.Sem

/-- The two printings of the program have one body table. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) defs₀_eq

theorem quiescent_attn_bits : Cert.quiescent_Kernel := fun m g _ => by
  rw [show Cert.Kernel.defs (F := Bits) = Cert.KernelIdeal.defs (F := Bits) from defs_eq]
  exact Cert.KernelIdeal.Attn.frame_run (F := Bits) m g

theorem quiescent_attn : Cert.quiescent_KernelIdeal := fun m g _ => Cert.KernelIdeal.Attn.frame_run m g
end Cert.Proof
-- ==== Proof.FfnRun.lean ====
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- The step within the row tile is the first, -/
def isA (i : grid0.Coords) : BitVec 1 := Scalar.cmpi .ne (Scalar.extui (Scalar.cmpi .eq (BitVec.ofNat 32 (i 2).val) 0#32) : BitVec 32) 0#32
/-- the second, -/
def isB (i : grid0.Coords) : BitVec 1 := Scalar.cmpi .ne (Scalar.extui (Scalar.cmpi .eq (BitVec.ofNat 32 (i 2).val) 1#32) : BitVec 32) 0#32
/-- one between the second and the last. -/
def isC (i : grid0.Coords) : BitVec 1 := Scalar.cmpi .ne (Scalar.extui (Scalar.andi (Scalar.cmpi .sgt (BitVec.ofNat 32 (i 2).val) 1#32) (Scalar.cmpi .slt (BitVec.ofNat 32 (i 2).val) 11#32)) : BitVec 32) 0#32

/-- The first step: the rows and their halo gathered, the first hidden tile. -/
@[irreducible] noncomputable def runA (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : isA i = 1#1) (hB : ¬ isB i = 1#1) (hC : ¬ isC i = 1#1) (hD : ¬ k0_cond4 i = 1#1)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f14 : Buf (Elt F) (arg14.view.loc (c : Thread nD τ))) (f15 : Buf (Elt F) (arg15.view.loc (c : Thread nD τ))) :
    Σ' (g14 : Buf (Elt F) (arg14.view.loc (c : Thread nD τ))),
    { g15 : Buf (Elt F) (arg15.view.loc (c : Thread nD τ)) //
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg14.view.loc (c : Thread nD τ) ↦[arg14.view.set]{fullShare} f14) ∗ (arg15.view.loc (c : Thread nD τ) ↦[arg15.view.set]{fullShare} f15))
        ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg14.view.loc (c : Thread nD τ) ↦[arg14.view.set]{fullShare} g14) ∗ (arg15.view.loc (c : Thread nD τ) ↦[arg15.view.set]{fullShare} g15))) } := by
  refine ⟨?_, ?_, ?run⟩
  case run =>
    rw [cc0_ffn_eq_skeleton]
    unfold cc0_ffn_skel
    unfold isA at hA; unfold isB at hB; unfold isC at hC
    iintro ⟨H3, H4, H5, H6, H7, H14, H15⟩
    sl_exec_parts
    sl_step
    sl_close

/-- The second step: the first down-projection opens the sum. -/
@[irreducible] noncomputable def runB (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : isB i = 1#1) (hC : ¬ isC i = 1#1) (hD : ¬ k0_cond4 i = 1#1)
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    Σ' (g15 : Buf (Elt F) (arg15.view.loc (c : Thread nD τ))),
    { g16 : Buf (Elt F) (arg16.view.loc (c : Thread nD τ)) //
      iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))
        ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16))) } := by
  refine ⟨?_, ?_, ?run⟩
  case run =>
    rw [cc0_ffn_eq_skeleton]
    unfold cc0_ffn_skel
    unfold isA at hA; unfold isB at hB; unfold isC at hC
    iintro ⟨H6, H7, H8, H9, H14, H15, H16⟩
    sl_exec_parts
    sl_step
    sl_close

/-- The middle step: one more down-projection added. -/
@[irreducible] noncomputable def runC (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : isC i = 1#1) (hD : ¬ k0_cond4 i = 1#1)
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    Σ' (g15 : Buf (Elt F) (arg15.view.loc (c : Thread nD τ))),
    { g16 : Buf (Elt F) (arg16.view.loc (c : Thread nD τ)) //
      iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))
        ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16))) } := by
  refine ⟨?_, ?_, ?run⟩
  case run =>
    rw [cc0_ffn_eq_skeleton]
    unfold cc0_ffn_skel
    unfold isA at hA; unfold isB at hB; unfold isC at hC
    iintro ⟨H6, H7, H8, H9, H14, H15, H16⟩
    sl_exec_parts
    sl_step
    sl_close

/-- The last step: the last down-projection, then the output. -/
@[irreducible] noncomputable def runD (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : ¬ isC i = 1#1) (hD : k0_cond4 i = 1#1)
    (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f15 : Buf (Elt F) (arg15.view.loc (c : Thread nD τ))) (f16 : Buf (Elt F) (arg16.view.loc (c : Thread nD τ))) :
    { g13 : Buf (Elt F) (arg13.view.loc (c : Thread nD τ)) //
      iprop((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15) ∗ (arg16.view.loc (c : Thread nD τ) ↦[arg16.view.set]{fullShare} f16))
        ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg15.view.loc (c : Thread nD τ) ↦[arg15.view.set]{fullShare} f15) ∗ (arg16.view.loc (c : Thread nD τ) ↦[arg16.view.set]{fullShare} f16))) } := by
  refine ⟨?_, ?run⟩
  case run =>
    rw [cc0_ffn_eq_skeleton]
    unfold cc0_ffn_skel
    unfold isA at hA; unfold isB at hB; unfold isC at hC
    iintro ⟨H8, H9, H10, H11, H12, H13, H15, H16⟩
    sl_exec_parts
    sl_step
    sl_close

end Cert.Kernel2Ideal.Ffn
-- ==== Proof.FfnStep.lean ====
module

public import proofs.«01_k».proof.Proof.FfnRun
public import Idealize.ShloMosaic.Lib.Pipeline.ValueKit
public import Idealize.ShloMosaic.Lib.Pipeline.FrameBody
public import Idealize.ShloMosaic.Lib.Tactic

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-! ## What each step leaves, from the blocks alone -/

/-- The tile's rows with the sixteen of its halo below. -/
def hhB (j : BitVec 32) (x3 : Vec F S1x512x2048 .bf16) (x4 x5 : Vec F S1x16x2048 .bf16) : Vec F S528x2048 .bf16 :=
  View.canon [⟨Rect.unit (s := S528x2048) ![512, 0] S16x2048.size inb_S528x2048_S16x2048_512_0, k0_pay11 j x5 x4⟩,
    ⟨Rect.unit (s := S528x2048) ![0, 0] S512x2048.size inb_S528x2048_S512x2048_0_0, k0_pay10 x3⟩]

/-- One hidden tile before the convolution: the gate's half and the value's half side by side. -/
def uB (hh : Vec F S528x2048 .bf16) (x6 x7 : Vec F S2048x512 .bf16) : Vec F S528x1024 .f32 :=
  View.canon [⟨Rect.unit (s := S528x1024) ![0, 512] S528x512.size inb_S528x1024_S528x512_0_512, k0_pay2 (k0_pay13 hh x7)⟩,
    ⟨Rect.unit (s := S528x1024) ![0, 0] S528x512.size inb_S528x1024_S528x512_0_0, k0_pay1 (k0_pay12 hh x6)⟩]

/-- Row `k` of the convolution's table. -/
def cw (k : ℕ) (x8 : Vec F S1x8x1024 .f32) : Vec F S1x1x1024 .f32 :=
  match k with
  | 0 => View.ld x8 (Rect.unit (s := S1x8x1024) ![0, 0, 0] S1x1x1024.size inb_S1x8x1024_S1x1x1024_0_0_0)
  | 1 => View.ld x8 (Rect.unit (s := S1x8x1024) ![0, 1, 0] S1x1x1024.size inb_S1x8x1024_S1x1x1024_0_1_0)
  | 2 => View.ld x8 (Rect.unit (s := S1x8x1024) ![0, 2, 0] S1x1x1024.size inb_S1x8x1024_S1x1x1024_0_2_0)
  | _ => View.ld x8 (Rect.unit (s := S1x8x1024) ![0, 3, 0] S1x1x1024.size inb_S1x8x1024_S1x1x1024_0_3_0)

/-- The sum's first term. -/
def dnB (u : Vec F S528x1024 .f32) (x8 : Vec F S1x8x1024 .f32) (x9 : Vec F S512x2048 .bf16) : Vec F S512x2048 .f32 :=
  k0_pay3 (k0_pay16 u (cw 0 x8) (cw 1 x8) (cw 2 x8) (cw 3 x8)) x9

/-- One more term. -/
def accC (a : Vec F S512x2048 .f32) (u : Vec F S528x1024 .f32) (x8 : Vec F S1x8x1024 .f32) (x9 : Vec F S512x2048 .bf16) : Vec F S512x2048 .f32 :=
  k0_pay6 a (k0_pay19 u (cw 0 x8) (cw 1 x8) (cw 2 x8) (cw 3 x8)) (k0_pay20 u (cw 0 x8) (cw 1 x8) (cw 2 x8) (cw 3 x8)) (k0_pay21 u (cw 0 x8) (cw 1 x8) (cw 2 x8) (cw 3 x8)) x9

/-- The output tile. -/
def outB (v15 : Vec F S1x2048 .f32) (x10 : Vec F S1x512x2048 .f32) (x12 : Vec F S1x2048 .f32) (a : Vec F S512x2048 .f32) (u : Vec F S528x1024 .f32) (x8 : Vec F S1x8x1024 .f32) (x9 : Vec F S512x2048 .bf16) : Vec F S1x512x2048 .f32 :=
  k0_pay9 v15 (k0_pay22 a u (cw 0 x8) (cw 1 x8) (cw 2 x8) (cw 3 x8) x9) x10 x12

/-! ## What the runs leave, read -/

theorem cover_cols (w₁ w₀ : Vec F S528x512 .f32) (y : S528x1024.Idx) :
    ∃ p ∈ [(⟨Rect.unit (s := S528x1024) ![0, 512] S528x512.size inb_S528x1024_S528x512_0_512, w₁⟩ : View.Piece (Elt F) S528x1024 .f32),
      ⟨Rect.unit (s := S528x1024) ![0, 0] S528x512.size inb_S528x1024_S528x512_0_0, w₀⟩], y ∈ p.1.set := by
  have h0 := (y 0).isLt
  have h1 := (y 1).isLt
  change (y 0).val < 528 at h0
  change (y 1).val < 1024 at h1
  by_cases h : (y 1).val < 512
  · refine ⟨_, List.mem_cons_of_mem _ List.mem_cons_self, (Rect.mem_set_unit (inb := inb_S528x1024_S528x512_0_0)).mpr fun a => ?_⟩
    fin_cases a
    · exact ⟨Nat.zero_le _, by change (y 0).val < 0 + 528; omega⟩
    · exact ⟨Nat.zero_le _, by change (y 1).val < 0 + 512; omega⟩
  · refine ⟨_, List.mem_cons_self, (Rect.mem_set_unit (inb := inb_S528x1024_S528x512_0_512)).mpr fun a => ?_⟩
    fin_cases a
    · exact ⟨Nat.zero_le _, by change (y 0).val < 0 + 528; omega⟩
    · exact ⟨by change 512 ≤ (y 1).val; omega, by change (y 1).val < 512 + 512; omega⟩

theorem cover_rows (w₁ : Vec F S16x2048 .bf16) (w₀ : Vec F S512x2048 .bf16) (y : S528x2048.Idx) :
    ∃ p ∈ [(⟨Rect.unit (s := S528x2048) ![512, 0] S16x2048.size inb_S528x2048_S16x2048_512_0, w₁⟩ : View.Piece (Elt F) S528x2048 .bf16),
      ⟨Rect.unit (s := S528x2048) ![0, 0] S512x2048.size inb_S528x2048_S512x2048_0_0, w₀⟩], y ∈ p.1.set := by
  have h0 := (y 0).isLt
  have h1 := (y 1).isLt
  change (y 0).val < 528 at h0
  change (y 1).val < 2048 at h1
  by_cases h : (y 0).val < 512
  · refine ⟨_, List.mem_cons_of_mem _ List.mem_cons_self, (Rect.mem_set_unit (inb := inb_S528x2048_S512x2048_0_0)).mpr fun a => ?_⟩
    fin_cases a
    · exact ⟨Nat.zero_le _, by change (y 0).val < 0 + 512; omega⟩
    · exact ⟨Nat.zero_le _, by change (y 1).val < 0 + 2048; omega⟩
  · refine ⟨_, List.mem_cons_self, (Rect.mem_set_unit (inb := inb_S528x2048_S16x2048_512_0)).mpr fun a => ?_⟩
    fin_cases a
    · exact ⟨by change 512 ≤ (y 0).val; omega, by change (y 0).val < 512 + 16; omega⟩
    · exact ⟨Nat.zero_le _, by change (y 1).val < 0 + 2048; omega⟩

theorem cover_whole {S : Shape} {e : EltTy} {off : Fin S.rank → ℕ} (inb : ∀ a, off a + S.size a ≤ S.size a) (h : ∀ a, off a = 0) (w : S.Idx → Elt F e) (y : S.Idx) :
    ∃ p ∈ [(⟨Rect.unit off S.size inb, w⟩ : View.Piece (Elt F) S e)], y ∈ p.1.set :=
  ⟨_, List.mem_cons_self, (Rect.mem_set_unit (inb := inb)).mpr fun a => ⟨by rw [h a]; exact Nat.zero_le _, by rw [h a]; have := (y a).isLt; omega⟩⟩

theorem v38_eq (c : Dev nD) (i : grid0.Coords) (arg3 : Memref sig .tc .vmem S1x512x2048 .bf16) (arg4 arg5 : Memref sig .tc .vmem S1x16x2048 .bf16) (arg14 : Memref sig .tc .vmem S528x2048 .bf16)
    (f3 : Buf (Elt F) (arg3.view.loc (c : Thread nD τ))) (f4 : Buf (Elt F) (arg4.view.loc (c : Thread nD τ))) (f5 : Buf (Elt F) (arg5.view.loc (c : Thread nD τ))) :
    runA.sl.v38 c i arg3 arg4 arg5 arg14 f3 f4 f5 = hhB (BitVec.ofNat 32 (i 1).val) (arg3.view.read (Elt F) f3) (arg4.view.read (Elt F) f4) (arg5.view.read (Elt F) f5) := by
  unfold runA.sl.v38 runA.sl.H14_2 hhB
  rw [View.readCov_eq_canon_ld _ _ _ (cover_rows _ _), View.ld_unit_lit inb_S528x2048_S528x2048_0_0 _ (by decide)]
  simp only [View.readAt_eq_ld]
  rw [View.ld_unit_lit inb_S1x512x2048_S1x512x2048_0_0_0 (arg3.view.read (Elt F) f3) (by decide), View.ld_unit_lit inb_S1x16x2048_S1x16x2048_0_0_0 (arg4.view.read (Elt F) f4) (by decide), View.ld_unit_lit inb_S1x16x2048_S1x16x2048_0_0_0 (arg5.view.read (Elt F) f5) (by decide)]

theorem read_runA_14 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : isA i = 1#1) (hB : ¬ isB i = 1#1) (hC : ¬ isC i = 1#1) (hD : ¬ k0_cond4 i = 1#1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f14 : Buf (Elt F) (arg14.view.loc (c : Thread nD τ))) (f15 : Buf (Elt F) (arg15.view.loc (c : Thread nD τ))) :
    arg14.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).1 = hhB (BitVec.ofNat 32 (i 1).val) (arg3.view.read (Elt F) f3) (arg4.view.read (Elt F) f4) (arg5.view.read (Elt F) f5) := by
  unfold runA
  dsimp only
  unfold runA.sl.H14_2
  rw [View.read_writes_eq_canon _ _ _ (cover_rows _ _)]
  unfold hhB
  simp only [View.readAt_eq_ld]
  skip
  rw [View.ld_unit_lit inb_S1x512x2048_S1x512x2048_0_0_0 (arg3.view.read (Elt F) f3) (by decide), View.ld_unit_lit inb_S1x16x2048_S1x16x2048_0_0_0 (arg4.view.read (Elt F) f4) (by decide), View.ld_unit_lit inb_S1x16x2048_S1x16x2048_0_0_0 (arg5.view.read (Elt F) f5) (by decide)]

theorem read_runA_15 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : isA i = 1#1) (hB : ¬ isB i = 1#1) (hC : ¬ isC i = 1#1) (hD : ¬ k0_cond4 i = 1#1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f14 : Buf (Elt F) (arg14.view.loc (c : Thread nD τ))) (f15 : Buf (Elt F) (arg15.view.loc (c : Thread nD τ))) :
    arg15.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).2.1 = uB (hhB (BitVec.ofNat 32 (i 1).val) (arg3.view.read (Elt F) f3) (arg4.view.read (Elt F) f4) (arg5.view.read (Elt F) f5)) (arg6.view.read (Elt F) f6) (arg7.view.read (Elt F) f7) := by
  unfold runA
  dsimp only
  skip
  rw [View.read_writes_eq_canon _ _ _ (cover_cols _ _)]
  unfold uB runA.sl.r runA.sl.r_1
  simp only [View.readAt_eq_ld]
  skip
  rw [View.ld_unit_lit inb_S2048x512_S2048x512_0_0 (arg6.view.read (Elt F) f6) (by decide), View.ld_unit_lit inb_S2048x512_S2048x512_0_0 (arg7.view.read (Elt F) f7) (by decide)]
  rw [v38_eq]

theorem read_runB_15 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : isB i = 1#1) (hC : ¬ isC i = 1#1) (hD : ¬ k0_cond4 i = 1#1) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    arg15.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).1 = uB (arg14.view.read (Elt F) f14) (arg6.view.read (Elt F) f6) (arg7.view.read (Elt F) f7) := by
  unfold runB
  dsimp only
  skip
  rw [View.read_writes_eq_canon _ _ _ (cover_cols _ _)]
  unfold uB runB.sl.r runB.sl.r_1
  simp only [View.readAt_eq_ld]
  skip
  rw [View.ld_unit_lit inb_S2048x512_S2048x512_0_0 (arg6.view.read (Elt F) f6) (by decide), View.ld_unit_lit inb_S2048x512_S2048x512_0_0 (arg7.view.read (Elt F) f7) (by decide), View.ld_unit_lit inb_S528x2048_S528x2048_0_0 (arg14.view.read (Elt F) f14) (by decide)]
  rfl

theorem read_runB_16 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : isB i = 1#1) (hC : ¬ isC i = 1#1) (hD : ¬ k0_cond4 i = 1#1) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    arg16.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.1 = dnB (arg15.view.read (Elt F) f15) (arg8.view.read (Elt F) f8) (arg9.view.read (Elt F) f9) := by
  unfold runB
  dsimp only
  skip
  rw [View.read_writes_eq_canon _ _ _ (cover_whole _ (by decide) _)]
  unfold dnB cw runB.sl.r_2
  simp only [View.readAt_eq_ld]
  rw [View.canon_cons_unit_lit _ _ _ (by decide)]
  rw [View.ld_unit_lit inb_S512x2048_S512x2048_0_0 (arg9.view.read (Elt F) f9) (by decide), View.ld_unit_lit inb_S528x1024_S528x1024_0_0 (arg15.view.read (Elt F) f15) (by decide)]

theorem read_runC_15 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : isC i = 1#1) (hD : ¬ k0_cond4 i = 1#1) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    arg15.view.read (Elt F) (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).1 = uB (arg14.view.read (Elt F) f14) (arg6.view.read (Elt F) f6) (arg7.view.read (Elt F) f7) := by
  unfold runC
  dsimp only
  skip
  rw [View.read_writes_eq_canon _ _ _ (cover_cols _ _)]
  unfold uB runC.sl.r runC.sl.r_1
  simp only [View.readAt_eq_ld]
  skip
  rw [View.ld_unit_lit inb_S2048x512_S2048x512_0_0 (arg6.view.read (Elt F) f6) (by decide), View.ld_unit_lit inb_S2048x512_S2048x512_0_0 (arg7.view.read (Elt F) f7) (by decide), View.ld_unit_lit inb_S528x2048_S528x2048_0_0 (arg14.view.read (Elt F) f14) (by decide)]
  rfl

theorem read_runC_16 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : isC i = 1#1) (hD : ¬ k0_cond4 i = 1#1) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    arg16.view.read (Elt F) (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.1 = accC (arg16.view.read (Elt F) f16) (arg15.view.read (Elt F) f15) (arg8.view.read (Elt F) f8) (arg9.view.read (Elt F) f9) := by
  unfold runC
  dsimp only
  skip
  rw [View.read_writes_eq_canon _ _ _ (cover_whole _ (by decide) _)]
  unfold accC cw runC.sl.r_2 runC.sl.r_3 runC.sl.r_4 runC.sl.r_5
  simp only [View.readAt_eq_ld]
  rw [View.canon_cons_unit_lit _ _ _ (by decide)]
  rw [View.ld_unit_lit inb_S512x2048_S512x2048_0_0 (arg9.view.read (Elt F) f9) (by decide), View.ld_unit_lit inb_S528x1024_S528x1024_0_0 (arg15.view.read (Elt F) f15) (by decide), View.ld_unit_lit inb_S512x2048_S512x2048_0_0 (arg16.view.read (Elt F) f16) (by decide)]

theorem read_runD_13 (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : ¬ isC i = 1#1) (hD : k0_cond4 i = 1#1) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f15 : Buf (Elt F) (arg15.view.loc (c : Thread nD τ))) (f16 : Buf (Elt F) (arg16.view.loc (c : Thread nD τ))) :
    arg13.view.read (Elt F) (runD c i arg3 harg3 arg4 harg4 arg5 harg5 arg6 harg6 arg7 harg7 arg8 harg8 arg9 harg9 arg10 harg10 arg11 harg11 arg12 harg12 arg13 harg13 arg14 harg14 arg15 harg15 arg16 harg16 hA hB hC hD f8 f9 f10 f11 f12 f13 f15 f16).1 = outB (View.ld (arg11.view.read (Elt F) f11) (Rect.unit (s := S8x12288) (k0_off1 i) S1x2048.size (k0_off1_inb i hD))) (arg10.view.read (Elt F) f10) (arg12.view.read (Elt F) f12) (arg16.view.read (Elt F) f16) (arg15.view.read (Elt F) f15) (arg8.view.read (Elt F) f8) (arg9.view.read (Elt F) f9) := by
  unfold runD
  dsimp only
  skip
  rw [View.read_writes_eq_canon _ _ _ (cover_whole _ (by decide) _)]
  unfold outB cw runD.sl.r runD.sl.r_1
  simp only [View.readAt_eq_ld]
  rw [View.canon_cons_unit_lit _ _ _ (by decide)]
  rw [View.ld_unit_lit inb_S512x2048_S512x2048_0_0 (arg9.view.read (Elt F) f9) (by decide), View.ld_unit_lit inb_S1x512x2048_S1x512x2048_0_0_0 (arg10.view.read (Elt F) f10) (by decide), View.ld_unit_lit inb_S1x2048_S1x2048_0_0 (arg12.view.read (Elt F) f12) (by decide), View.ld_unit_lit inb_S528x1024_S528x1024_0_0 (arg15.view.read (Elt F) f15) (by decide), View.ld_unit_lit inb_S512x2048_S512x2048_0_0 (arg16.view.read (Elt F) f16) (by decide)]

/-! ## Each step on whole buffers -/

theorem post_runA (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : isA i = 1#1) (hB : ¬ isB i = 1#1) (hC : ¬ isC i = 1#1) (hD : ¬ k0_cond4 i = 1#1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f14 : Buf (Elt F) (arg14.view.loc (c : Thread nD τ))) (f15 : Buf (Elt F) (arg15.view.loc (c : Thread nD τ))) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg14.view.loc (c : Thread nD τ) ↦[arg14.view.set]{fullShare} (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).1) ∗ (arg15.view.loc (c : Thread nD τ) ↦[arg15.view.set]{fullShare} (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).2.1)) : sProp 𝕄)
      ⊢ iprop(owns (c : Thread nD τ) arg3 fullShare (arg3.view.read (Elt F) f3) ∗ owns (c : Thread nD τ) arg4 fullShare (arg4.view.read (Elt F) f4) ∗ owns (c : Thread nD τ) arg5 fullShare (arg5.view.read (Elt F) f5) ∗ owns (c : Thread nD τ) arg6 fullShare (arg6.view.read (Elt F) f6) ∗ owns (c : Thread nD τ) arg7 fullShare (arg7.view.read (Elt F) f7) ∗ owns (c : Thread nD τ) arg14 fullShare (hhB (BitVec.ofNat 32 (i 1).val) (arg3.view.read (Elt F) f3) (arg4.view.read (Elt F) f4) (arg5.view.read (Elt F) f5)) ∗ owns (c : Thread nD τ) arg15 fullShare (uB (hhB (BitVec.ofNat 32 (i 1).val) (arg3.view.read (Elt F) f3) (arg4.view.read (Elt F) f4) (arg5.view.read (Elt F) f5)) (arg6.view.read (Elt F) f6) (arg7.view.read (Elt F) f7))) := by
  unfold owns
  iintro ⟨H3, H4, H5, H6, H7, H14, H15⟩
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H14]
  · iexists (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).1; isplitr; · ipureintro; exact read_runA_14 c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15
    iexact H14
  iexists (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).2.1; isplitr; · ipureintro; exact read_runA_15 c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15
  iexact H15

/-- The first step: the rows and their halo gathered, the first hidden tile. -/
theorem sound_A (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : isA i = 1#1) (hB : ¬ isB i = 1#1) (hC : ¬ isC i = 1#1) (hD : ¬ k0_cond4 i = 1#1) (x3 : Vec F S1x512x2048 .bf16) (x4 : Vec F S1x16x2048 .bf16) (x5 : Vec F S1x16x2048 .bf16) (x6 : Vec F S2048x512 .bf16) (x7 : Vec F S2048x512 .bf16) (x14 : Vec F S528x2048 .bf16) (x15 : Vec F S528x1024 .f32) (o14 : Vec F S528x2048 .bf16) (ho14 : hhB (BitVec.ofNat 32 (i 1).val) x3 x4 x5 = o14) (o15 : Vec F S528x1024 .f32) (ho15 : uB (hhB (BitVec.ofNat 32 (i 1).val) x3 x4 x5) x6 x7 = o15) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg14 fullShare x14 ∗ owns (c : Thread nD τ) arg15 fullShare x15)
      ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg14 fullShare o14 ∗ owns (c : Thread nD τ) arg15 fullShare o15)) := by
  subst ho14 ho15
  conv_lhs => unfold owns
  iintro ⟨⟨%f3, %hf3, H3⟩, ⟨%f4, %hf4, H4⟩, ⟨%f5, %hf5, H5⟩, ⟨%f6, %hf6, H6⟩, ⟨%f7, %hf7, H7⟩, ⟨%f14, %hf14, H14⟩, ⟨%f15, %hf15, H15⟩⟩
  subst hf3 hf4 hf5 hf6 hf7 hf14 hf15
  iapply (BI.BIBase.Entails.trans (runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15).2.2 (wp_mono _ _ _ fun _ => post_runA c i arg3 harg3 arg4 harg4 arg5 harg5 arg6 harg6 arg7 harg7 arg8 harg8 arg9 harg9 arg10 harg10 arg11 harg11 arg12 harg12 arg13 harg13 arg14 harg14 arg15 harg15 arg16 harg16 hA hB hC hD f3 f4 f5 f6 f7 f14 f15))
  isplitl [H3]; · iexact H3
  isplitl [H4]; · iexact H4
  isplitl [H5]; · iexact H5
  isplitl [H6]; · iexact H6
  isplitl [H7]; · iexact H7
  isplitl [H14]; · iexact H14
  iexact H15

theorem post_runB (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : isB i = 1#1) (hC : ¬ isC i = 1#1) (hD : ¬ k0_cond4 i = 1#1) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg14.view.loc (c : Thread nD τ) ↦[arg14.view.set]{fullShare} f14) ∗ (arg15.view.loc (c : Thread nD τ) ↦[arg15.view.set]{fullShare} (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).1) ∗ (arg16.view.loc (c : Thread nD τ) ↦[arg16.view.set]{fullShare} (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.1)) : sProp 𝕄)
      ⊢ iprop(owns (c : Thread nD τ) arg6 fullShare (arg6.view.read (Elt F) f6) ∗ owns (c : Thread nD τ) arg7 fullShare (arg7.view.read (Elt F) f7) ∗ owns (c : Thread nD τ) arg8 fullShare (arg8.view.read (Elt F) f8) ∗ owns (c : Thread nD τ) arg9 fullShare (arg9.view.read (Elt F) f9) ∗ owns (c : Thread nD τ) arg14 fullShare (arg14.view.read (Elt F) f14) ∗ owns (c : Thread nD τ) arg15 fullShare (uB (arg14.view.read (Elt F) f14) (arg6.view.read (Elt F) f6) (arg7.view.read (Elt F) f7)) ∗ owns (c : Thread nD τ) arg16 fullShare (dnB (arg15.view.read (Elt F) f15) (arg8.view.read (Elt F) f8) (arg9.view.read (Elt F) f9))) := by
  unfold owns
  iintro ⟨H6, H7, H8, H9, H14, H15, H16⟩
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H14]
  · iexists f14; isplitr; · ipureintro; rfl
    iexact H14
  isplitl [H15]
  · iexists (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).1; isplitr; · ipureintro; exact read_runB_15 c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16
    iexact H15
  iexists (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.1; isplitr; · ipureintro; exact read_runB_16 c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16
  iexact H16

/-- The second step: the first down-projection opens the sum. -/
theorem sound_B (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : isB i = 1#1) (hC : ¬ isC i = 1#1) (hD : ¬ k0_cond4 i = 1#1) (x6 : Vec F S2048x512 .bf16) (x7 : Vec F S2048x512 .bf16) (x8 : Vec F S1x8x1024 .f32) (x9 : Vec F S512x2048 .bf16) (x14 : Vec F S528x2048 .bf16) (x15 : Vec F S528x1024 .f32) (x16 : Vec F S512x2048 .f32) (o15 : Vec F S528x1024 .f32) (ho15 : uB x14 x6 x7 = o15) (o16 : Vec F S512x2048 .f32) (ho16 : dnB x15 x8 x9 = o16) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare x14 ∗ owns (c : Thread nD τ) arg15 fullShare x15 ∗ owns (c : Thread nD τ) arg16 fullShare x16)
      ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare x14 ∗ owns (c : Thread nD τ) arg15 fullShare o15 ∗ owns (c : Thread nD τ) arg16 fullShare o16)) := by
  subst ho15 ho16
  conv_lhs => unfold owns
  iintro ⟨⟨%f6, %hf6, H6⟩, ⟨%f7, %hf7, H7⟩, ⟨%f8, %hf8, H8⟩, ⟨%f9, %hf9, H9⟩, ⟨%f14, %hf14, H14⟩, ⟨%f15, %hf15, H15⟩, ⟨%f16, %hf16, H16⟩⟩
  subst hf6 hf7 hf8 hf9 hf14 hf15 hf16
  iapply (BI.BIBase.Entails.trans (runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.2 (wp_mono _ _ _ fun _ => post_runB c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16))
  isplitl [H6]; · iexact H6
  isplitl [H7]; · iexact H7
  isplitl [H8]; · iexact H8
  isplitl [H9]; · iexact H9
  isplitl [H14]; · iexact H14
  isplitl [H15]; · iexact H15
  iexact H16

theorem post_runC (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : isC i = 1#1) (hD : ¬ k0_cond4 i = 1#1) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg14.view.loc (c : Thread nD τ) ↦[arg14.view.set]{fullShare} f14) ∗ (arg15.view.loc (c : Thread nD τ) ↦[arg15.view.set]{fullShare} (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).1) ∗ (arg16.view.loc (c : Thread nD τ) ↦[arg16.view.set]{fullShare} (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.1)) : sProp 𝕄)
      ⊢ iprop(owns (c : Thread nD τ) arg6 fullShare (arg6.view.read (Elt F) f6) ∗ owns (c : Thread nD τ) arg7 fullShare (arg7.view.read (Elt F) f7) ∗ owns (c : Thread nD τ) arg8 fullShare (arg8.view.read (Elt F) f8) ∗ owns (c : Thread nD τ) arg9 fullShare (arg9.view.read (Elt F) f9) ∗ owns (c : Thread nD τ) arg14 fullShare (arg14.view.read (Elt F) f14) ∗ owns (c : Thread nD τ) arg15 fullShare (uB (arg14.view.read (Elt F) f14) (arg6.view.read (Elt F) f6) (arg7.view.read (Elt F) f7)) ∗ owns (c : Thread nD τ) arg16 fullShare (accC (arg16.view.read (Elt F) f16) (arg15.view.read (Elt F) f15) (arg8.view.read (Elt F) f8) (arg9.view.read (Elt F) f9))) := by
  unfold owns
  iintro ⟨H6, H7, H8, H9, H14, H15, H16⟩
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H14]
  · iexists f14; isplitr; · ipureintro; rfl
    iexact H14
  isplitl [H15]
  · iexists (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).1; isplitr; · ipureintro; exact read_runC_15 c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16
    iexact H15
  iexists (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.1; isplitr; · ipureintro; exact read_runC_16 c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16
  iexact H16

/-- The middle step: one more down-projection added. -/
theorem sound_C (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : isC i = 1#1) (hD : ¬ k0_cond4 i = 1#1) (x6 : Vec F S2048x512 .bf16) (x7 : Vec F S2048x512 .bf16) (x8 : Vec F S1x8x1024 .f32) (x9 : Vec F S512x2048 .bf16) (x14 : Vec F S528x2048 .bf16) (x15 : Vec F S528x1024 .f32) (x16 : Vec F S512x2048 .f32) (o15 : Vec F S528x1024 .f32) (ho15 : uB x14 x6 x7 = o15) (o16 : Vec F S512x2048 .f32) (ho16 : accC x16 x15 x8 x9 = o16) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare x14 ∗ owns (c : Thread nD τ) arg15 fullShare x15 ∗ owns (c : Thread nD τ) arg16 fullShare x16)
      ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare x14 ∗ owns (c : Thread nD τ) arg15 fullShare o15 ∗ owns (c : Thread nD τ) arg16 fullShare o16)) := by
  subst ho15 ho16
  conv_lhs => unfold owns
  iintro ⟨⟨%f6, %hf6, H6⟩, ⟨%f7, %hf7, H7⟩, ⟨%f8, %hf8, H8⟩, ⟨%f9, %hf9, H9⟩, ⟨%f14, %hf14, H14⟩, ⟨%f15, %hf15, H15⟩, ⟨%f16, %hf16, H16⟩⟩
  subst hf6 hf7 hf8 hf9 hf14 hf15 hf16
  iapply (BI.BIBase.Entails.trans (runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16).2.2 (wp_mono _ _ _ fun _ => post_runC c i arg3 harg3 arg4 harg4 arg5 harg5 arg6 harg6 arg7 harg7 arg8 harg8 arg9 harg9 arg10 harg10 arg11 harg11 arg12 harg12 arg13 harg13 arg14 harg14 arg15 harg15 arg16 harg16 hA hB hC hD f6 f7 f8 f9 f14 f15 f16))
  isplitl [H6]; · iexact H6
  isplitl [H7]; · iexact H7
  isplitl [H8]; · iexact H8
  isplitl [H9]; · iexact H9
  isplitl [H14]; · iexact H14
  isplitl [H15]; · iexact H15
  iexact H16

theorem post_runD (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : ¬ isC i = 1#1) (hD : k0_cond4 i = 1#1) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f15 : Buf (Elt F) (arg15.view.loc (c : Thread nD τ))) (f16 : Buf (Elt F) (arg16.view.loc (c : Thread nD τ))) :
    (iprop((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} (runD c i arg3 harg3 arg4 harg4 arg5 harg5 arg6 harg6 arg7 harg7 arg8 harg8 arg9 harg9 arg10 harg10 arg11 harg11 arg12 harg12 arg13 harg13 arg14 harg14 arg15 harg15 arg16 harg16 hA hB hC hD f8 f9 f10 f11 f12 f13 f15 f16).1) ∗ (arg15.view.loc (c : Thread nD τ) ↦[arg15.view.set]{fullShare} f15) ∗ (arg16.view.loc (c : Thread nD τ) ↦[arg16.view.set]{fullShare} f16)) : sProp 𝕄)
      ⊢ iprop(owns (c : Thread nD τ) arg8 fullShare (arg8.view.read (Elt F) f8) ∗ owns (c : Thread nD τ) arg9 fullShare (arg9.view.read (Elt F) f9) ∗ owns (c : Thread nD τ) arg10 fullShare (arg10.view.read (Elt F) f10) ∗ owns (c : Thread nD τ) arg11 fullShare (arg11.view.read (Elt F) f11) ∗ owns (c : Thread nD τ) arg12 fullShare (arg12.view.read (Elt F) f12) ∗ owns (c : Thread nD τ) arg13 fullShare (outB (View.ld (arg11.view.read (Elt F) f11) (Rect.unit (s := S8x12288) (k0_off1 i) S1x2048.size (k0_off1_inb i hD))) (arg10.view.read (Elt F) f10) (arg12.view.read (Elt F) f12) (arg16.view.read (Elt F) f16) (arg15.view.read (Elt F) f15) (arg8.view.read (Elt F) f8) (arg9.view.read (Elt F) f9)) ∗ owns (c : Thread nD τ) arg15 fullShare (arg15.view.read (Elt F) f15) ∗ owns (c : Thread nD τ) arg16 fullShare (arg16.view.read (Elt F) f16)) := by
  unfold owns
  iintro ⟨H8, H9, H10, H11, H12, H13, H15, H16⟩
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists (runD c i arg3 harg3 arg4 harg4 arg5 harg5 arg6 harg6 arg7 harg7 arg8 harg8 arg9 harg9 arg10 harg10 arg11 harg11 arg12 harg12 arg13 harg13 arg14 harg14 arg15 harg15 arg16 harg16 hA hB hC hD f8 f9 f10 f11 f12 f13 f15 f16).1; isplitr; · ipureintro; exact read_runD_13 c i arg3 harg3 arg4 harg4 arg5 harg5 arg6 harg6 arg7 harg7 arg8 harg8 arg9 harg9 arg10 harg10 arg11 harg11 arg12 harg12 arg13 harg13 arg14 harg14 arg15 harg15 arg16 harg16 hA hB hC hD f8 f9 f10 f11 f12 f13 f15 f16
    iexact H13
  isplitl [H15]
  · iexists f15; isplitr; · ipureintro; rfl
    iexact H15
  iexists f16; isplitr; · ipureintro; rfl
  iexact H16

/-- The last step: the last down-projection, then the output. -/
theorem sound_D (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x8x1024 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S8x12288 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S528x2048 .bf16) (harg14 : arg14.IsWhole) (arg15 : Memref sig .tc .vmem S528x1024 .f32) (harg15 : arg15.IsWhole) (arg16 : Memref sig .tc .vmem S512x2048 .f32) (harg16 : arg16.IsWhole)
    (hA : ¬ isA i = 1#1) (hB : ¬ isB i = 1#1) (hC : ¬ isC i = 1#1) (hD : k0_cond4 i = 1#1) (x8 : Vec F S1x8x1024 .f32) (x9 : Vec F S512x2048 .bf16) (x10 : Vec F S1x512x2048 .f32) (x11 : Vec F S8x12288 .f32) (x12 : Vec F S1x2048 .f32) (x13 : Vec F S1x512x2048 .f32) (x15 : Vec F S528x1024 .f32) (x16 : Vec F S512x2048 .f32) (o13 : Vec F S1x512x2048 .f32) (ho13 : outB (View.ld x11 (Rect.unit (s := S8x12288) (k0_off1 i) S1x2048.size (k0_off1_inb i hD))) x10 x12 x16 x15 x8 x9 = o13) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg16 fullShare x16)
      ⊢ wp (M := 𝕄) frame (wpE (defs₀ (F := F)) Variants.none (c : Thread nD τ) none) Set.univ (cc0_ffn (F := F) i arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare o13 ∗ owns (c : Thread nD τ) arg15 fullShare x15 ∗ owns (c : Thread nD τ) arg16 fullShare x16)) := by
  subst ho13
  conv_lhs => unfold owns
  iintro ⟨⟨%f8, %hf8, H8⟩, ⟨%f9, %hf9, H9⟩, ⟨%f10, %hf10, H10⟩, ⟨%f11, %hf11, H11⟩, ⟨%f12, %hf12, H12⟩, ⟨%f13, %hf13, H13⟩, ⟨%f15, %hf15, H15⟩, ⟨%f16, %hf16, H16⟩⟩
  subst hf8 hf9 hf10 hf11 hf12 hf13 hf15 hf16
  iapply (BI.BIBase.Entails.trans (runD c i arg3 harg3 arg4 harg4 arg5 harg5 arg6 harg6 arg7 harg7 arg8 harg8 arg9 harg9 arg10 harg10 arg11 harg11 arg12 harg12 arg13 harg13 arg14 harg14 arg15 harg15 arg16 harg16 hA hB hC hD f8 f9 f10 f11 f12 f13 f15 f16).2 (wp_mono _ _ _ fun _ => post_runD c i arg3 harg3 arg4 harg4 arg5 harg5 arg6 harg6 arg7 harg7 arg8 harg8 arg9 harg9 arg10 harg10 arg11 harg11 arg12 harg12 arg13 harg13 arg14 harg14 arg15 harg15 arg16 harg16 hA hB hC hD f8 f9 f10 f11 f12 f13 f15 f16))
  isplitl [H8]; · iexact H8
  isplitl [H9]; · iexact H9
  isplitl [H10]; · iexact H10
  isplitl [H11]; · iexact H11
  isplitl [H12]; · iexact H12
  isplitl [H13]; · iexact H13
  isplitl [H15]; · iexact H15
  iexact H16

end Cert.Kernel2Ideal.Ffn
-- ==== Proof.FfnFrame.lean ====
module

public import proofs.«01_k».proof.Proof.FfnStep
public import Idealize.ShloMosaic.Lib.Pipeline.ValueKit
public import Idealize.ShloMosaic.Lib.Pipeline.FrameBody
public import Idealize.ShloMosaic.Lib.Tactic

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-! ## The points of the grid -/

/-- Step `f` of row tile `r`. -/
def pt (r f : ℕ) : Fin cfg0.N := ⟨(12 * r + f) % 384, by have hN : cfg0.N = 384 := N_0; rw [hN]; exact Nat.mod_lt _ (by norm_num)⟩

theorem pt_eq (t : Fin cfg0.N) (f : ℕ) (h : t.val % 12 = f) : pt (t.val / 12) f = t := by
  have hN : cfg0.N = 384 := N_0
  have := t.isLt
  apply Fin.ext
  show (12 * (t.val / 12) + f) % 384 = t.val
  omega

theorem isA_iff : ∀ t : Fin cfg0.N, isA (grid0.coords t) = 1#1 ↔ t.val % 12 = 0 :=
  (by decide +kernel : ∀ t : Fin grid0.N, isA (grid0.coords t) = 1#1 ↔ t.val % 12 = 0)
theorem isB_iff : ∀ t : Fin cfg0.N, isB (grid0.coords t) = 1#1 ↔ t.val % 12 = 1 :=
  (by decide +kernel : ∀ t : Fin grid0.N, isB (grid0.coords t) = 1#1 ↔ t.val % 12 = 1)
theorem isC_iff : ∀ t : Fin cfg0.N, isC (grid0.coords t) = 1#1 ↔ (1 < t.val % 12 ∧ t.val % 12 < 11) :=
  (by decide +kernel : ∀ t : Fin grid0.N, isC (grid0.coords t) = 1#1 ↔ (1 < t.val % 12 ∧ t.val % 12 < 11))
theorem isD_iff : ∀ t : Fin cfg0.N, k0_cond4 (grid0.coords t) = 1#1 ↔ t.val % 12 = 11 :=
  (by decide +kernel : ∀ t : Fin grid0.N, k0_cond4 (grid0.coords t) = 1#1 ↔ t.val % 12 = 11)

theorem isD_pt (r : ℕ) : k0_cond4 (grid0.coords (pt r 11)) = 1#1 :=
  (isD_iff _).mpr (by show (12 * r + 11) % 384 % 12 = 11; omega)

/-! ## What a row tile's steps leave -/

variable (m : (ℓ : Loc nD τ sig) → Buf (Elt F) ℓ) (ρ : Dev nD → PrngReg)

/-- The rows of tile `r` and their halo. -/
def HH (c : Dev nD) (r : ℕ) : Vec F S528x2048 .bf16 :=
  hhB (BitVec.ofNat 32 (grid0.coords (pt r 0) 1).val) (iblk m c 0 (pt r 0)) (iblk m c 1 (pt r 0)) (iblk m c 2 (pt r 0))
/-- Hidden tile `f` of them. -/
def UU (c : Dev nD) (r f : ℕ) : Vec F S528x1024 .f32 := uB (HH m c r) (iblk m c 3 (pt r f)) (iblk m c 4 (pt r f))
/-- The sum of the first `g + 1` down-projections. -/
def ACC (c : Dev nD) (r : ℕ) : ℕ → Vec F S512x2048 .f32
  | 0 => dnB (UU m c r 0) (iblk m c 5 (pt r 1)) (iblk m c 6 (pt r 1))
  | g + 1 => accC (ACC c r g) (UU m c r (g + 1)) (iblk m c 5 (pt r (g + 2))) (iblk m c 6 (pt r (g + 2)))
/-- The output tile of a last step, -/
def OUTat (c : Dev nD) (t : Fin cfg0.N) (hD : k0_cond4 (grid0.coords t) = 1#1) (a : Vec F S512x2048 .f32) (u : Vec F S528x1024 .f32) : Vec F S1x512x2048 .f32 :=
  outB (View.ld (iblk m c 8 t) (Rect.unit (s := S8x12288) (k0_off1 (grid0.coords t)) S1x2048.size (k0_off1_inb _ hD)))
    (iblk m c 7 t) (iblk m c 9 t) a u (iblk m c 5 t) (iblk m c 6 t)
theorem OUTat_congr (c : Dev nD) {t t' : Fin cfg0.N} (e : t' = t) (hD hD') (a : Vec F S512x2048 .f32) (u : Vec F S528x1024 .f32) : OUTat m c t hD a u = OUTat m c t' hD' a u := by
  subst e; rfl
/-- and of a row tile. -/
def OUT (c : Dev nD) (r : ℕ) : Vec F S1x512x2048 .f32 := OUTat m c (pt r 11) (isD_pt r) (ACC m c r 9) (UU m c r 10)

/-! ## The pipeline's proof data -/

/-- What the scratch holds before point `k`: past a row tile's first step its rows and the last hidden tile, past
    its second the sum so far. -/
def PhiS (c : Dev nD) (k : ℕ) : sProp 𝕄 :=
  iprop(∃ x0 : Vec F S528x2048 .bf16, ∃ x1 : Vec F S528x1024 .f32, ∃ x2 : Vec F S512x2048 .f32,
    ⌜(k % 12 ≠ 0 → x0 = HH m c (k / 12) ∧ x1 = UU m c (k / 12) (k % 12 - 1)) ∧ (2 ≤ k % 12 → x2 = ACC m c (k / 12) (k % 12 - 2))⌝
    ∗ owns (c : Thread nD τ) (Memref.whole cc0_scratch0) fullShare x0 ∗ owns (c : Thread nD τ) (Memref.whole cc0_scratch1) fullShare x1
    ∗ owns (c : Thread nD τ) (Memref.whole cc0_scratch2) fullShare x2 ∗ (∃ r, prngReg c r))

/-- The proof data: the arrays as found; each input's buffer at its block and the output's at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT m c (t.val / 12)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = OUT m c (t.val / 12) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- A whole scratch buffer, as the body's memref has it. -/
theorem scratch_eq (c : Dev nD) (b : Ref sig .tc) (f : Buf (Elt F) ((c : Thread nD τ).loc b)) :
    ((((c : Thread nD τ).loc b) ↦{fullShare} f) : sProp 𝕄) = ((Memref.whole b).view.loc (c : Thread nD τ) ↦[(Memref.whole b).view.set]{fullShare} f) := by
  rw [(Memref.isWhole_whole b).set_eq_univ]

/-- Before the first point the scratch may hold anything, -/
theorem Phi_first (c : Dev nD) : Pipeline.ΦA spec0 c ⊢ PhiS m c 0 := by
  unfold Pipeline.ΦA PhiS
  rw [scopedRest0_eq]
  simp only [scratch_eq]
  iintro ⟨⟨⟨%f0, H0⟩, ⟨%f1, H1⟩, ⟨%f2, H2⟩⟩, Hr⟩
  iexists (Memref.whole cc0_scratch0).view.read (Elt F) f0
  iexists (Memref.whole cc0_scratch1).view.read (Elt F) f1
  iexists (Memref.whole cc0_scratch2).view.read (Elt F) f2
  isplitr
  · ipureintro
    exact ⟨fun h => absurd rfl h, fun h => absurd h (by norm_num)⟩
  unfold owns
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact Hr

/-- and whatever it holds after the last may be forgotten. -/
theorem Phi_last (c : Dev nD) (k : ℕ) : PhiS m c k ⊢ Pipeline.ΦA spec0 c := by
  unfold Pipeline.ΦA PhiS
  rw [scopedRest0_eq]
  simp only [scratch_eq]
  unfold owns
  iintro ⟨%x0, %x1, %x2, -, ⟨%f0, -, H0⟩, ⟨%f1, -, H1⟩, ⟨%f2, -, H2⟩, Hr⟩
  isplitl [H0 H1 H2]
  · isplitl [H0]; · iexists f0; iexact H0
    isplitl [H1]; · iexists f1; iexact H1
    iexists f2; iexact H2
  iexact Hr

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (dats m 0 c).leavesExact 10 t)

theorem leaves_idle (c : Dev nD) (t : Fin cfg0.N) (h : t.val % 12 ≠ 11) :
    (dats m 0 c).leavesExact 10 t = iprop(∃ d, owns (c : Thread nD τ) (st0_10 t) fullShare ((dats m 0 c).before 10 t d)) := by
  refine (dats m 0 c).leavesExact_idle 10 t ?_ ?_
  · show (!(k0_cond4 (grid0.coords t) == 1#1)) = true
    have : ¬ k0_cond4 (grid0.coords t) = 1#1 := fun e => h ((isD_iff t).mp e)
    simp [this]
  · exact Bool.eq_false_iff.mpr fun e => h ((flush0_10 t).mp e)

theorem leaves_live (c : Dev nD) (t : Fin cfg0.N) (h : t.val % 12 = 11) :
    (dats m 0 c).leavesExact 10 t = owns (c : Thread nD τ) (st0_10 t) fullShare (OUT m c (t.val / 12)) := by
  have hi : cfg0.idle 10 (cfg0.grid.coords t) = false := by
    show (!(k0_cond4 (grid0.coords t) == 1#1)) = false
    simp [(isD_iff t).mpr h]
  unfold Dat.leavesExact
  rw [hi]
  rfl

theorem sound_body_A (c : Dev nD) (t : Fin cfg0.N) (h : t.val % 12 = 0) :
    bodyPre m c t ⊢ wp frame (wpE (defs₀ (F := F)) Variants.none c none) Set.univ (bodyAt0 t) (fun _ => bodyPost m c t) := by
  have hA : isA (grid0.coords t) = 1#1 := (isA_iff t).mpr h
  have hB : ¬ isB (grid0.coords t) = 1#1 := fun e => by have := (isB_iff t).mp e; omega
  have hC : ¬ isC (grid0.coords t) = 1#1 := fun e => by have := (isC_iff t).mp e; omega
  have hD : ¬ k0_cond4 (grid0.coords t) = 1#1 := fun e => by have := (isD_iff t).mp e; omega
  unfold bodyPre bodyPost bodyAt0
  simp only [before0_0, before0_1, before0_2, before0_3, before0_4, before0_5, before0_6, before0_7, before0_8, before0_9]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after0_0, after0_1, after0_2, after0_3, after0_4, after0_5, after0_6, after0_7, after0_8, after0_9, leaves_idle m c t (by omega)]
  unfold PhiS
  iintro ⟨⟨%x0, %x1, %x2, %hx, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := pt_eq t 0 h
  have eH : hhB (BitVec.ofNat 32 (grid0.coords t 1).val) (iblk m c 0 t) (iblk m c 1 t) (iblk m c 2 t) = HH m c (t.val / 12) := by unfold HH; rw [e0]
  have eU : uB (hhB (BitVec.ofNat 32 (grid0.coords t 1).val) (iblk m c 0 t) (iblk m c 1 t) (iblk m c 2 t)) (iblk m c 3 t) (iblk m c 4 t) = UU m c (t.val / 12) 0 := by rw [eH]; unfold UU; rw [e0]
  iapply (wp_wand_r frame _ _)
  isplitl [H0 H1 H2 H3 H4 S0 S1]
  · iapply (sound_A c (grid0.coords t) _ _ _ _ _ _ _ _ _ _ _ _ _ _ _ _ _ _ _ _ _ _ _ _ _ _ _ _  hA hB hC hD (iblk m c 0 t) (iblk m c 1 t) (iblk m c 2 t) (iblk m c 3 t) (iblk m c 4 t) _ _ _ eH _ eU)
    isplitl [H0]; · iexact H0
    isplitl [H1]; · iexact H1
    isplitl [H2]; · iexact H2
    isplitl [H3]; · iexact H3
    isplitl [H4]; · iexact H4
    isplitl [S0]; · iexact S0
    iexact S1
  · iintro %u ⟨H0, H1, H2, H3, H4, S0, S1⟩
    isplitl [S0 S1 S2 Hr]
    · iexists (HH m c (t.val / 12)); iexists (UU m c (t.val / 12) 0); iexists x2
      isplitr
      · ipureintro
        have q : (t.val + 1) / 12 = t.val / 12 := by omega
        have s : (t.val + 1) % 12 = 1 := by omega
        rw [q, s]
        exact ⟨fun _ => ⟨rfl, rfl⟩, fun h => absurd h (by norm_num)⟩
      isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

theorem sound_body_B (c : Dev nD) (t : Fin cfg0.N) (h : t.val % 12 = 1) :
    bodyPre m c t ⊢ wp frame (wpE (defs₀ (F := F)) Variants.none c none) Set.univ (bodyAt0 t) (fun _ => bodyPost m c t) := by
  have hA : ¬ isA (grid0.coords t) = 1#1 := fun e => by have := (isA_iff t).mp e; omega
  have hB : isB (grid0.coords t) = 1#1 := (isB_iff t).mpr h
  have hC : ¬ isC (grid0.coords t) = 1#1 := fun e => by have := (isC_iff t).mp e; omega
  have hD : ¬ k0_cond4 (grid0.coords t) = 1#1 := fun e => by have := (isD_iff t).mp e; omega
  unfold bodyPre bodyPost bodyAt0
  simp only [before0_0, before0_1, before0_2, before0_3, before0_4, before0_5, before0_6, before0_7, before0_8, before0_9]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after0_0, after0_1, after0_2, after0_3, after0_4, after0_5, after0_6, after0_7, after0_8, after0_9, leaves_idle m c t (by omega)]
  unfold PhiS
  iintro ⟨⟨%x0, %x1, %x2, %hx, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨e0, e1⟩ := hx.1 (by omega)
  subst e0 e1
  have e := pt_eq t 1 h
  have eU : uB (HH m c (t.val / 12)) (iblk m c 3 t) (iblk m c 4 t) = UU m c (t.val / 12) 1 := by unfold UU; rw [e]
  have eA : dnB (UU m c (t.val / 12) (t.val % 12 - 1)) (iblk m c 5 t) (iblk m c 6 t) = ACC m c (t.val / 12) 0 := by rw [h]; unfold ACC; rw [e]
  iapply (wp_wand_r frame _ _)
  isplitl [H3 H4 H5 H6 S0 S1 S2]
  · iapply (sound_B c (grid0.coords t) _ _ _ _ _ _ _ _ _ _ _ _ _ _ _ _ _ _ _ _ _ _ _ _ _ _ _ _  hA hB hC hD (iblk m c 3 t) (iblk m c 4 t) (iblk m c 5 t) (iblk m c 6 t) _ _ _ _ eU _ eA)
    isplitl [H3]; · iexact H3
    isplitl [H4]; · iexact H4
    isplitl [H5]; · iexact H5
    isplitl [H6]; · iexact H6
    isplitl [S0]; · iexact S0
    isplitl [S1]; · iexact S1
    iexact S2
  · iintro %u ⟨H3, H4, H5, H6, S0, S1, S2⟩
    isplitl [S0 S1 S2 Hr]
    · iexists (HH m c (t.val / 12)); iexists (UU m c (t.val / 12) 1); iexists (ACC m c (t.val / 12) 0)
      isplitr
      · ipureintro
        have q : (t.val + 1) / 12 = t.val / 12 := by omega
        have s : (t.val + 1) % 12 = 2 := by omega
        rw [q, s]
        exact ⟨fun _ => ⟨rfl, rfl⟩, fun _ => rfl⟩
      isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

theorem sound_body_C (c : Dev nD) (t : Fin cfg0.N) (h : 1 < t.val % 12 ∧ t.val % 12 < 11) :
    bodyPre m c t ⊢ wp frame (wpE (defs₀ (F := F)) Variants.none c none) Set.univ (bodyAt0 t) (fun _ => bodyPost m c t) := by
  have hA : ¬ isA (grid0.coords t) = 1#1 := fun e => by have := (isA_iff t).mp e; omega
  have hB : ¬ isB (grid0.coords t) = 1#1 := fun e => by have := (isB_iff t).mp e; omega
  have hC : isC (grid0.coords t) = 1#1 := (isC_iff t).mpr h
  have hD : ¬ k0_cond4 (grid0.coords t) = 1#1 := fun e => by have := (isD_iff t).mp e; omega
  unfold bodyPre bodyPost bodyAt0
  simp only [before0_0, before0_1, before0_2, before0_3, before0_4, before0_5, before0_6, before0_7, before0_8, before0_9]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after0_0, after0_1, after0_2, after0_3, after0_4, after0_5, after0_6, after0_7, after0_8, after0_9, leaves_idle m c t (by omega)]
  unfold PhiS
  iintro ⟨⟨%x0, %x1, %x2, %hx, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨e0, e1⟩ := hx.1 (by omega)
  have e2 := hx.2 (by omega)
  subst e0 e1 e2
  obtain ⟨g, hg⟩ : ∃ g, t.val % 12 = g + 2 := ⟨t.val % 12 - 2, by omega⟩
  have e := pt_eq t (g + 2) hg
  have eU : uB (HH m c (t.val / 12)) (iblk m c 3 t) (iblk m c 4 t) = UU m c (t.val / 12) (g + 2) := by unfold UU; rw [e]
  have eA : accC (ACC m c (t.val / 12) (t.val % 12 - 2)) (UU m c (t.val / 12) (t.val % 12 - 1)) (iblk m c 5 t) (iblk m c 6 t) = ACC m c (t.val / 12) (g + 1) := by
    rw [hg, show g + 2 - 2 = g from rfl, show g + 2 - 1 = g + 1 from rfl]; conv_rhs => unfold ACC
    rw [e]
  iapply (wp_wand_r frame _ _)
  isplitl [H3 H4 H5 H6 S0 S1 S2]
  · iapply (sound_C c (grid0.coords t) _ _ _ _ _ _ _ _ _ _ _ _ _ _ _ _ _ _ _ _ _ _ _ _ _ _ _ _  hA hB hC hD (iblk m c 3 t) (iblk m c 4 t) (iblk m c 5 t) (iblk m c 6 t) _ _ _ _ eU _ eA)
    isplitl [H3]; · iexact H3
    isplitl [H4]; · iexact H4
    isplitl [H5]; · iexact H5
    isplitl [H6]; · iexact H6
    isplitl [S0]; · iexact S0
    isplitl [S1]; · iexact S1
    iexact S2
  · iintro %u ⟨H3, H4, H5, H6, S0, S1, S2⟩
    isplitl [S0 S1 S2 Hr]
    · iexists (HH m c (t.val / 12)); iexists (UU m c (t.val / 12) (g + 2)); iexists (ACC m c (t.val / 12) (g + 1))
      isplitr
      · ipureintro
        have q : (t.val + 1) / 12 = t.val / 12 := by omega
        have s : (t.val + 1) % 12 = g + 3 := by omega
        rw [q, s]
        exact ⟨fun _ => ⟨rfl, rfl⟩, fun _ => rfl⟩
      isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

theorem sound_body_D (c : Dev nD) (t : Fin cfg0.N) (h : t.val % 12 = 11) :
    bodyPre m c t ⊢ wp frame (wpE (defs₀ (F := F)) Variants.none c none) Set.univ (bodyAt0 t) (fun _ => bodyPost m c t) := by
  have hA : ¬ isA (grid0.coords t) = 1#1 := fun e => by have := (isA_iff t).mp e; omega
  have hB : ¬ isB (grid0.coords t) = 1#1 := fun e => by have := (isB_iff t).mp e; omega
  have hC : ¬ isC (grid0.coords t) = 1#1 := fun e => by have := (isC_iff t).mp e; omega
  have hD : k0_cond4 (grid0.coords t) = 1#1 := (isD_iff t).mpr h
  unfold bodyPre bodyPost bodyAt0
  simp only [before0_0, before0_1, before0_2, before0_3, before0_4, before0_5, before0_6, before0_7, before0_8, before0_9]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after0_0, after0_1, after0_2, after0_3, after0_4, after0_5, after0_6, after0_7, after0_8, after0_9, leaves_live m c t h]
  unfold PhiS
  iintro ⟨⟨%x0, %x1, %x2, %hx, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨e0, e1⟩ := hx.1 (by omega)
  have e2 := hx.2 (by omega)
  subst e0 e1 e2
  have e := pt_eq t 11 h
  have eO : OUTat m c t hD (ACC m c (t.val / 12) (t.val % 12 - 2)) (UU m c (t.val / 12) (t.val % 12 - 1)) = OUT m c (t.val / 12) := by
    rw [h]; exact OUTat_congr m c e _ _ _ _
  iapply (wp_wand_r frame _ _)
  isplitl [H5 H6 H7 H8 H9 H10 S1 S2]
  · iapply (sound_D c (grid0.coords t) _ _ _ _ _ _ _ _ _ _ _ _ _ _ _ _ _ _ _ _ _ _ _ _ _ _ _ _  hA hB hC hD (iblk m c 5 t) (iblk m c 6 t) (iblk m c 7 t) (iblk m c 8 t) (iblk m c 9 t) _ _ _ _ eO)
    isplitl [H5]; · iexact H5
    isplitl [H6]; · iexact H6
    isplitl [H7]; · iexact H7
    isplitl [H8]; · iexact H8
    isplitl [H9]; · iexact H9
    isplitl [H10]; · iexact H10
    isplitl [S1]; · iexact S1
    iexact S2
  · iintro %u ⟨H5, H6, H7, H8, H9, H10, S1, S2⟩
    isplitl [S0 S1 S2 Hr]
    · iexists (HH m c (t.val / 12)); iexists (UU m c (t.val / 12) (t.val % 12 - 1)); iexists (ACC m c (t.val / 12) (t.val % 12 - 2))
      isplitr
      · ipureintro
        have s : (t.val + 1) % 12 = 0 := by omega
        rw [s]
        exact ⟨fun h => absurd rfl h, fun h => absurd h (by norm_num)⟩
      isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem sound_body (c : Dev nD) (t : Fin cfg0.N) :
    bodyPre m c t ⊢ wp frame (wpE (defs₀ (F := F)) Variants.none c none) Set.univ (bodyAt0 t) (fun _ => bodyPost m c t) := by
  have hl : t.val % 12 < 12 := Nat.mod_lt _ (by norm_num)
  rcases (by omega : t.val % 12 = 0 ∨ t.val % 12 = 1 ∨ (1 < t.val % 12 ∧ t.val % 12 < 11) ∨ t.val % 12 = 11) with h | h | h | h
  · exact sound_body_A m c t h
  · exact sound_body_B m c t h
  · exact sound_body_C m c t h
  · exact sound_body_D m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays end as the proof data say, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Phi_first m c) (hout := fun c => Phi_last m c _)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Ffn
-- ==== Proof.FfnRead.lean ====
/- The feed-forward kernel's steps on one tile, read at an index over the extended reals. -/
module

public import proofs.«01_k».proof.Proof.FfnFrame
public import Idealize.ShloMosaic.Lib.Pointwise

@[expose] public section

set_option maxRecDepth 16384

noncomputable section

namespace Cert.Kernel2Ideal.Ffn

open Cert.Kernel2Ideal Cert.Kernel2Ideal.Gen Idealize.ShloMosaic

/-- The convolution of the rows of a tile. -/
def convB (u : Vec Ideal S528x1024 .f32) (a0 a1 a2 a3 : Vec Ideal S1x1x1024 .f32) (x : Fin 512) (y : Fin 1024) : EReal :=
  a0 (ix3 0 0 y) * u (ix2 ⟨(x.val + 528 - 1) % 528, Nat.mod_lt _ (by decide)⟩ y) + a1 (ix3 0 0 y) * u (ix2 ⟨x.val, by omega⟩ y)
    + a2 (ix3 0 0 y) * u (ix2 ⟨(x.val + 528 - 527) % 528, Nat.mod_lt _ (by decide)⟩ y) + a3 (ix3 0 0 y)

abbrev gateB (j : Fin 512) : Fin 1024 := ⟨j.val, by omega⟩
abbrev valueB (j : Fin 512) : Fin 1024 := ⟨512 + j.val, by omega⟩

/-- The gated hidden layer of a tile. -/
def actB (u : Vec Ideal S528x1024 .f32) (a0 a1 a2 a3 : Vec Ideal S1x1x1024 .f32) (x : Fin 512) (j : Fin 512) : EReal :=
  convB u a0 a1 a2 a3 x (gateB j) * Ideal.logistic (convB u a0 a1 a2 a3 x (gateB j)) * convB u a0 a1 a2 a3 x (valueB j)

variable (u : Vec Ideal S528x1024 .f32) (a0 a1 a2 a3 : Vec Ideal S1x1x1024 .f32)

theorem pay16_at (x : Fin 512) (j : Fin 512) : k0_pay16 (F := Ideal) u a0 a1 a2 a3 (ix2 x j) = actB u a0 a1 a2 a3 x j := by
  unfold_payloads
  pointwise
  rfl

theorem pay3_at (p : FVec Ideal S512x512 .f32) (w : Vec Ideal S512x2048 .bf16) (x : Fin 512) (e : Fin 2048) :
    k0_pay3 (F := Ideal) p w (ix2 x e) = ∑ j : Fin 512, p (ix2 x j) * w (ix2 j e) := by
  unfold_payloads
  pointwise [dot_S512x512_S512x2048_S512x2048_1_0_0_1_n_n]

theorem pay12_at (hh : Vec Ideal S528x2048 .bf16) (w : Vec Ideal S2048x512 .bf16) (x : Fin 528) (j : Fin 512) :
    k0_pay12 (F := Ideal) hh w (ix2 x j) = ∑ k : Fin 2048, hh (ix2 x k) * w (ix2 k j) := by
  unfold_payloads
  pointwise [dot_S528x2048_S2048x512_S528x512_1_0_0_1_n_n]

theorem pay13_at (hh : Vec Ideal S528x2048 .bf16) (w : Vec Ideal S2048x512 .bf16) (x : Fin 528) (j : Fin 512) :
    k0_pay13 (F := Ideal) hh w (ix2 x j) = ∑ k : Fin 2048, hh (ix2 x k) * w (ix2 k j) := by
  unfold_payloads
  pointwise [dot_S528x2048_S2048x512_S528x512_1_0_0_1_n_n]

theorem pay1_eq (v : FVec Ideal S528x512 .f32) (i : S528x512.Idx) : k0_pay1 (F := Ideal) v i = v i := by
  unfold_payloads
  pointwise

theorem pay2_eq (v : FVec Ideal S528x512 .f32) (i : S528x512.Idx) : k0_pay2 (F := Ideal) v i = v i := by
  unfold_payloads
  pointwise

theorem pay19_at (x : Fin 512) (y : Fin 1024) : k0_pay19 (F := Ideal) u a0 a1 a2 a3 (ix2 x y) = convB u a0 a1 a2 a3 x y := by
  unfold_payloads
  pointwise
  rfl

theorem pay20_at (x : Fin 512) (j : Fin 512) :
    k0_pay20 (F := Ideal) u a0 a1 a2 a3 (ix2 x j) = convB u a0 a1 a2 a3 x (gateB j) := by
  unfold_payloads
  pointwise
  rfl

theorem pay21_at (x : Fin 512) (j : Fin 512) :
    k0_pay21 (F := Ideal) u a0 a1 a2 a3 (ix2 x j) = Ideal.logistic (convB u a0 a1 a2 a3 x (gateB j)) := by
  unfold_payloads
  pointwise
  rfl

theorem pay6_at (a : Vec Ideal S512x2048 .f32) (p : FVec Ideal S512x1024 .f32) (q l : FVec Ideal S512x512 .f32)
    (w : Vec Ideal S512x2048 .bf16) (x : Fin 512) (e : Fin 2048) :
    k0_pay6 (F := Ideal) a p q l w (ix2 x e) =
      a (ix2 x e) + ∑ j : Fin 512, q (ix2 x j) * l (ix2 x j) * p (ix2 x (valueB j)) * w (ix2 j e) := by
  unfold_payloads
  pointwise [dot_S512x512_S512x2048_S512x2048_1_0_0_1_n_n]

theorem pay22_at (a : Vec Ideal S512x2048 .f32) (w : Vec Ideal S512x2048 .bf16) (x : Fin 512) (e : Fin 2048) :
    k0_pay22 (F := Ideal) a u a0 a1 a2 a3 w (ix2 x e) = a (ix2 x e) + ∑ j : Fin 512, actB u a0 a1 a2 a3 x j * w (ix2 j e) := by
  unfold_payloads
  pointwise [dot_S512x512_S512x2048_S512x2048_1_0_0_1_n_n]
  rfl

theorem pay10_at (v : Vec Ideal S1x512x2048 .bf16) (x : Fin 512) (k : Fin 2048) :
    k0_pay10 (F := Ideal) v (ix2 x k) = v (ix3 0 x k) := by
  unfold_payloads
  pointwise

theorem lane_lt : ∀ d : Fin 16, IntOp.cmpi .slt (BitVec.ofNat 32 d.val) 8#32 = if d.val < 8 then 1#1 else 0#1 := by
  decide

theorem select_eq {α : Type} (i w : BitVec 32) (a b : α) :
    Scalar.select (Scalar.cmpi .eq i w) a b = if i = w then a else b := by
  by_cases h : i = w
  · subst h
    simp [Scalar.select, Scalar.cmpi, IntOp.cmpi]
  · have hb : (i == w) = false := beq_false_of_ne h
    simp [Scalar.select, Scalar.cmpi, IntOp.cmpi, h, hb]

theorem pay11_at (i : BitVec 32) (n p : Vec Ideal S1x16x2048 .bf16) (x : Fin 16) (k : Fin 2048) :
    k0_pay11 (F := Ideal) i n p (ix2 x k) =
      if x.val < 8 then (if i = 15#32 then 0 else n (ix3 0 x k)) else (if i = 0#32 then 0 else p (ix3 0 x k)) := by
  unfold_payloads
  pointwise
  rw [lane_lt]
  rw [select_eq, select_eq]
  by_cases h : x.val < 8 <;> simp [Scalar.select, h]

theorem pay9_at (md : Vec Ideal S1x2048 .f32) (y : FVec Ideal S512x2048 .f32) (x1 : Vec Ideal S1x512x2048 .f32)
    (g : Vec Ideal S1x2048 .f32) (x : Fin 512) (e : Fin 2048) :
    k0_pay9 (F := Ideal) md y x1 g (ix3 0 x e) = x1 (ix3 0 x e) + md (ix2 0 e) * (y (ix2 x e) *
      Ideal.rsqrt (Ideal.div (∑ e : Fin 2048, y (ix2 x e) * y (ix2 x e)) (Ideal.ofBits .f32 0x45000000#32)
        + Ideal.ofBits .f32 0x358637BD#32) * g (ix2 0 e)) := by
  unfold_payloads
  pointwise

end Cert.Kernel2Ideal.Ffn

end
-- ==== Proof.FfnTile.lean ====
/- What the feed-forward kernel's steps leave in its scratch and its output tile, read at an index. -/
module

public import proofs.«01_k».proof.Proof.FfnRead

@[expose] public section

set_option maxRecDepth 16384

noncomputable section

namespace Cert.Kernel2Ideal.Ffn

open Cert.Kernel2Ideal Cert.Kernel2Ideal.Gen Idealize.ShloMosaic

theorem hhB_rows (j : BitVec 32) (x3 : Vec Ideal S1x512x2048 .bf16) (x4 x5 : Vec Ideal S1x16x2048 .bf16) (x : Fin 512) (k : Fin 2048) :
    hhB j x3 x4 x5 (ix2 ⟨x.val, by omega⟩ k) = x3 (ix3 0 x k) := by
  refine (View.canon_cons_of_not_mem _ _ ?_).trans ?_
  · intro hm
    have h : 512 ≤ x.val := ((Rect.mem_set_unit (inb := inb_S528x2048_S16x2048_512_0)).mp hm (0 : Fin 2)).1
    omega
  · rw [← pay10_at x3 x k]
    refine Eq.trans (congrArg _ ?_) (View.canon_cons_emb (Rect.unit (s := S528x2048) ![0, 0] S512x2048.size inb_S528x2048_S512x2048_0_0) _ _ (ix2 x k))
    funext a; apply Fin.ext
    match a with
    | ⟨0, _⟩ => show x.val = 0 + 1 * x.val; omega
    | ⟨1, _⟩ => show k.val = 0 + 1 * k.val; omega

theorem hhB_halo (j : BitVec 32) (x3 : Vec Ideal S1x512x2048 .bf16) (x4 x5 : Vec Ideal S1x16x2048 .bf16) (z : Fin 16) (k : Fin 2048) :
    hhB j x3 x4 x5 (ix2 ⟨512 + z.val, by omega⟩ k) =
      if z.val < 8 then (if j = 15#32 then 0 else x5 (ix3 0 z k)) else (if j = 0#32 then 0 else x4 (ix3 0 z k)) := by
  rw [← pay11_at j x5 x4 z k]
  refine Eq.trans (congrArg _ ?_) (View.canon_cons_emb (Rect.unit (s := S528x2048) ![512, 0] S16x2048.size inb_S528x2048_S16x2048_512_0) _ _ (ix2 z k))
  funext a; apply Fin.ext
  match a with
  | ⟨0, _⟩ => show 512 + z.val = 512 + 1 * z.val; omega
  | ⟨1, _⟩ => show k.val = 0 + 1 * k.val; omega

theorem uB_gate (hh : Vec Ideal S528x2048 .bf16) (x6 x7 : Vec Ideal S2048x512 .bf16) (x : Fin 528) (j : Fin 512) :
    uB hh x6 x7 (ix2 x (gateB j)) = ∑ k : Fin 2048, hh (ix2 x k) * x6 (ix2 k j) := by
  refine (View.canon_cons_of_not_mem _ _ ?_).trans ?_
  · intro hm
    have h : 512 ≤ j.val := ((Rect.mem_set_unit (inb := inb_S528x1024_S528x512_0_512)).mp hm (1 : Fin 2)).1
    omega
  · rw [← pay12_at hh x6 x j, ← pay1_eq (k0_pay12 hh x6) (ix2 x j)]
    refine Eq.trans (congrArg _ ?_) (View.canon_cons_emb (Rect.unit (s := S528x1024) ![0, 0] S528x512.size inb_S528x1024_S528x512_0_0) _ _ (ix2 x j))
    funext a; apply Fin.ext
    match a with
    | ⟨0, _⟩ => show x.val = 0 + 1 * x.val; omega
    | ⟨1, _⟩ => show j.val = 0 + 1 * j.val; omega

theorem uB_value (hh : Vec Ideal S528x2048 .bf16) (x6 x7 : Vec Ideal S2048x512 .bf16) (x : Fin 528) (j : Fin 512) :
    uB hh x6 x7 (ix2 x (valueB j)) = ∑ k : Fin 2048, hh (ix2 x k) * x7 (ix2 k j) := by
  rw [← pay13_at hh x7 x j, ← pay2_eq (k0_pay13 hh x7) (ix2 x j)]
  refine Eq.trans (congrArg _ ?_) (View.canon_cons_emb (Rect.unit (s := S528x1024) ![0, 512] S528x512.size inb_S528x1024_S528x512_0_512) _ _ (ix2 x j))
  funext a; apply Fin.ext
  match a with
  | ⟨0, _⟩ => show x.val = 0 + 1 * x.val; omega
  | ⟨1, _⟩ => show 512 + j.val = 512 + 1 * j.val; omega

theorem cw_at (x8 : Vec Ideal S1x8x1024 .f32) (k : Fin 4) (y : Fin 1024) :
    cw k.val x8 (ix3 0 0 y) = x8 (ix3 0 ⟨k.val, by omega⟩ y) := by
  fin_cases k <;> refine congrArg x8 ?_ <;> funext a <;> fin_cases a <;> refine Fin.ext ?_ <;> simp [ix3]

/-- One term of the sum of down-projections. -/
def termB (u : Vec Ideal S528x1024 .f32) (x8 : Vec Ideal S1x8x1024 .f32) (x9 : Vec Ideal S512x2048 .bf16) (x : Fin 512) (e : Fin 2048) : EReal :=
  ∑ j : Fin 512, actB u (cw 0 x8) (cw 1 x8) (cw 2 x8) (cw 3 x8) x j * x9 (ix2 j e)

variable (u : Vec Ideal S528x1024 .f32) (x8 : Vec Ideal S1x8x1024 .f32) (x9 : Vec Ideal S512x2048 .bf16) (x : Fin 512) (e : Fin 2048)

theorem dnB_at : dnB u x8 x9 (ix2 x e) = termB u x8 x9 x e := by
  unfold dnB termB
  rw [pay3_at]
  exact Finset.sum_congr rfl fun j _ => by rw [pay16_at]

theorem accC_at (a : Vec Ideal S512x2048 .f32) : accC a u x8 x9 (ix2 x e) = a (ix2 x e) + termB u x8 x9 x e := by
  unfold accC termB
  rw [pay6_at]
  exact congrArg _ (Finset.sum_congr rfl fun j _ => by rw [pay20_at, pay21_at, pay19_at]; rfl)

theorem outB_at (md : Vec Ideal S1x2048 .f32) (x1 : Vec Ideal S1x512x2048 .f32) (g : Vec Ideal S1x2048 .f32)
    (a : Vec Ideal S512x2048 .f32) (y : Fin 2048 → EReal) (hy : ∀ e, a (ix2 x e) + termB u x8 x9 x e = y e) :
    outB md x1 g a u x8 x9 (ix3 0 x e) = x1 (ix3 0 x e) + md (ix2 0 e) * (y e *
      Ideal.rsqrt (Ideal.div (∑ e : Fin 2048, y e * y e) (Ideal.ofBits .f32 0x45000000#32)
        + Ideal.ofBits .f32 0x358637BD#32) * g (ix2 0 e)) := by
  unfold outB
  have h : ∀ e, k0_pay22 (F := Ideal) a u (cw 0 x8) (cw 1 x8) (cw 2 x8) (cw 3 x8) x9 (ix2 x e) = y e := fun e => by
    rw [pay22_at]
    exact hy e
  rw [pay9_at]
  simp only [h]

end Cert.Kernel2Ideal.Ffn

end
-- ==== Proof.FfnHost.lean ====
/- What the host operations before the feed-forward kernel leave in the arrays the kernel reads. -/
module

public import proofs.«01_k».proof.Proof.FfnRead

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

theorem V_main_v7 : V m c main_v7 = truncf (F := Ideal) .bf16 (shapeCast S2048x11264 (V m c main_arg4) shapeCasts_S1x2048x11264_S2048x11264) bitsLt_bf16_f32 := by
  rw [V_main_arg4]
  unfold V
  simp only [hostOps0]
  after_results_simp
  rfl

theorem V_main_v9 : V m c main_v9 = truncf (F := Ideal) .bf16 (shapeCast S5632x2048 (V m c main_arg7) shapeCasts_S1x5632x2048_S5632x2048) bitsLt_bf16_f32 := by
  rw [V_main_arg7]
  unfold V
  simp only [hostOps0]
  after_results_simp
  rfl

/-- The taps of the convolution, its bias and four rows of zeros, one below the other. -/
def taps (a : Vec Ideal S1x3x11264 .f32) (b : Vec Ideal S1x11264 .f32) : Vec Ideal S8x11264 .f32 :=
  concatenate S8x11264 0 [⟨S3x11264, shapeCast S3x11264 a shapeCasts_S1x3x11264_S3x11264⟩, ⟨S1x11264, b⟩,
    ⟨S4x11264, broadcastInDim S4x11264 ![] bcast_S_S4x11264 (constant (F := Ideal) S_ .f32 0x00000000#32)⟩]
    concatenates_S3x11264_S1x11264_S4x11264_S8x11264_d0

theorem V_main_v5 : V m c main_v5 = shapeCast S11x8x1024 (transpose S11x8x2x512 [2, 0, 1, 3]
    (shapeCast S8x2x11x512 (taps (V m c main_arg5) (V m c main_arg6)) shapeCasts_S8x11264_S8x2x11x512)
    transposes_S8x2x11x512_S11x8x2x512_2_0_1_3) shapeCasts_S11x8x2x512_S11x8x1024 := by
  rw [V_main_arg5, V_main_arg6]
  unfold V
  simp only [hostOps0]
  after_results_simp
  rfl

theorem v7_at (k : Fin 2048) (x : Fin 11264) : V m c main_v7 (ix2 k x) = V m c main_arg4 (ix3 0 k x) := by
  rw [V_main_v7]
  generalize V m c main_arg4 = a
  refine (show _ = shapeCast S2048x11264 a shapeCasts_S1x2048x11264_S2048x11264 _ from rfl).trans (shapeCast_apply (s := S1x2048x11264) a shapeCasts_S1x2048x11264_S2048x11264 _ (ix3 0 k x) ?_)
  rw [Shape.rowMajor_val_three, Shape.rowMajor_val_two]
  show (0 * 2048 + k.val) * 11264 + x.val = k.val * 11264 + x.val
  omega

theorem v9_at (j : Fin 5632) (e : Fin 2048) : V m c main_v9 (ix2 j e) = V m c main_arg7 (ix3 0 j e) := by
  rw [V_main_v9]
  generalize V m c main_arg7 = a
  refine (show _ = shapeCast S5632x2048 a shapeCasts_S1x5632x2048_S5632x2048 _ from rfl).trans (shapeCast_apply (s := S1x5632x2048) a shapeCasts_S1x5632x2048_S5632x2048 _ (ix3 0 j e) ?_)
  rw [Shape.rowMajor_val_three, Shape.rowMajor_val_two]
  show (0 * 5632 + j.val) * 2048 + e.val = j.val * 2048 + e.val
  omega

theorem taps_at (a : Vec Ideal S1x3x11264 .f32) (b : Vec Ideal S1x11264 .f32) (k : Fin 3) (x : Fin 11264) :
    taps a b (ix2 ⟨k.val, by omega⟩ x) = a (ix3 0 k x) := by
  unfold taps
  pointwise

theorem bias_at (a : Vec Ideal S1x3x11264 .f32) (b : Vec Ideal S1x11264 .f32) (x : Fin 11264) :
    taps a b (ix2 3 x) = b (ix2 0 x) := by
  unfold taps
  pointwise

/-- Row `k` of tile `f`'s table, at channel `512 * q + s`. -/
theorem v5_at (f : Fin 11) (k : Fin 8) (q : Fin 2) (s : Fin 512) :
    V m c main_v5 (ix3 f k ⟨512 * q.val + s.val, by omega⟩) =
      taps (V m c main_arg5) (V m c main_arg6) (ix2 k ⟨5632 * q.val + 512 * f.val + s.val, by omega⟩) := by
  rw [V_main_v5]
  generalize taps _ _ = t
  refine (shapeCast_apply _ shapeCasts_S11x8x2x512_S11x8x1024 _ (ix4 f k q s) ?_).trans ?_
  · rw [Shape.rowMajor_val_four, Shape.rowMajor_val_three]
    show ((f.val * 8 + k.val) * 2 + q.val) * 512 + s.val = (f.val * 8 + k.val) * 1024 + (512 * q.val + s.val)
    omega
  · refine (show _ = shapeCast S8x2x11x512 t shapeCasts_S8x11264_S8x2x11x512 (ix4 k q f s) by pointwise).trans ?_
    refine shapeCast_apply _ shapeCasts_S8x11264_S8x2x11x512 _ (ix2 k ⟨5632 * q.val + 512 * f.val + s.val, by omega⟩) ?_
    rw [Shape.rowMajor_val_four, Shape.rowMajor_val_two]
    show k.val * 11264 + (5632 * q.val + 512 * f.val + s.val) = ((k.val * 2 + q.val) * 11 + f.val) * 512 + s.val
    omega

end Cert.Kernel2Ideal.Ffn

end
-- ==== Proof.FfnBlocks.lean ====
/- The blocks the feed-forward kernel's points read, as entries of its arguments. -/
module

public import proofs.«01_k».proof.Proof.FfnHost

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-! ## Where a point's blocks lie -/

theorem idx_h : ∀ t : Fin cfg0.N, win0_0.index t (0 : Fin 3) = t.val / 192 ∧ win0_0.index t (1 : Fin 3) = t.val / 12 % 16 ∧ win0_0.index t (2 : Fin 3) = 0 :=
  (by decide +kernel : ∀ t : Fin grid0.N, _)
theorem idx_hp : ∀ t : Fin cfg0.N, win0_1.index t (0 : Fin 3) = t.val / 192 ∧ win0_1.index t (1 : Fin 3) = 32 * (t.val / 12 % 16) - 1 ∧ win0_1.index t (2 : Fin 3) = 0 :=
  (by decide +kernel : ∀ t : Fin grid0.N, _)
theorem idx_hn : ∀ t : Fin cfg0.N, win0_2.index t (0 : Fin 3) = t.val / 192 ∧ win0_2.index t (1 : Fin 3) = min (32 * (t.val / 12 % 16 + 1)) 511 ∧ win0_2.index t (2 : Fin 3) = 0 :=
  (by decide +kernel : ∀ t : Fin grid0.N, _)
theorem idx_wg : ∀ t : Fin cfg0.N, win0_3.index t (0 : Fin 2) = 0 ∧ win0_3.index t (1 : Fin 2) = min (t.val % 12) 10 :=
  (by decide +kernel : ∀ t : Fin grid0.N, _)
theorem idx_wv : ∀ t : Fin cfg0.N, win0_4.index t (0 : Fin 2) = 0 ∧ win0_4.index t (1 : Fin 2) = 11 + min (t.val % 12) 10 :=
  (by decide +kernel : ∀ t : Fin grid0.N, _)
theorem idx_cv : ∀ t : Fin cfg0.N, win0_5.index t (0 : Fin 3) = t.val % 12 - 1 ∧ win0_5.index t (1 : Fin 3) = 0 ∧ win0_5.index t (2 : Fin 3) = 0 :=
  (by decide +kernel : ∀ t : Fin grid0.N, _)
theorem idx_wd : ∀ t : Fin cfg0.N, win0_6.index t (0 : Fin 2) = t.val % 12 - 1 ∧ win0_6.index t (1 : Fin 2) = 0 :=
  (by decide +kernel : ∀ t : Fin grid0.N, _)
theorem idx_x1 : ∀ t : Fin cfg0.N, win0_7.index t (0 : Fin 3) = t.val / 192 ∧ win0_7.index t (1 : Fin 3) = t.val / 12 % 16 ∧ win0_7.index t (2 : Fin 3) = 0 :=
  (by decide +kernel : ∀ t : Fin grid0.N, _)
theorem idx_md : ∀ t : Fin cfg0.N, win0_8.index t (0 : Fin 2) = 0 ∧ win0_8.index t (1 : Fin 2) = 0 :=
  (by decide +kernel : ∀ t : Fin grid0.N, _)
theorem idx_g : ∀ t : Fin cfg0.N, win0_9.index t (0 : Fin 2) = 0 ∧ win0_9.index t (1 : Fin 2) = 0 :=
  (by decide +kernel : ∀ t : Fin grid0.N, _)
theorem idx_o : ∀ t : Fin cfg0.N, win0_10.index t (0 : Fin 3) = t.val / 192 ∧ win0_10.index t (1 : Fin 3) = t.val / 12 % 16 ∧ win0_10.index t (2 : Fin 3) = 0 :=
  (by decide +kernel : ∀ t : Fin grid0.N, _)

/-- The row the last step takes of the modulation table. -/
theorem off_md : ∀ t : Fin cfg0.N, k0_off1 (grid0.coords t) (0 : Fin 2) = t.val / 192 ∧ k0_off1 (grid0.coords t) (1 : Fin 2) = 10240 :=
  (by decide +kernel : ∀ t : Fin grid0.N, _)

theorem tile_coord : ∀ t : Fin cfg0.N, (grid0.coords t 1).val = t.val / 12 % 16 :=
  (by decide +kernel : ∀ t : Fin grid0.N, _)

/-- Step `f` of tile `i` of batch `b`. -/
abbrev ptb (b : Fin 2) (i : Fin 16) (f : ℕ) : Fin cfg0.N := pt (16 * b.val + i.val) f

theorem ptb_val (b : Fin 2) (i : Fin 16) (f : ℕ) (hf : f < 12) : (ptb b i f).val = 192 * b.val + 12 * i.val + f := by
  show (12 * (16 * b.val + i.val) + f) % 384 = _
  omega

variable (m : (ℓ : Loc nD τ sig) → Buf (Elt Ideal) ℓ) (c : Dev nD) (b : Fin 2) (i : Fin 16)

theorem h_blk (x : Fin 512) (k : Fin 2048) :
    iblk m c 0 (ptb b i 0) (ix3 0 x k) = V m c main_arg0 (ix3 b ⟨512 * i.val + x.val, by omega⟩ k) := by
  obtain ⟨e0, e1, e2⟩ := idx_h (ptb b i 0)
  rw [ptb_val b i 0 (by omega)] at e0 e1
  refine congrArg (V m c main_arg0) ?_
  funext a; apply Fin.ext
  match a with
  | ⟨0, _⟩ => show win0_0.index (ptb b i 0) (0 : Fin 3) * 1 + 1 * 0 = b.val; omega
  | ⟨1, _⟩ => show win0_0.index (ptb b i 0) (1 : Fin 3) * 512 + 1 * x.val = 512 * i.val + x.val; omega
  | ⟨2, _⟩ => show win0_0.index (ptb b i 0) (2 : Fin 3) * 2048 + 1 * k.val = k.val; omega

theorem hp_blk (hi : i.val ≠ 0) (z : Fin 16) (k : Fin 2048) :
    iblk m c 1 (ptb b i 0) (ix3 0 z k) = V m c main_arg0 (ix3 b ⟨512 * i.val - 16 + z.val, by omega⟩ k) := by
  obtain ⟨e0, e1, e2⟩ := idx_hp (ptb b i 0)
  rw [ptb_val b i 0 (by omega)] at e0 e1
  refine congrArg (V m c main_arg0) ?_
  funext a; apply Fin.ext
  match a with
  | ⟨0, _⟩ => show win0_1.index (ptb b i 0) (0 : Fin 3) * 1 + 1 * 0 = b.val; omega
  | ⟨1, _⟩ => show win0_1.index (ptb b i 0) (1 : Fin 3) * 16 + 1 * z.val = 512 * i.val - 16 + z.val; omega
  | ⟨2, _⟩ => show win0_1.index (ptb b i 0) (2 : Fin 3) * 2048 + 1 * k.val = k.val; omega

theorem hn_blk (hi : i.val < 15) (z : Fin 16) (k : Fin 2048) :
    iblk m c 2 (ptb b i 0) (ix3 0 z k) = V m c main_arg0 (ix3 b ⟨512 * i.val + 512 + z.val, by omega⟩ k) := by
  obtain ⟨e0, e1, e2⟩ := idx_hn (ptb b i 0)
  rw [ptb_val b i 0 (by omega)] at e0 e1
  refine congrArg (V m c main_arg0) ?_
  funext a; apply Fin.ext
  match a with
  | ⟨0, _⟩ => show win0_2.index (ptb b i 0) (0 : Fin 3) * 1 + 1 * 0 = b.val; omega
  | ⟨1, _⟩ => show win0_2.index (ptb b i 0) (1 : Fin 3) * 16 + 1 * z.val = 512 * i.val + 512 + z.val; omega
  | ⟨2, _⟩ => show win0_2.index (ptb b i 0) (2 : Fin 3) * 2048 + 1 * k.val = k.val; omega

theorem wg_blk (f : Fin 11) (k : Fin 2048) (j : Fin 512) :
    iblk m c 3 (ptb b i f.val) (ix2 k j) = V m c main_arg4 (ix3 0 k ⟨512 * f.val + j.val, by omega⟩) := by
  obtain ⟨e0, e1⟩ := idx_wg (ptb b i f.val)
  rw [ptb_val b i f.val (by omega)] at e1
  rw [← v7_at]
  refine congrArg (V m c main_v7) ?_
  funext a; apply Fin.ext
  match a with
  | ⟨0, _⟩ => show win0_3.index (ptb b i f.val) (0 : Fin 2) * 2048 + 1 * k.val = k.val; omega
  | ⟨1, _⟩ => show win0_3.index (ptb b i f.val) (1 : Fin 2) * 512 + 1 * j.val = 512 * f.val + j.val; omega

theorem wv_blk (f : Fin 11) (k : Fin 2048) (j : Fin 512) :
    iblk m c 4 (ptb b i f.val) (ix2 k j) = V m c main_arg4 (ix3 0 k ⟨5632 + (512 * f.val + j.val), by omega⟩) := by
  obtain ⟨e0, e1⟩ := idx_wv (ptb b i f.val)
  rw [ptb_val b i f.val (by omega)] at e1
  rw [← v7_at]
  refine congrArg (V m c main_v7) ?_
  funext a; apply Fin.ext
  match a with
  | ⟨0, _⟩ => show win0_4.index (ptb b i f.val) (0 : Fin 2) * 2048 + 1 * k.val = k.val; omega
  | ⟨1, _⟩ => show win0_4.index (ptb b i f.val) (1 : Fin 2) * 512 + 1 * j.val = 5632 + (512 * f.val + j.val); omega

theorem cv_blk (f : Fin 11) (k : Fin 8) (y : Fin 1024) :
    iblk m c 5 (ptb b i (f.val + 1)) (ix3 0 k y) = V m c main_v5 (ix3 f k y) := by
  obtain ⟨e0, e1, e2⟩ := idx_cv (ptb b i (f.val + 1))
  rw [ptb_val b i (f.val + 1) (by omega)] at e0
  refine congrArg (V m c main_v5) ?_
  funext a; apply Fin.ext
  match a with
  | ⟨0, _⟩ => show win0_5.index (ptb b i (f.val + 1)) (0 : Fin 3) * 1 + 1 * 0 = f.val; omega
  | ⟨1, _⟩ => show win0_5.index (ptb b i (f.val + 1)) (1 : Fin 3) * 8 + 1 * k.val = k.val; omega
  | ⟨2, _⟩ => show win0_5.index (ptb b i (f.val + 1)) (2 : Fin 3) * 1024 + 1 * y.val = y.val; omega

theorem wd_blk (f : Fin 11) (j : Fin 512) (e : Fin 2048) :
    iblk m c 6 (ptb b i (f.val + 1)) (ix2 j e) = V m c main_arg7 (ix3 0 ⟨512 * f.val + j.val, by omega⟩ e) := by
  obtain ⟨e0, e1⟩ := idx_wd (ptb b i (f.val + 1))
  rw [ptb_val b i (f.val + 1) (by omega)] at e0
  rw [← v9_at]
  refine congrArg (V m c main_v9) ?_
  funext a; apply Fin.ext
  match a with
  | ⟨0, _⟩ => show win0_6.index (ptb b i (f.val + 1)) (0 : Fin 2) * 512 + 1 * j.val = 512 * f.val + j.val; omega
  | ⟨1, _⟩ => show win0_6.index (ptb b i (f.val + 1)) (1 : Fin 2) * 2048 + 1 * e.val = e.val; omega

theorem x1_blk (x : Fin 512) (e : Fin 2048) :
    iblk m c 7 (ptb b i 11) (ix3 0 x e) = V m c main_arg1 (ix3 b ⟨512 * i.val + x.val, by omega⟩ e) := by
  obtain ⟨e0, e1, e2⟩ := idx_x1 (ptb b i 11)
  rw [ptb_val b i 11 (by omega)] at e0 e1
  refine congrArg (V m c main_arg1) ?_
  funext a; apply Fin.ext
  match a with
  | ⟨0, _⟩ => show win0_7.index (ptb b i 11) (0 : Fin 3) * 1 + 1 * 0 = b.val; omega
  | ⟨1, _⟩ => show win0_7.index (ptb b i 11) (1 : Fin 3) * 512 + 1 * x.val = 512 * i.val + x.val; omega
  | ⟨2, _⟩ => show win0_7.index (ptb b i 11) (2 : Fin 3) * 2048 + 1 * e.val = e.val; omega

theorem md_blk (t : Fin cfg0.N) : iblk m c 8 t = V m c main_arg2 := by
  obtain ⟨e0, e1⟩ := idx_md t
  funext j
  refine congrArg (V m c main_arg2) ?_
  funext a; apply Fin.ext
  match a with
  | ⟨0, _⟩ => show win0_8.index t (0 : Fin 2) * 8 + 1 * (j 0).val = (j 0).val; omega
  | ⟨1, _⟩ => show win0_8.index t (1 : Fin 2) * 12288 + 1 * (j 1).val = (j 1).val; omega

theorem g_blk (t : Fin cfg0.N) : iblk m c 9 t = V m c main_arg3 := by
  obtain ⟨e0, e1⟩ := idx_g t
  funext j
  refine congrArg (V m c main_arg3) ?_
  funext a; apply Fin.ext
  match a with
  | ⟨0, _⟩ => show win0_9.index t (0 : Fin 2) * 1 + 1 * (j 0).val = (j 0).val; omega
  | ⟨1, _⟩ => show win0_9.index t (1 : Fin 2) * 2048 + 1 * (j 1).val = (j 1).val; omega

/-- The row of the modulation the last step reads. -/
theorem md_row (hD : k0_cond4 (grid0.coords (ptb b i 11)) = 1#1) (e : Fin 2048) :
    View.ld (iblk m c 8 (ptb b i 11)) (Rect.unit (s := S8x12288) (k0_off1 (grid0.coords (ptb b i 11))) S1x2048.size (k0_off1_inb _ hD)) (ix2 0 e) =
      V m c main_arg2 (ix2 ⟨b.val, by omega⟩ ⟨10240 + e.val, by omega⟩) := by
  obtain ⟨e0, e1⟩ := off_md (ptb b i 11)
  rw [ptb_val b i 11 (by omega)] at e0
  rw [md_blk]
  refine congrArg (V m c main_arg2) ?_
  funext a; apply Fin.ext
  match a with
  | ⟨0, _⟩ => show k0_off1 (grid0.coords (ptb b i 11)) (0 : Fin 2) + 1 * 0 = b.val; omega
  | ⟨1, _⟩ => show k0_off1 (grid0.coords (ptb b i 11)) (1 : Fin 2) + 1 * e.val = 10240 + e.val; omega

/-! ## The result array -/

/-- Every place of the result array is in a block some point writes. -/
theorem covered (y : S2x8192x2048.Idx) : ∃ t : Fin cfg0.N, (cfg0.win 10).flush t = true ∧ y ∈ ((cfg0.win 10).blk t).view.set := by
  have h0 : (y 0).val < 2 := (y 0).isLt
  have h1 : (y 1).val < 8192 := (y 1).isLt
  have h2 : (y 2).val < 2048 := (y 2).isLt
  have hd : (y 1).val / 512 < 16 := by omega
  obtain ⟨e0, e1, e2⟩ := idx_o (ptb ⟨(y 0).val, h0⟩ ⟨(y 1).val / 512, hd⟩ 11)
  have hv := ptb_val ⟨(y 0).val, h0⟩ ⟨(y 1).val / 512, hd⟩ 11 (by omega)
  rw [hv] at e0 e1
  dsimp only at e0 e1 hv
  generalize ptb ⟨(y 0).val, h0⟩ ⟨(y 1).val / 512, hd⟩ 11 = t at e0 e1 e2 hv
  refine ⟨t, (flush0_10 t).mpr (by omega), ?_⟩
  show y ∈ ((View.whole main_v10).slice (win0_10.rect t)).set
  rw [View.set_slice_whole, Rect.mem_set_unit]
  intro a
  match a with
  | ⟨0, _⟩ => show win0_10.index t (0 : Fin 3) * 1 ≤ (y 0).val ∧ (y 0).val < win0_10.index t (0 : Fin 3) * 1 + 1; omega
  | ⟨1, _⟩ => show win0_10.index t (1 : Fin 3) * 512 ≤ (y 1).val ∧ (y 1).val < win0_10.index t (1 : Fin 3) * 512 + 512; omega
  | ⟨2, _⟩ => show win0_10.index t (2 : Fin 3) * 2048 ≤ (y 2).val ∧ (y 2).val < win0_10.index t (2 : Fin 3) * 2048 + 2048; omega

/-- A last step is the last step of its batch's tile. -/
theorem exists_last (t : Fin cfg0.N) (h : t.val % 12 = 11) : ∃ b i, t = ptb b i 11 ∧ t.val / 12 = 16 * b.val + i.val := by
  have hN : cfg0.N = 384 := N_0
  have := t.isLt
  refine ⟨⟨t.val / 192, by omega⟩, ⟨t.val / 12 % 16, by omega⟩, Fin.ext ?_, ?_⟩
  · rw [ptb_val _ _ 11 (by omega)]
    dsimp only
    omega
  · dsimp only
    omega

/-- An array of which every tile is the tile its last step writes is the one the run leaves. -/
theorem result_eq (G : Vec Ideal S2x8192x2048 .f32)
    (hG : ∀ (b : Fin 2) (i : Fin 16) (x : Fin 512) (e : Fin 2048), G (ix3 b ⟨512 * i.val + x.val, by omega⟩ e) =
      OUT m c (16 * b.val + i.val) (ix3 0 x e)) :
    (dats m 0 c).arrAt 10 cfg0.N = G := by
  refine (dats m 0 c).arrAt_eq_of_cover 10 G (fun t ht => ?_) covered
  obtain ⟨b, i, rfl, hr⟩ := exists_last t ((flush0_10 t).mp ht)
  obtain ⟨e0, e1, e2⟩ := idx_o (ptb b i 11)
  rw [ptb_val b i 11 (by omega)] at e0 e1
  show (cfg0.win 10).cut (grid0.coords (ptb b i 11)) ((dats m 0 c).after 10 (ptb b i 11)) = _
  rw [after0_10, hr]
  funext j
  refine Eq.trans (b := OUT m c (16 * b.val + i.val) (ix3 0 (j 1) (j 2))) ?_ ((hG b i (j 1) (j 2)).symm.trans ?_)
  · refine congrArg (OUT m c (16 * b.val + i.val)) ?_
    funext a; apply Fin.ext
    match a with
    | ⟨0, _⟩ => exact Nat.lt_one_iff.mp (j 0).isLt
    | ⟨1, _⟩ => rfl
    | ⟨2, _⟩ => rfl
  · refine congrArg G ?_
    funext a; apply Fin.ext
    have hj : (j 0).val = 0 := Nat.lt_one_iff.mp (j 0).isLt
    match a with
    | ⟨0, _⟩ => show b.val = win0_10.index (ptb b i 11) (0 : Fin 3) * 1 + 1 * (j 0).val; omega
    | ⟨1, _⟩ => show 512 * i.val + (j 1).val = win0_10.index (ptb b i 11) (1 : Fin 3) * 512 + 1 * (j 1).val; omega
    | ⟨2, _⟩ => show (j 2).val = win0_10.index (ptb b i 11) (2 : Fin 3) * 2048 + 1 * (j 2).val; omega

end Cert.Kernel2Ideal.Ffn

end
-- ==== Proof.FfnRef.lean ====
/- The reference of the feed-forward part, read at an index: each entry of the result from the arguments it depends on. -/
module

public import proofs.«01_k».proof.Proof.Gen.Reference2Ideal.Read
public import Idealize.ShloMosaic.Lib.Pointwise.Index
public import Idealize.ShloMosaic.Lib.KernelVsHost

@[expose] public section

set_option maxRecDepth 16384

noncomputable section

namespace Cert.FfnRef

open Cert.Reference2Ideal Cert.Reference2Ideal.Gen Cert.Reference2Ideal.Read Idealize.ShloMosaic

variable (h : S2x8192x2048.Idx → EReal) (x1 : S2x8192x2048.Idx → EReal) (md : S8x12288.Idx → EReal) (g : S1x2048.Idx → EReal)
  (w : S1x2048x11264.Idx → EReal) (cv : S1x3x11264.Idx → EReal) (cb : S1x11264.Idx → EReal) (wd : S1x5632x2048.Idx → EReal)

/-- Channel `c` of the up-projection of row `r`. -/
def up (b : Fin 2) (r : Fin 8192) (c : Fin 11264) : EReal := ∑ k : Fin 2048, h (ix3 b r k) * w (ix3 0 k c)

/-- The up-projection, with a row of zeros before the first row and one after the last. -/
def upZ (b : Fin 2) (s : ℕ) (c : Fin 11264) : EReal := if hs : 0 < s ∧ s ≤ 8192 then up h w b ⟨s - 1, by omega⟩ c else 0

/-- The convolution over three neighbouring rows. -/
def conv (b : Fin 2) (r : Fin 8192) (c : Fin 11264) : EReal :=
  upZ h w b r.val c * cv (ix3 0 0 c) + upZ h w b (1 + r.val) c * cv (ix3 0 1 c) + upZ h w b (2 + r.val) c * cv (ix3 0 2 c) + cb (ix2 0 c)

/-- The channel of the gate, and of the value it multiplies. -/
abbrev gateCol (j : Fin 5632) : Fin 11264 := ⟨j.val, by omega⟩
abbrev valueCol (j : Fin 5632) : Fin 11264 := ⟨5632 + j.val, by omega⟩

/-- The gated hidden layer. -/
def hid (b : Fin 2) (r : Fin 8192) (j : Fin 5632) : EReal :=
  conv h w cv cb b r (gateCol j) * Ideal.logistic (conv h w cv cb b r (gateCol j)) * conv h w cv cb b r (valueCol j)

/-- The down-projection. -/
def down (b : Fin 2) (r : Fin 8192) (e : Fin 2048) : EReal := ∑ j : Fin 5632, hid h w cv cb b r j * wd (ix3 0 j e)

/-- The root-mean-square factor of a row. -/
def rms (o : Fin 2048 → EReal) : EReal :=
  Ideal.rsqrt (Ideal.div (∑ e, o e * o e) (Ideal.ofBits .f32 0x45000000#32) + Ideal.ofBits .f32 0x358637BD#32)

theorem up_at (b : Fin 2) (r : Fin 8192) (c : Fin 11264) : val_main_v7 (F := Ideal) h w (ix3 b r c) = up h w b r c := by
  rw [val_main_v7_apply]
  refine Finset.sum_congr rfl fun k _ => ?_
  rw [val_main_v2_apply, val_main_v3_apply]
  refine congrArg₂ (· * ·) (congrArg h ?_) (congrArg w ?_) <;> funext a <;> fin_cases a <;> refine Fin.ext ?_ <;>
    simp [ix3] <;> omega

theorem pad_at (b : Fin 2) (s : Fin 8194) (c : Fin 11264) : val_main_v8 (F := Ideal) h w (ix3 b s c) = upZ h w b s.val c := by
  unfold val_main_v8 upZ
  split
  · rename_i hs
    rw [← up_at]
    exact pad_apply_of_inside _ _ _ _ _ _ _ _ _ (fun a => match a with
      | ⟨0, _⟩ => by show b.val = 0 + b.val * (0 + 1); omega
      | ⟨1, _⟩ => by show s.val = 1 + (s.val - 1) * (0 + 1); omega
      | ⟨2, _⟩ => by show c.val = 0 + c.val * (0 + 1); omega)
  · rename_i hs
    refine (pad_apply_of_not_inside _ _ _ _ _ _ _ _ (1 : Fin 3) (fun ha => hs ?_)).trans ?_
    · have h1 : 1 ≤ s.val := ha.1
      have h2 : (s.val - 1) / (0 + 1) < 8192 := ha.2.2
      omega
    · rw [val_main_call0_v0_apply, val_main_c_apply]
      show ((((0#32 : BitVec 32).toInt : ℝ)) : EReal) = 0
      simp

theorem tap0_at (b : Fin 2) (r : Fin 8192) (c : Fin 11264) : val_main_v13 (F := Ideal) cv (ix3 b r c) = cv (ix3 0 0 c) := by
  rw [val_main_v13_apply, val_main_v12_apply, val_main_v11_apply, val_main_v10_apply, val_main_v4_apply]
  refine congrArg cv ?_
  funext a
  fin_cases a <;> refine Fin.ext ?_ <;> simp [ix3] <;> omega

theorem tap1_at (b : Fin 2) (r : Fin 8192) (c : Fin 11264) : val_main_v19 (F := Ideal) cv (ix3 b r c) = cv (ix3 0 1 c) := by
  rw [val_main_v19_apply, val_main_v18_apply, val_main_v17_apply, val_main_v16_apply, val_main_v4_apply]
  refine congrArg cv ?_
  funext a
  fin_cases a <;> refine Fin.ext ?_ <;> simp [ix3] <;> omega

theorem tap2_at (b : Fin 2) (r : Fin 8192) (c : Fin 11264) : val_main_v26 (F := Ideal) cv (ix3 b r c) = cv (ix3 0 2 c) := by
  rw [val_main_v26_apply, val_main_v25_apply, val_main_v24_apply, val_main_v23_apply, val_main_v4_apply]
  refine congrArg cv ?_
  funext a
  fin_cases a <;> refine Fin.ext ?_ <;> simp [ix3] <;> omega

theorem bias_at (b : Fin 2) (r : Fin 8192) (c : Fin 11264) : val_main_v30 (F := Ideal) cb (ix3 b r c) = cb (ix2 0 c) := by
  rw [val_main_v30_apply, val_main_v29_apply, val_main_v5_apply]
  refine congrArg cb ?_
  funext a
  fin_cases a <;> refine Fin.ext ?_ <;> simp [ix3, ix2] <;> omega

theorem conv_at (b : Fin 2) (r : Fin 8192) (c : Fin 11264) :
    val_main_v31 (F := Ideal) h w cv cb (ix3 b r c) = conv h w cv cb b r c := by
  rw [val_main_v31_apply, val_main_v28_apply, val_main_v21_apply, val_main_v14_apply, val_main_v20_apply, val_main_v27_apply,
    tap0_at, tap1_at, tap2_at, bias_at, val_main_v9_apply, val_main_v15_apply, val_main_v22_apply,
    show idx_main_v9 (ix3 b r c) = ix3 b ⟨r.val, by omega⟩ c by funext a; fin_cases a <;> rfl,
    show idx_main_v15 (ix3 b r c) = ix3 b ⟨1 + r.val, by omega⟩ c by funext a; fin_cases a <;> rfl,
    show idx_main_v22 (ix3 b r c) = ix3 b ⟨2 + r.val, by omega⟩ c by funext a; fin_cases a <;> rfl,
    pad_at, pad_at, pad_at]
  rfl

theorem one_cst : FloatOps.ofBits (F := Ideal) .f32 0x3F800000#32 = (1 : EReal) := by
  show Ideal.ofBits .f32 0x3F800000#32 = 1
  simp [Ideal.ofBits, Ideal.ieee, -EReal.coe_mul]
  norm_num

theorem zero_cst : FloatOps.ofBits (F := Ideal) .f32 0x00000000#32 = (0 : EReal) := by
  show Ideal.ofBits .f32 0x00000000#32 = 0
  simp [Ideal.ofBits, Ideal.ieee]

theorem hid_at (b : Fin 2) (r : Fin 8192) (j : Fin 5632) :
    val_main_v35 (F := Ideal) h w cv cb (ix3 b r j) = hid h w cv cb b r j := by
  rw [val_main_v35_apply, val_main_v34_apply, val_main_call1_v5_apply, val_main_call1_v4_apply, val_main_call1_cst_0_apply,
    val_main_call1_v3_apply, val_main_call1_v2_apply, val_main_call1_cst_apply, val_main_call1_v1_apply, val_main_call1_v0_apply,
    val_main_v32_apply, val_main_v33_apply, one_cst,
    show idx_main_v32 (ix3 b r j) = ix3 b r (gateCol j) by funext a; fin_cases a <;> rfl,
    show idx_main_v33 (ix3 b r j) = ix3 b r (valueCol j) by funext a; fin_cases a <;> rfl,
    conv_at, conv_at]
  rfl

theorem down_at (b : Fin 2) (r : Fin 8192) (e : Fin 2048) :
    val_main_v36 (F := Ideal) h w cv cb wd (ix3 b r e) = down h w cv cb wd b r e := by
  rw [val_main_v36_apply]
  refine Finset.sum_congr rfl fun j _ => ?_
  rw [show lidx_main_v36 (ix3 b r e) j = ix3 b r j by funext a; fin_cases a <;> rfl, hid_at, val_main_v6_apply]
  refine congrArg (hid h w cv cb b r j * ·) (congrArg wd ?_)
  funext a
  fin_cases a <;> refine Fin.ext ?_ <;> simp [ix3] <;> omega

theorem rms_at (b : Fin 2) (r : Fin 8192) (i : S2x8192x1.Idx) (h0 : (i 0).val = b.val) (h1 : (i 1).val = r.val) :
    val_main_v45 (F := Ideal) h w cv cb wd i = rms (down h w cv cb wd b r) := by
  rw [val_main_v45_apply, val_main_v44_apply, val_main_v43_apply, val_main_cst_1_apply, val_main_v42_apply,
    val_main_v41_apply, val_main_cst_0_apply, val_main_v40_apply, val_main_v39_apply, val_main_cst_apply, zero_cst, zero_add]
  unfold rms
  refine congrArg Ideal.rsqrt (congrArg₂ (· + ·) (congrArg₂ Ideal.div (Finset.sum_congr rfl fun e _ => ?_) rfl) rfl)
  rw [val_main_v38_apply,
    show idx_main_v39 (idx_main_v40 i) e = ix3 b r e by
      funext a; fin_cases a <;> refine Fin.ext ?_ <;> simp [ix3, h0, h1], down_at]
  rfl

/-- The reference's result at row `r` and entry `e`. -/
theorem result_at (b : Fin 2) (r : Fin 8192) (e : Fin 2048) :
    val_main_v53 (F := Ideal) h x1 md g w cv cb wd (ix3 b r e) =
      x1 (ix3 b r e) + md (ix2 ⟨b.val, by omega⟩ ⟨10240 + e.val, by omega⟩) *
        (down h w cv cb wd b r e * rms (down h w cv cb wd b r) * g (ix2 0 e)) := by
  rw [val_main_v53_apply, val_main_v52_apply, val_main_v51_apply, val_main_v1_apply, val_main_v0_apply, val_main_v50_apply,
    val_main_v49_apply, val_main_v48_apply, val_main_v37_apply, val_main_v47_apply, val_main_v46_apply, down_at,
    rms_at h w cv cb wd b r _ rfl rfl]
  refine congrArg₂ (· + ·) rfl (congrArg₂ (· * ·) (congrArg md ?_) (congrArg₂ (· * ·) rfl (congrArg g ?_))) <;> funext a <;>
    fin_cases a <;> refine Fin.ext ?_ <;> simp [ix2, ix3] <;> omega

end Cert.FfnRef

end
-- ==== Proof.FfnAlg.lean ====
/- The feed-forward kernel leaves what its reference leaves. -/
module

public import proofs.«01_k».proof.Proof.FfnTile
public import proofs.«01_k».proof.Proof.FfnBlocks
public import proofs.«01_k».proof.Proof.FfnRef
public import proofs.«01_k».proof.Defs

@[expose] public section

set_option maxRecDepth 16384

noncomputable section

namespace Cert.Kernel2Ideal.Ffn

open Cert.Kernel2Ideal Cert.Kernel2Ideal.Gen Cert.FfnRef Idealize.ShloMosaic Idealize.ShloMosaic.TcCoe Idealize.SL.Sem

variable (m : (ℓ : Loc nD τ sig) → Buf (Elt Ideal) ℓ) (c : Dev nD) (b : Fin 2) (i : Fin 16)

/-! ## The rows of a tile and its neighbours' -/

theorem tile_first : ∀ i : Fin 16, BitVec.ofNat 32 i.val = 0#32 ↔ i.val = 0 := by decide
theorem tile_last : ∀ i : Fin 16, BitVec.ofNat 32 i.val = 15#32 ↔ i.val = 15 := by decide

theorem HH_eq : HH m c (16 * b.val + i.val) =
    hhB (BitVec.ofNat 32 i.val) (iblk m c 0 (ptb b i 0)) (iblk m c 1 (ptb b i 0)) (iblk m c 2 (ptb b i 0)) := by
  have h := tile_coord (ptb b i 0)
  rw [ptb_val b i 0 (by omega)] at h
  have h : (grid0.coords (ptb b i 0) 1).val = i.val := by omega
  unfold HH
  rw [h]

/-- Row `y` of a tile's rows, counted from the row before its first, is row `512 i + y` of the padded input. -/
theorem HH_row (y : ℕ) (hy : y ≤ 513) (k : Fin 2048) :
    HH m c (16 * b.val + i.val) (ix2 ⟨(y + 527) % 528, Nat.mod_lt _ (by decide)⟩ k) =
      if hs : 0 < 512 * i.val + y ∧ 512 * i.val + y ≤ 8192 then V m c main_arg0 (ix3 b ⟨512 * i.val + y - 1, by omega⟩ k) else (0 : EReal) := by
  rw [HH_eq]
  rcases (by omega : y = 0 ∨ (0 < y ∧ y ≤ 512) ∨ y = 513) with h | h | h
  · subst h
    refine (hhB_halo _ _ _ _ (15 : Fin 16) k).trans ?_
    rw [if_neg (by decide : ¬ (15 : Fin 16).val < 8)]
    simp only [tile_first]
    split
    · rw [dif_neg (by omega)]
    · rename_i hi
      rw [dif_pos (by omega), hp_blk m c b i hi]
      refine congrArg (V m c main_arg0) ?_
      congr 1
      apply Fin.ext
      show 512 * i.val - 16 + 15 = 512 * i.val + 0 - 1
      omega
  · have hx : (⟨(y + 527) % 528, Nat.mod_lt _ (by decide)⟩ : Fin 528) = ⟨(⟨y - 1, by omega⟩ : Fin 512).val, by dsimp only; omega⟩ := by
      apply Fin.ext
      dsimp only
      omega
    rw [hx, hhB_rows, h_blk, dif_pos (by omega)]
    refine congrArg (V m c main_arg0) ?_
    congr 1
    apply Fin.ext
    show 512 * i.val + (y - 1) = 512 * i.val + y - 1
    omega
  · subst h
    refine (hhB_halo _ _ _ _ (0 : Fin 16) k).trans ?_
    rw [if_pos (by decide : (0 : Fin 16).val < 8)]
    simp only [tile_last]
    split
    · rw [dif_neg (by omega)]
    · rename_i hi
      rw [dif_pos (by omega), hn_blk m c b i (by omega)]
      refine congrArg (V m c main_arg0) ?_
      congr 1

/-- Column `s` of the gate half, or of the value half, of a tile's channels. -/
abbrev colB (q : Fin 2) (s : Fin 512) : Fin 1024 := ⟨512 * q.val + s.val, by omega⟩
abbrev chan (q : Fin 2) (f : Fin 11) (s : Fin 512) : Fin 11264 := ⟨5632 * q.val + 512 * f.val + s.val, by omega⟩

theorem UU_sum (f : Fin 11) (x : Fin 528) (q : Fin 2) (s : Fin 512) :
    UU m c (16 * b.val + i.val) f.val (ix2 x (colB q s)) =
      ∑ k : Fin 2048, HH m c (16 * b.val + i.val) (ix2 x k) * V m c main_arg4 (ix3 0 k (chan q f s)) := by
  unfold UU
  match q with
  | 0 =>
    rw [show colB 0 s = gateB s from Fin.ext (by show 512 * 0 + s.val = s.val; omega), uB_gate]
    refine Finset.sum_congr rfl fun k _ => congrArg _ ?_
    rw [wg_blk]
    exact congrArg (fun z => V m c main_arg4 (ix3 0 k z)) (Fin.ext (by show 512 * f.val + s.val = 5632 * 0 + 512 * f.val + s.val; omega))
  | 1 =>
    rw [show colB 1 s = valueB s from Fin.ext (by show 512 * 1 + s.val = 512 + s.val; omega), uB_value]
    refine Finset.sum_congr rfl fun k _ => congrArg _ ?_
    rw [wv_blk]
    exact congrArg (fun z => V m c main_arg4 (ix3 0 k z))
      (Fin.ext (by show 5632 + (512 * f.val + s.val) = 5632 * 1 + 512 * f.val + s.val; omega))

/-- The up-projection of a tile's rows is that of the padded input's. -/
theorem UU_row (f : Fin 11) (y : ℕ) (hy : y ≤ 513) (q : Fin 2) (s : Fin 512) :
    UU m c (16 * b.val + i.val) f.val (ix2 ⟨(y + 527) % 528, Nat.mod_lt _ (by decide)⟩ (colB q s)) =
      upZ (V m c main_arg0) (V m c main_arg4) b (512 * i.val + y) (chan q f s) := by
  rw [UU_sum]
  simp only [HH_row m c b i y hy]
  unfold upZ
  split
  · rfl
  · exact Finset.sum_eq_zero fun k _ => zero_mul _

/-! ## The hidden layer -/

theorem tap_at (f : Fin 11) (k : Fin 3) (q : Fin 2) (s : Fin 512) :
    cw k.val (iblk m c 5 (ptb b i (f.val + 1))) (ix3 0 0 (colB q s)) = V m c main_arg5 (ix3 0 k (chan q f s)) := by
  refine (cw_at _ ⟨k.val, by omega⟩ _).trans ?_
  rw [cv_blk, v5_at]
  exact taps_at _ _ k _

theorem shift_at (f : Fin 11) (q : Fin 2) (s : Fin 512) :
    cw 3 (iblk m c 5 (ptb b i (f.val + 1))) (ix3 0 0 (colB q s)) = V m c main_arg6 (ix2 0 (chan q f s)) := by
  refine (cw_at _ 3 _).trans ?_
  rw [cv_blk, v5_at]
  exact bias_at _ _ _

/-- The convolution of a tile's rows. -/
theorem conv_tile (f : Fin 11) (x : Fin 512) (q : Fin 2) (s : Fin 512) :
    convB (UU m c (16 * b.val + i.val) f.val) (cw 0 (iblk m c 5 (ptb b i (f.val + 1)))) (cw 1 (iblk m c 5 (ptb b i (f.val + 1))))
        (cw 2 (iblk m c 5 (ptb b i (f.val + 1)))) (cw 3 (iblk m c 5 (ptb b i (f.val + 1)))) x (colB q s) =
      conv (V m c main_arg0) (V m c main_arg4) (V m c main_arg5) (V m c main_arg6) b ⟨512 * i.val + x.val, by omega⟩ (chan q f s) := by
  have r0 : (⟨(x.val + 528 - 1) % 528, Nat.mod_lt _ (by decide)⟩ : Fin 528) = ⟨(x.val + 527) % 528, Nat.mod_lt _ (by decide)⟩ :=
    Fin.ext (by dsimp only; omega)
  have r1 : (⟨x.val, by omega⟩ : Fin 528) = ⟨((1 + x.val) + 527) % 528, Nat.mod_lt _ (by decide)⟩ := Fin.ext (by dsimp only; omega)
  have r2 : (⟨(x.val + 528 - 527) % 528, Nat.mod_lt _ (by decide)⟩ : Fin 528) = ⟨((2 + x.val) + 527) % 528, Nat.mod_lt _ (by decide)⟩ :=
    Fin.ext (by dsimp only; omega)
  unfold convB conv
  rw [r0, r1, r2, UU_row m c b i f _ (by omega), UU_row m c b i f _ (by omega), UU_row m c b i f _ (by omega), shift_at]
  have t0 := tap_at m c b i f 0 q s
  have t1 := tap_at m c b i f 1 q s
  have t2 := tap_at m c b i f 2 q s
  refine congrArg (· + _) (congrArg₂ (· + ·) (congrArg₂ (· + ·) ?_ ?_) ?_)
  · rw [mul_comm]
    exact congrArg _ t0
  · rw [mul_comm]
    exact congrArg₂ (· * ·) (congrArg (fun z => upZ _ _ b z _) (by dsimp only; omega)) t1
  · rw [mul_comm]
    exact congrArg₂ (· * ·) (congrArg (fun z => upZ _ _ b z _) (by dsimp only; omega)) t2

/-- The gated hidden layer of a tile's rows. -/
theorem act_tile (f : Fin 11) (x : Fin 512) (j : Fin 512) :
    actB (UU m c (16 * b.val + i.val) f.val) (cw 0 (iblk m c 5 (ptb b i (f.val + 1)))) (cw 1 (iblk m c 5 (ptb b i (f.val + 1))))
        (cw 2 (iblk m c 5 (ptb b i (f.val + 1)))) (cw 3 (iblk m c 5 (ptb b i (f.val + 1)))) x j =
      hid (V m c main_arg0) (V m c main_arg4) (V m c main_arg5) (V m c main_arg6) b ⟨512 * i.val + x.val, by omega⟩
        ⟨512 * f.val + j.val, by omega⟩ := by
  unfold actB hid
  rw [show gateB j = colB 0 j from Fin.ext (by show j.val = 512 * 0 + j.val; omega),
    show valueB j = colB 1 j from Fin.ext (by show 512 + j.val = 512 * 1 + j.val; omega), conv_tile, conv_tile,
    show chan 0 f j = gateCol ⟨512 * f.val + j.val, by omega⟩ from
      Fin.ext (by show 5632 * 0 + 512 * f.val + j.val = 512 * f.val + j.val; omega),
    show chan 1 f j = valueCol ⟨512 * f.val + j.val, by omega⟩ from
      Fin.ext (by show 5632 * 1 + 512 * f.val + j.val = 5632 + (512 * f.val + j.val); omega)]

/-! ## The down-projection -/

/-- The part of the down-projection the hidden tile `f` carries. -/
def part (x : Fin 512) (e : Fin 2048) (f : ℕ) : EReal :=
  if hf : f < 11 then ∑ j : Fin 512,
    hid (V m c main_arg0) (V m c main_arg4) (V m c main_arg5) (V m c main_arg6) b ⟨512 * i.val + x.val, by omega⟩
      ⟨512 * f + j.val, by omega⟩ * V m c main_arg7 (ix3 0 ⟨512 * f + j.val, by omega⟩ e)
  else 0

theorem term_tile (f : ℕ) (hf : f < 11) (x : Fin 512) (e : Fin 2048) :
    termB (UU m c (16 * b.val + i.val) f) (iblk m c 5 (ptb b i (f + 1))) (iblk m c 6 (ptb b i (f + 1))) x e = part m c b i x e f := by
  unfold termB part
  rw [dif_pos hf]
  exact Finset.sum_congr rfl fun j _ => congrArg₂ (· * ·) (act_tile m c b i ⟨f, hf⟩ x j) (wd_blk m c b i ⟨f, hf⟩ j e)

/-- The sum a tile carries after each of its steps. -/
theorem ACC_at (x : Fin 512) (e : Fin 2048) : ∀ g : ℕ, g < 11 →
    ACC m c (16 * b.val + i.val) g (ix2 x e) = ∑ f ∈ Finset.range (g + 1), part m c b i x e f
  | 0, _ => by
    rw [Finset.sum_range_one]
    show dnB _ _ _ (ix2 x e) = _
    rw [dnB_at]
    exact term_tile m c b i 0 (by omega) x e
  | g + 1, hg => by
    rw [Finset.sum_range_succ, ← ACC_at x e g (by omega)]
    show accC _ _ _ _ (ix2 x e) = _
    rw [accC_at]
    exact congrArg _ (term_tile m c b i (g + 1) hg x e)

theorem parts (x : Fin 512) (e : Fin 2048) : ∑ f ∈ Finset.range 11, part m c b i x e f =
    down (V m c main_arg0) (V m c main_arg4) (V m c main_arg5) (V m c main_arg6) (V m c main_arg7) b ⟨512 * i.val + x.val, by omega⟩ e := by
  unfold down
  have h : ∀ f : Fin 11, part m c b i x e f.val = ∑ j : Fin 512,
      hid (V m c main_arg0) (V m c main_arg4) (V m c main_arg5) (V m c main_arg6) b ⟨512 * i.val + x.val, by omega⟩
        ⟨512 * f.val + j.val, by omega⟩ * V m c main_arg7 (ix3 0 ⟨512 * f.val + j.val, by omega⟩ e) := fun f => by
    unfold part
    rw [dif_pos f.isLt]
  rw [Finset.sum_range]
  simp only [h]
  rw [← Fintype.sum_prod_type']
  refine Fintype.sum_equiv (finProdFinEquiv (m := 11) (n := 512)) _ _ fun p => ?_
  have hp : (⟨512 * p.1.val + p.2.val, by omega⟩ : Fin 5632) = finProdFinEquiv (m := 11) (n := 512) p :=
    Fin.ext (by simp [finProdFinEquiv]; omega)
  rw [hp]

/-! ## The result -/

theorem OUT_at (x : Fin 512) (e : Fin 2048) :
    OUT m c (16 * b.val + i.val) (ix3 0 x e) =
      Cert.Reference2Ideal.Read.val_main_v53 (F := Ideal) (V m c main_arg0) (V m c main_arg1) (V m c main_arg2) (V m c main_arg3)
        (V m c main_arg4) (V m c main_arg5) (V m c main_arg6) (V m c main_arg7) (ix3 b ⟨512 * i.val + x.val, by omega⟩ e) := by
  rw [result_at]
  unfold OUT OUTat
  refine (outB_at _ _ _ _ e _ _ _ _ (down (V m c main_arg0) (V m c main_arg4) (V m c main_arg5) (V m c main_arg6) (V m c main_arg7) b
    ⟨512 * i.val + x.val, by omega⟩) fun e => ?_).trans ?_
  · rw [← parts, Finset.sum_range_succ, ← ACC_at m c b i x e 9 (by omega)]
    exact congrArg _ (term_tile m c b i 10 (by omega) x e)
  · rw [x1_blk, md_row m c b i (isD_pt _), g_blk]
    rfl

theorem result_ref : (dats m 0 c).arrAt 10 cfg0.N =
    Cert.Reference2Ideal.Read.val_main_v53 (F := Ideal) (V m c main_arg0) (V m c main_arg1) (V m c main_arg2) (V m c main_arg3)
      (V m c main_arg4) (V m c main_arg5) (V m c main_arg6) (V m c main_arg7) :=
  result_eq m c _ fun b i x e => (OUT_at m c b i x e).symm

end Cert.Kernel2Ideal.Ffn

namespace Cert.Proof

open Cert.Kernel2Ideal Cert.Kernel2Ideal.Gen Cert.Kernel2Ideal.Ffn Idealize.ShloMosaic Idealize.ShloMosaic.TcCoe Idealize.SL.Sem

/-- From the same arguments the kernel and the reference leave the same result. -/
theorem algebraic_ffn : Cert.algebraic_Kernel2Ideal_Reference2Ideal := fun m g m' g' _ hargs => by
  refine ⟨fun c => (dats m 0 c).arrAt 10 cfg0.N, ?_, ?_⟩
  · refine (θ_run defs _ _).mono (fun r h c => ⟨(h.1 c).1 10, h.2.1 c⟩) (θ_run_and (run_main m g) (frame_run m g))
  · refine (θ_run Cert.Reference2Ideal.defs _ _).mono (fun r h c => ⟨(h c).1.trans ?_, (h c).2⟩) (Cert.Reference2Ideal.Value.run (F := Ideal) m' g')
    obtain ⟨h0, h1, h2, h3, h4, h5, h6, h7⟩ := hargs c
    refine (Cert.Reference2Ideal.Read.val_main_v53_eq m' c).trans (Eq.trans ?_ (result_ref m c).symm)
    rw [h0, h1, h2, h3, h4, h5, h6, h7, V_main_arg0, V_main_arg1, V_main_arg2, V_main_arg3, V_main_arg4, V_main_arg5, V_main_arg6,
      V_main_arg7]

end Cert.Proof

end
-- ==== Proof.FfnQuiescent.lean ====
/- The feed-forward programs run, keep their arguments and end with every semaphore at zero. -/
module

public import proofs.«01_k».proof.Proof.FfnFrame
public import proofs.«01_k».proof.Proof.Gen.Kernel2
public import proofs.«01_k».proof.Proof.Gen.Reference2Ideal.Run
public import proofs.«01_k».proof.Defs
public import Idealize.ShloMosaic.Lib.Quiescent

@[expose] public section

noncomputable section

namespace Cert.Proof
open Idealize.ShloMosaic Idealize.ShloMosaic.TcCoe Idealize.SL.Sem

/-- The two printings of the feed-forward program have one body table. -/
theorem ffn_defs₀_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl
  | ⟨_ + 1, h⟩, _ => exact absurd h (Nat.not_lt.2 (Nat.le_add_left _ _))

theorem ffn_defs_eq : Cert.Kernel2.defs (F := Bits) = Cert.Kernel2Ideal.defs (F := Bits) :=
  congrArg (Pipeline.defs Cert.Kernel2Ideal.pcfgs) ffn_defs₀_eq

theorem quiescent_ffn_bits : Cert.quiescent_Kernel2 := fun m g _ => by
  rw [show Cert.Kernel2.defs (F := Bits) = Cert.Kernel2Ideal.defs (F := Bits) from ffn_defs_eq]
  exact Cert.Kernel2Ideal.Ffn.frame_run (F := Bits) m g

theorem quiescent_ffn : Cert.quiescent_Kernel2Ideal := fun m g _ => Cert.Kernel2Ideal.Ffn.frame_run m g

theorem quiescent_ffn_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.OutRun.lean ====
/- What one tile of the output-projection kernel computes, restated from its stored pieces. -/
module

public import proofs.«01_k».proof.Proof.Gen.Kernel3Ideal.Frame

@[expose] public section

set_option maxRecDepth 16384

noncomputable section

namespace Cert.Kernel3Ideal.Out

open Cert.Kernel3Ideal Cert.Kernel3Ideal.Gen Idealize.ShloMosaic Idealize.ShloMosaic.TcCoe Idealize.SL.Sem

variable {F : FTy → Type} [FloatOps F]

/-- The half-tile of rows from `R` on, of one head's columns from `C` on. -/
abbrev headR (R C : Nat) (hR : R + 256 ≤ 512) (hC : C + 128 ≤ 1024) : Rect S1x512x1024 :=
  Rect.unit (s := S1x512x1024) ![0, R, C] ![1, 256, 128]
    (fun a => match a with | ⟨0, _⟩ => (by show 0 + 1 ≤ 1; omega) | ⟨1, _⟩ => hR | ⟨2, _⟩ => hC)

abbrev gainR (C : Nat) (hC : C + 128 ≤ 1024) : Rect S1x1024 :=
  Rect.unit (s := S1x1024) ![0, C] ![1, 128] (fun a => match a with | ⟨0, _⟩ => (by show 0 + 1 ≤ 1; omega) | ⟨1, _⟩ => hC)

abbrev attnR (R : Nat) (hR : R + 256 ≤ 512) : Rect S1x512x1024 :=
  Rect.unit (s := S1x512x1024) ![0, R, 0] ![1, 256, 1024]
    (fun a => match a with | ⟨0, _⟩ => (by show 0 + 1 ≤ 1; omega) | ⟨1, _⟩ => hR | ⟨2, _⟩ => (by show 0 + 1024 ≤ 1024; omega))

/-- One head of one half-tile, normalised and gated, in its place of the left operand. -/
def headP (x0 x1 : Vec F S1x512x1024 .f32) (x2 : Vec F S1x512x1024 .bf16) (x6 : Vec F S1x1024 .f32)
    (R C : Nat) (hR : R + 256 ≤ 512) (hC : C + 128 ≤ 1024) : View.Piece (Elt F) S512x2048 .bf16 :=
  ⟨Rect.unit (s := S512x2048) ![R, C] ![256, 128]
      (fun a => match a with | ⟨0, _⟩ => hR | ⟨1, _⟩ => (by show C + 128 ≤ 2048; omega)),
    k0_pay1 (View.ld x0 (headR R C hR hC)) (View.ld x1 (headR R C hR hC)) (View.ld x6 (gainR C hC)) (View.ld x2 (headR R C hR hC))⟩

/-- The attention of one half-tile in its place of the left operand. -/
def attnP (x3 : Vec F S1x512x1024 .bf16) (R : Nat) (hR : R + 256 ≤ 512) : View.Piece (Elt F) S512x2048 .bf16 :=
  ⟨Rect.unit (s := S512x2048) ![R, 1024] ![256, 1024]
      (fun a => match a with | ⟨0, _⟩ => hR | ⟨1, _⟩ => (by show 1024 + 1024 ≤ 2048; omega)),
    k0_pay16 (View.ld x3 (attnR R hR))⟩

/-- The pieces one half-tile puts into the left operand, the last first, over those already there. -/
def halfL (x0 x1 : Vec F S1x512x1024 .f32) (x2 x3 : Vec F S1x512x1024 .bf16) (x6 : Vec F S1x1024 .f32)
    (R : Nat) (hR : R + 256 ≤ 512) (L : List (View.Piece (Elt F) S512x2048 .bf16)) : List (View.Piece (Elt F) S512x2048 .bf16) :=
  attnP x3 R hR :: headP x0 x1 x2 x6 R 896 hR (by decide) :: headP x0 x1 x2 x6 R 768 hR (by decide)
    :: headP x0 x1 x2 x6 R 640 hR (by decide) :: headP x0 x1 x2 x6 R 512 hR (by decide)
    :: headP x0 x1 x2 x6 R 384 hR (by decide) :: headP x0 x1 x2 x6 R 256 hR (by decide)
    :: headP x0 x1 x2 x6 R 128 hR (by decide) :: headP x0 x1 x2 x6 R 0 hR (by decide) :: L

/-- The pieces of the whole left operand. -/
def lhsL (x0 x1 : Vec F S1x512x1024 .f32) (x2 x3 : Vec F S1x512x1024 .bf16) (x6 : Vec F S1x1024 .f32) :
    List (View.Piece (Elt F) S512x2048 .bf16) :=
  halfL x0 x1 x2 x3 x6 256 (by decide) (halfL x0 x1 x2 x3 x6 0 (by decide) [])

section run
variable (c : Dev nD) (i : grid0.Coords) (arg2 : Memref sig .tc .vmem S1x512x1024 .f32) (harg2 : arg2.IsWhole)
  (arg3 : Memref sig .tc .vmem S1x512x1024 .f32) (harg3 : arg3.IsWhole) (arg4 : Memref sig .tc .vmem S1x512x1024 .bf16) (harg4 : arg4.IsWhole)
  (arg5 : Memref sig .tc .vmem S1x512x1024 .bf16) (harg5 : arg5.IsWhole) (arg8 : Memref sig .tc .vmem S1x1024 .f32) (harg8 : arg8.IsWhole)
  (arg14 : Memref sig .tc .vmem S512x2048 .bf16)
  (x0 x1 : Vec F S1x512x1024 .f32) (x2 x3 : Vec F S1x512x1024 .bf16) (x6 : Vec F S1x1024 .f32)

theorem pieces_eq : kernelRun0_A.sl.HS0_18 c arg2 harg2 arg3 harg3 arg4 harg4 arg5 harg5 arg8 harg8 x0 x1 x2 x3 x6
    = lhsL x0 x1 x2 x3 x6 := by
  simp only [kernelRun0_A.sl.HS0_18, kernelRun0_A.sl.r, kernelRun0_A.sl.r_1, kernelRun0_A.sl.r_2, kernelRun0_A.sl.r_3,
    kernelRun0_A.sl.r_4, kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18,
    View.readAt_eq_ld, Memref.IsWhole.read_unread]
  rfl

end run

abbrev rowsR (R : Nat) (hR : R + 256 ≤ 512) : Rect S1x512x2048 :=
  Rect.unit (s := S1x512x2048) ![0, R, 0] ![1, 256, 2048]
    (fun a => match a with | ⟨0, _⟩ => (by show 0 + 1 ≤ 1; omega) | ⟨1, _⟩ => hR | ⟨2, _⟩ => (by show 0 + 2048 ≤ 2048; omega))

abbrev lhsR (R : Nat) (hR : R + 256 ≤ 512) : Rect S512x2048 :=
  Rect.unit (s := S512x2048) ![R, 0] ![256, 2048] (fun a => match a with | ⟨0, _⟩ => hR | ⟨1, _⟩ => (by show 0 + 2048 ≤ 2048; omega))

abbrev rowR : Rect S1x2048 := Rect.unit (s := S1x2048) ![0, 0] S1x2048.size inb_S1x2048_S1x2048_0_0

abbrev matR : Rect S2048x2048 := Rect.unit (s := S2048x2048) ![0, 0] S2048x2048.size inb_S2048x2048_S2048x2048_0_0

/-- The normalised product of one half-tile of the left operand `l` with the weights. -/
def prodP (l : Vec F S512x2048 .bf16) (x9 : Vec F S2048x2048 .bf16) (R : Nat) (hR : R + 256 ≤ 512) : FVec F S256x2048 .f32 :=
  k0_pay41 (k0_pay34 (View.ld l (lhsR R hR)) (View.ld x9 matR))

/-- One half of the tile of the residual sum. -/
def sumP (v1 : Vec F S1x2048 .f32) (l : Vec F S512x2048 .bf16) (x4 : Vec F S1x512x2048 .f32) (x7 : Vec F S1x2048 .f32)
    (x9 : Vec F S2048x2048 .bf16) (R : Nat) (hR : R + 256 ≤ 512) : View.Piece (Elt F) S1x512x2048 .f32 :=
  ⟨rowsR R hR, k0_pay43 v1 (k0_pay40 (View.ld x4 (rowsR R hR))) (prodP l x9 R hR) (View.ld x7 rowR)⟩

/-- One half of the tile of its modulated normalisation. -/
def modP (v1 v3 v5 : Vec F S1x2048 .f32) (l : Vec F S512x2048 .bf16) (x4 : Vec F S1x512x2048 .f32) (x7 x8 : Vec F S1x2048 .f32)
    (x9 : Vec F S2048x2048 .bf16) (R : Nat) (hR : R + 256 ≤ 512) : View.Piece (Elt F) S1x512x2048 .bf16 :=
  ⟨rowsR R hR, k0_pay44 v1 v3 v5 (k0_pay40 (View.ld x4 (rowsR R hR))) (prodP l x9 R hR) (View.ld x7 rowR) (View.ld x8 rowR)⟩

abbrev gateR (i : grid0.Coords) : Rect S8x12288 := Rect.unit (s := S8x12288) (k0_off1 i) S1x2048.size (k0_off1_inb i)
abbrev shiftR (i : grid0.Coords) : Rect S8x12288 := Rect.unit (s := S8x12288) (k0_off2 i) S1x2048.size (k0_off2_inb i)
abbrev scaleR (i : grid0.Coords) : Rect S8x12288 := Rect.unit (s := S8x12288) (k0_off3 i) S1x2048.size (k0_off3_inb i)

/-- The tile of the residual sum. -/
def sumT (v1 : Vec F S1x2048 .f32) (l : Vec F S512x2048 .bf16) (x4 : Vec F S1x512x2048 .f32) (x7 : Vec F S1x2048 .f32)
    (x9 : Vec F S2048x2048 .bf16) : Vec F S1x512x2048 .f32 :=
  View.canon [sumP v1 l x4 x7 x9 256 (by decide), sumP v1 l x4 x7 x9 0 (by decide)]

/-- The tile of its modulated normalisation. -/
def modT (v1 v3 v5 : Vec F S1x2048 .f32) (l : Vec F S512x2048 .bf16) (x4 : Vec F S1x512x2048 .f32) (x7 x8 : Vec F S1x2048 .f32)
    (x9 : Vec F S2048x2048 .bf16) : Vec F S1x512x2048 .bf16 :=
  View.canon [modP v1 v3 v5 l x4 x7 x8 x9 256 (by decide), modP v1 v3 v5 l x4 x7 x8 x9 0 (by decide)]

/-- The two halves are computed alike. -/
theorem sum_half (v1 : Vec F S1x2048 .f32) (l : Vec F S256x2048 .bf16) (w : Vec F S2048x2048 .bf16) (a : Vec F S1x256x2048 .f32) (g : Vec F S1x2048 .f32) :
    k0_pay38 (k0_pay35 a) (k0_pay36 v1 l w g) = k0_pay43 v1 (k0_pay40 a) (k0_pay41 (k0_pay34 l w)) g := rfl

theorem mod_half (v1 v3 v5 : Vec F S1x2048 .f32) (l : Vec F S256x2048 .bf16) (w : Vec F S2048x2048 .bf16) (a : Vec F S1x256x2048 .f32) (g h : Vec F S1x2048 .f32) :
    k0_pay39 v3 v5 (k0_pay35 a) (k0_pay36 v1 l w g) h = k0_pay44 v1 v3 v5 (k0_pay40 a) (k0_pay41 (k0_pay34 l w)) g h := rfl

theorem readCov_ld {κ : Kind} {sp : Space} {s : Shape} {e : EltTy} (v : View sig κ sp s e) (L : List (View.Piece (Elt F) s e)) (r : Rect s) :
    v.readCov L r.toLoadRect = View.ld (View.canon L) r := View.readCov_eq_canon' v L r.toLoadRect

variable (m : (ℓ : Loc nD τ sig) → Buf (Elt F) ℓ) (c : Dev nD) (t : Fin cfg0.N)

/-- The left operand at a point. -/
def lhsT : Vec F S512x2048 .bf16 := View.canon (lhsL (iblk m c 0 t) (iblk m c 1 t) (X0_2 m c t) (iblk m c 3 t) (iblk m c 6 t))

theorem sum_eq : (outsAt0 m c t).1 = sumT (View.ld (iblk m c 5 t) (gateR (grid0.coords t))) (lhsT m c t) (iblk m c 4 t) (iblk m c 7 t) (iblk m c 9 t) := by
  unfold outsAt0 out0_A_10; dsimp only; unfold kernelRun0_A; dsimp only
  rw [View.read_writes_junk_eq_canon]
  simp only [kernelRun0_A.sl.r_23, kernelRun0_A.sl.r_22, kernelRun0_A.sl.r_21, kernelRun0_A.sl.r_20, kernelRun0_A.sl.r_19, kernelRun0_A.sl.r,
    kernelRun0_A.sl.v448, kernelRun0_A.sl.v452, readCov_ld, pieces_eq, View.readAt_eq_ld, Memref.IsWhole.read_unread, sum_half]
  unfold sumT sumP prodP lhsT
  rfl

theorem mod_eq : (outsAt0 m c t).2 = modT (View.ld (iblk m c 5 t) (gateR (grid0.coords t))) (View.ld (iblk m c 5 t) (shiftR (grid0.coords t)))
    (View.ld (iblk m c 5 t) (scaleR (grid0.coords t))) (lhsT m c t) (iblk m c 4 t) (iblk m c 7 t) (iblk m c 8 t) (iblk m c 9 t) := by
  unfold outsAt0 out0_A_11; dsimp only; unfold kernelRun0_A; dsimp only
  rw [View.read_writes_junk_eq_canon]
  simp only [kernelRun0_A.sl.r_24, kernelRun0_A.sl.r_23, kernelRun0_A.sl.r_22, kernelRun0_A.sl.r_21, kernelRun0_A.sl.r_20, kernelRun0_A.sl.r_19, kernelRun0_A.sl.r, kernelRun0_A.sl.r_1, kernelRun0_A.sl.r_2,
    kernelRun0_A.sl.v448, kernelRun0_A.sl.v452, readCov_ld, pieces_eq, View.readAt_eq_ld, Memref.IsWhole.read_unread, mod_half]
  unfold modT modP prodP lhsT
  rfl

end Cert.Kernel3Ideal.Out

end
-- ==== Proof.OutMath.lean ====
/- The output projection of one row, over the extended reals. -/
module

public import Idealize.ShloMosaic.Lib.Pointwise

@[expose] public section

noncomputable section

namespace Cert.Out

open Idealize.ShloMosaic

/-- One entry of a row over the root of its mean square. -/
def rmsE {n : Nat} (len : BitVec 32) (y : Fin n → EReal) (e : Fin n) : EReal :=
  y e * Ideal.rsqrt (Ideal.div (∑ e : Fin n, y e * y e) (Ideal.ofBits .f32 len) + Ideal.ofBits .f32 0x358637BD#32)

/-- Entry `j` of the head that entry `k` belongs to, and the place of `k` in its head. -/
abbrev inHead (k : Fin 1024) (j : Fin 128) : Fin 1024 := ⟨128 * (k.val / 128) + j.val, by omega⟩
abbrev lane (k : Fin 1024) : Fin 128 := ⟨k.val % 128, by omega⟩

/-- The recurrent half of the row: each head normalised, scaled and gated. -/
def headE (s g o : Fin 1024 → EReal) (k : Fin 1024) : EReal :=
  rmsE 0x43000000#32 (fun j => s (inHead k j)) (lane k) * g k * Ideal.logistic (o k)

/-- The row the weights are applied to: the recurrent half, then the attention. -/
def lhsE (s g o a : Fin 1024 → EReal) (k : Fin 2048) : EReal :=
  if h : k.val < 1024 then headE s g o ⟨k.val, h⟩ else a ⟨k.val - 1024, by omega⟩

/-- The product with the weights. -/
def prodE (l : Fin 2048 → EReal) (w : Fin 2048 → Fin 2048 → EReal) (e : Fin 2048) : EReal := ∑ k : Fin 2048, l k * w k e

/-- The residual sum. -/
def sumE (x v g y : Fin 2048 → EReal) (e : Fin 2048) : EReal := x e + v e * (rmsE 0x45000000#32 y e * g e)

/-- Its modulated normalisation. -/
def modE (x s t g : Fin 2048 → EReal) (e : Fin 2048) : EReal :=
  rmsE 0x45000000#32 x e * g e * (Ideal.ofBits .f32 0x3F800000#32 + t e) + s e

end Cert.Out

end
-- ==== Proof.OutRead.lean ====
/- The output-projection kernel's steps on one tile, read at an index over the extended reals. -/
module

public import proofs.«01_k».proof.Proof.OutRun
public import proofs.«01_k».proof.Proof.OutMath

@[expose] public section

set_option maxRecDepth 16384

noncomputable section

namespace Cert.Kernel3Ideal.Out

open Cert.Kernel3Ideal Cert.Kernel3Ideal.Gen Cert.Out Idealize.ShloMosaic

theorem pay1_at (v6 v8 : Vec Ideal S1x256x128 .f32) (g : Vec Ideal S1x128 .f32) (o : Vec Ideal S1x256x128 .bf16) (x : Fin 256) (k : Fin 128) :
    k0_pay1 (F := Ideal) v6 v8 g o (ix2 x k) =
      rmsE 0x43000000#32 (fun k => v6 (ix3 0 x k) + v8 (ix3 0 x k)) k * g (ix2 0 k) * Ideal.logistic (o (ix3 0 x k)) := by
  unfold rmsE
  unfold_payloads
  pointwise

theorem pay16_at (v : Vec Ideal S1x256x1024 .bf16) (x : Fin 256) (k : Fin 1024) : k0_pay16 (F := Ideal) v (ix2 x k) = v (ix3 0 x k) := by
  unfold_payloads
  pointwise

theorem pay34_at (l : Vec Ideal S256x2048 .bf16) (w : Vec Ideal S2048x2048 .bf16) (x : Fin 256) (e : Fin 2048) :
    k0_pay34 (F := Ideal) l w (ix2 x e) = ∑ k : Fin 2048, l (ix2 x k) * w (ix2 k e) := by
  unfold_payloads
  pointwise [dot_S256x2048_S2048x2048_S256x2048_1_0_0_1_n_n]

theorem pay40_at (v : Vec Ideal S1x256x2048 .f32) (x : Fin 256) (e : Fin 2048) : k0_pay40 (F := Ideal) v (ix2 x e) = v (ix3 0 x e) := by
  unfold_payloads
  pointwise

theorem pay41_at (p : FVec Ideal S256x2048 .f32) (x : Fin 256) (e : Fin 2048) :
    k0_pay41 (F := Ideal) p (ix2 x e) = rmsE 0x45000000#32 (fun e => p (ix2 x e)) e := by
  unfold rmsE
  unfold_payloads
  pointwise

theorem pay42_at (v1 : Vec Ideal S1x2048 .f32) (a p : FVec Ideal S256x2048 .f32) (g : Vec Ideal S1x2048 .f32) (x : Fin 256) (e : Fin 2048) :
    k0_pay42 (F := Ideal) v1 a p g (ix2 x e) = a (ix2 x e) + v1 (ix2 0 e) * (p (ix2 x e) * g (ix2 0 e)) := by
  unfold_payloads
  pointwise

theorem pay43_at (v1 : Vec Ideal S1x2048 .f32) (a p : FVec Ideal S256x2048 .f32) (g : Vec Ideal S1x2048 .f32) (x : Fin 256) (e : Fin 2048) :
    k0_pay43 (F := Ideal) v1 a p g (ix3 0 x e) = a (ix2 x e) + v1 (ix2 0 e) * (p (ix2 x e) * g (ix2 0 e)) := by
  unfold_payloads
  pointwise

theorem pay44_at (v1 v3 v5 : Vec Ideal S1x2048 .f32) (a p : FVec Ideal S256x2048 .f32) (g h : Vec Ideal S1x2048 .f32) (x : Fin 256) (e : Fin 2048) :
    k0_pay44 (F := Ideal) v1 v3 v5 a p g h (ix3 0 x e) =
      rmsE 0x45000000#32 (fun e => a (ix2 x e) + v1 (ix2 0 e) * (p (ix2 x e) * g (ix2 0 e))) e * h (ix2 0 e)
        * (Ideal.ofBits .f32 0x3F800000#32 + v5 (ix2 0 e)) + v3 (ix2 0 e) := by
  unfold rmsE
  unfold_payloads
  pointwise

end Cert.Kernel3Ideal.Out

end
-- ==== Proof.OutTile.lean ====
/- What the output-projection kernel leaves in its scratch and its output tiles, read at an index. -/
module

public import proofs.«01_k».proof.Proof.OutRead
public import Idealize.ShloMosaic.Lib.Pipeline.ValueKit.Tiles

@[expose] public section

set_option maxRecDepth 16384

noncomputable section

namespace Cert.Kernel3Ideal.Out

open Cert.Kernel3Ideal Cert.Kernel3Ideal.Gen Cert.Out Idealize.ShloMosaic

/-! ## Loads -/

theorem head_ld {e : EltTy} (x : Vec Ideal S1x512x1024 e) (R C : Nat) (hR : R + 256 ≤ 512) (hC : C + 128 ≤ 1024) (r : Fin 256) (k : Fin 128) :
    View.ld x (headR R C hR hC) (ix3 0 r k) = x (ix3 0 ⟨R + r.val, by omega⟩ ⟨C + k.val, by omega⟩) := by
  refine congrArg x ?_
  funext a; apply Fin.ext
  match a with
  | ⟨0, _⟩ => rfl
  | ⟨1, _⟩ => show R + 1 * r.val = R + r.val; omega
  | ⟨2, _⟩ => show C + 1 * k.val = C + k.val; omega

theorem gain_ld (x : Vec Ideal S1x1024 .f32) (C : Nat) (hC : C + 128 ≤ 1024) (k : Fin 128) :
    View.ld x (gainR C hC) (ix2 0 k) = x (ix2 0 ⟨C + k.val, by omega⟩) := by
  refine congrArg x ?_
  funext a; apply Fin.ext
  match a with
  | ⟨0, _⟩ => rfl
  | ⟨1, _⟩ => show C + 1 * k.val = C + k.val; omega

theorem attn_ld (x : Vec Ideal S1x512x1024 .bf16) (R : Nat) (hR : R + 256 ≤ 512) (r : Fin 256) (k : Fin 1024) :
    View.ld x (attnR R hR) (ix3 0 r k) = x (ix3 0 ⟨R + r.val, by omega⟩ k) := by
  refine congrArg x ?_
  funext a; apply Fin.ext
  match a with
  | ⟨0, _⟩ => rfl
  | ⟨1, _⟩ => show R + 1 * r.val = R + r.val; omega
  | ⟨2, _⟩ => show 0 + 1 * k.val = k.val; omega

theorem rows_ld (x : Vec Ideal S1x512x2048 .f32) (R : Nat) (hR : R + 256 ≤ 512) (r : Fin 256) (e : Fin 2048) :
    View.ld x (rowsR R hR) (ix3 0 r e) = x (ix3 0 ⟨R + r.val, by omega⟩ e) := by
  refine congrArg x ?_
  funext a; apply Fin.ext
  match a with
  | ⟨0, _⟩ => rfl
  | ⟨1, _⟩ => show R + 1 * r.val = R + r.val; omega
  | ⟨2, _⟩ => show 0 + 1 * e.val = e.val; omega

theorem lhs_ld (x : Vec Ideal S512x2048 .bf16) (R : Nat) (hR : R + 256 ≤ 512) (r : Fin 256) (k : Fin 2048) :
    View.ld x (lhsR R hR) (ix2 r k) = x (ix2 ⟨R + r.val, by omega⟩ k) := by
  refine congrArg x ?_
  funext a; apply Fin.ext
  match a with
  | ⟨0, _⟩ => show R + 1 * r.val = R + r.val; omega
  | ⟨1, _⟩ => show 0 + 1 * k.val = k.val; omega

theorem row_ld (x : Vec Ideal S1x2048 .f32) (e : Fin 2048) : View.ld x rowR (ix2 0 e) = x (ix2 0 e) := by
  refine congrArg x ?_
  funext a; apply Fin.ext
  match a with
  | ⟨0, _⟩ => rfl
  | ⟨1, _⟩ => show 0 + 1 * e.val = e.val; omega

theorem mat_ld (x : Vec Ideal S2048x2048 .bf16) (k e : Fin 2048) : View.ld x matR (ix2 k e) = x (ix2 k e) := by
  refine congrArg x ?_
  funext a; apply Fin.ext
  match a with
  | ⟨0, _⟩ => show 0 + 1 * k.val = k.val; omega
  | ⟨1, _⟩ => show 0 + 1 * e.val = e.val; omega

theorem head_inb (R C : Nat) (hR : R + 256 ≤ 512) (hC : C + 128 ≤ 1024) (a : Fin 2) : (![R, C] : Fin 2 → Nat) a + ![256, 128] a ≤ S512x2048.size a :=
  match a with | ⟨0, _⟩ => hR | ⟨1, _⟩ => (by show C + 128 ≤ 2048; omega)

theorem attn_inb (R : Nat) (hR : R + 256 ≤ 512) (a : Fin 2) : (![R, 1024] : Fin 2 → Nat) a + ![256, 1024] a ≤ S512x2048.size a :=
  match a with | ⟨0, _⟩ => hR | ⟨1, _⟩ => (by show 1024 + 1024 ≤ 2048; omega)

theorem rows_inb (R : Nat) (hR : R + 256 ≤ 512) (a : Fin 3) : (![0, R, 0] : Fin 3 → Nat) a + ![1, 256, 2048] a ≤ S1x512x2048.size a :=
  match a with | ⟨0, _⟩ => (by show 0 + 1 ≤ 1; omega) | ⟨1, _⟩ => hR | ⟨2, _⟩ => (by show 0 + 2048 ≤ 2048; omega)

/-! ## The left operand -/

section lhs
variable (x0 x1 : Vec Ideal S1x512x1024 .f32) (x2 x3 : Vec Ideal S1x512x1024 .bf16) (x6 : Vec Ideal S1x1024 .f32)

/-- Row `x` of the left operand. -/
def rowL (x : Fin 512) (k : Fin 2048) : EReal :=
  lhsE (fun k => x0 (ix3 0 x k) + x1 (ix3 0 x k)) (fun k => x6 (ix2 0 k)) (fun k => x2 (ix3 0 x k)) (fun k => x3 (ix3 0 x k)) k

theorem headP_at (R C : Nat) (hR : R + 256 ≤ 512) (hC : C + 128 ≤ 1024) (hd : C % 128 = 0) (r : Fin 256) (k : Fin 128) :
    (headP x0 x1 x2 x6 R C hR hC).2 (ix2 r k) = rowL x0 x1 x2 x3 x6 ⟨R + r.val, by omega⟩ ⟨C + k.val, by omega⟩ := by
  unfold headP
  dsimp only
  rw [pay1_at, gain_ld, head_ld]
  unfold rowL lhsE headE
  rw [dif_pos (by dsimp only; omega)]
  have hk : lane ⟨C + k.val, by omega⟩ = k := Fin.ext (by dsimp only; omega)
  have hj : ∀ j, inHead ⟨C + k.val, by omega⟩ j = ⟨C + j.val, by omega⟩ := fun j => Fin.ext (by dsimp only; omega)
  simp only [hk, hj]
  refine congrArg (· * _) (congrArg (· * _) ?_)
  exact congrArg (fun y => rmsE 0x43000000#32 y k) (funext fun j => congrArg₂ (· + ·) (head_ld x0 R C hR hC r j) (head_ld x1 R C hR hC r j))

theorem attnP_at (R : Nat) (hR : R + 256 ≤ 512) (r : Fin 256) (k : Fin 1024) :
    (attnP x3 R hR).2 (ix2 r k) = rowL x0 x1 x2 x3 x6 ⟨R + r.val, by omega⟩ ⟨1024 + k.val, by omega⟩ := by
  unfold attnP
  dsimp only
  rw [pay16_at, attn_ld]
  unfold rowL lhsE
  rw [dif_neg (by dsimp only; omega)]
  refine congrArg (fun z => x3 (ix3 0 _ z)) (Fin.ext ?_)
  dsimp only
  omega

variable (x : Fin 512) (k : Fin 2048) (L : List (View.Piece (Elt Ideal) S512x2048 .bf16))

theorem allAt_head (R C : Nat) (hR : R + 256 ≤ 512) (hC : C + 128 ≤ 1024) (hd : C % 128 = 0)
    (h : View.AllAt L (ix2 x k) (rowL x0 x1 x2 x3 x6 x k)) :
    View.AllAt (headP x0 x1 x2 x6 R C hR hC :: L) (ix2 x k) (rowL x0 x1 x2 x3 x6 x k) := by
  refine View.allAt_cons _ _ _ (fun z hz => ?_) h
  have h0 : R + 1 * (z 0).val = x.val := congrArg (fun y : S512x2048.Idx => (y 0).val) hz
  have h1 : C + 1 * (z 1).val = k.val := congrArg (fun y : S512x2048.Idx => (y 1).val) hz
  have hz0 : (z 0).val < 256 := (z 0).isLt
  have hz1 : (z 1).val < 128 := (z 1).isLt
  have e0 : x = ⟨R + (⟨(z 0).val, hz0⟩ : Fin 256).val, by dsimp only; omega⟩ := Fin.ext (by dsimp only; omega)
  have e1 : k = ⟨C + (⟨(z 1).val, hz1⟩ : Fin 128).val, by dsimp only; omega⟩ := Fin.ext (by dsimp only; omega)
  rw [e0, e1, ← headP_at x0 x1 x2 x3 x6 R C hR hC hd ⟨(z 0).val, hz0⟩ ⟨(z 1).val, hz1⟩]
  refine congrArg (headP x0 x1 x2 x6 R C hR hC).2 ?_
  funext a; apply Fin.ext
  match a with
  | ⟨0, _⟩ => rfl
  | ⟨1, _⟩ => rfl

theorem allAt_attn (R : Nat) (hR : R + 256 ≤ 512) (h : View.AllAt L (ix2 x k) (rowL x0 x1 x2 x3 x6 x k)) :
    View.AllAt (attnP x3 R hR :: L) (ix2 x k) (rowL x0 x1 x2 x3 x6 x k) := by
  refine View.allAt_cons _ _ _ (fun z hz => ?_) h
  have h0 : R + 1 * (z 0).val = x.val := congrArg (fun y : S512x2048.Idx => (y 0).val) hz
  have h1 : 1024 + 1 * (z 1).val = k.val := congrArg (fun y : S512x2048.Idx => (y 1).val) hz
  have hz0 : (z 0).val < 256 := (z 0).isLt
  have hz1 : (z 1).val < 1024 := (z 1).isLt
  have e0 : x = ⟨R + (⟨(z 0).val, hz0⟩ : Fin 256).val, by dsimp only; omega⟩ := Fin.ext (by dsimp only; omega)
  have e1 : k = ⟨1024 + (⟨(z 1).val, hz1⟩ : Fin 1024).val, by dsimp only; omega⟩ := Fin.ext (by dsimp only; omega)
  rw [e0, e1, ← attnP_at x0 x1 x2 x3 x6 R hR ⟨(z 0).val, hz0⟩ ⟨(z 1).val, hz1⟩]
  refine congrArg (attnP x3 R hR).2 ?_
  funext a; apply Fin.ext
  match a with
  | ⟨0, _⟩ => rfl
  | ⟨1, _⟩ => rfl

theorem allAt_half (R : Nat) (hR : R + 256 ≤ 512) (h : View.AllAt L (ix2 x k) (rowL x0 x1 x2 x3 x6 x k)) :
    View.AllAt (halfL x0 x1 x2 x3 x6 R hR L) (ix2 x k) (rowL x0 x1 x2 x3 x6 x k) := by
  unfold halfL
  refine allAt_attn _ _ _ _ _ _ _ _ _ _ ?_
  iterate 8 refine allAt_head _ _ _ _ _ _ _ _ _ _ _ _ (by decide) ?_
  exact h

theorem head_mem (R : Nat) (hR : R + 256 ≤ 512) (h : Fin 8) :
    headP x0 x1 x2 x6 R (128 * h.val) hR (by omega) ∈ halfL x0 x1 x2 x3 x6 R hR L := by
  fin_cases h <;> simp [halfL]

theorem half_cover (R : Nat) (hR : R + 256 ≤ 512) (h0 : R ≤ x.val) (h1 : x.val < R + 256) :
    ∃ p ∈ halfL x0 x1 x2 x3 x6 R hR L, ix2 x k ∈ p.1.set := by
  by_cases hk : k.val < 1024
  · refine ⟨_, head_mem x0 x1 x2 x3 x6 L R hR ⟨k.val / 128, by omega⟩, (Rect.mem_set_unit (inb := head_inb R _ hR (by dsimp only; omega))).mpr fun a => ?_⟩
    match a with
    | ⟨0, _⟩ => exact ⟨h0, h1⟩
    | ⟨1, _⟩ => show 128 * (k.val / 128) ≤ k.val ∧ k.val < 128 * (k.val / 128) + 128; omega
  · refine ⟨attnP x3 R hR, List.mem_cons_self, (Rect.mem_set_unit (inb := attn_inb R hR)).mpr fun a => ?_⟩
    match a with
    | ⟨0, _⟩ => exact ⟨h0, h1⟩
    | ⟨1, _⟩ => show 1024 ≤ k.val ∧ k.val < 1024 + 1024; omega

theorem half_tail (R : Nat) (hR : R + 256 ≤ 512) (p : View.Piece (Elt Ideal) S512x2048 .bf16) (hp : p ∈ L) :
    p ∈ halfL x0 x1 x2 x3 x6 R hR L := by
  simp [halfL, hp]

theorem lhs_at : View.canon (lhsL x0 x1 x2 x3 x6) (ix2 x k) = rowL x0 x1 x2 x3 x6 x k := by
  refine View.canon_eq_of_allAt _ _ _ ?_ (allAt_half _ _ _ _ _ _ _ _ _ _ (allAt_half _ _ _ _ _ _ _ _ _ _ (View.allAt_nil _ _)))
  by_cases hx : x.val < 256
  · obtain ⟨p, hp, hy⟩ := half_cover x0 x1 x2 x3 x6 x k [] 0 (by decide) (by omega) (by omega)
    exact ⟨p, half_tail _ _ _ _ _ _ _ _ _ hp, hy⟩
  · exact half_cover x0 x1 x2 x3 x6 x k _ 256 (by decide) (by omega) (by omega)

end lhs

/-! ## The two output tiles -/

section out
variable (v1 v3 v5 : Vec Ideal S1x2048 .f32) (l : Vec Ideal S512x2048 .bf16) (x4 : Vec Ideal S1x512x2048 .f32) (x7 x8 : Vec Ideal S1x2048 .f32)
  (x9 : Vec Ideal S2048x2048 .bf16)

/-- Row `x` of the residual sum. -/
def rowS (x : Fin 512) (e : Fin 2048) : EReal :=
  sumE (fun e => x4 (ix3 0 x e)) (fun e => v1 (ix2 0 e)) (fun e => x7 (ix2 0 e)) (prodE (fun k => l (ix2 x k)) fun k e => x9 (ix2 k e)) e

theorem prodP_at (R : Nat) (hR : R + 256 ≤ 512) (r : Fin 256) (e : Fin 2048) :
    prodP l x9 R hR (ix2 r e) = rmsE 0x45000000#32 (prodE (fun k => l (ix2 ⟨R + r.val, by omega⟩ k)) fun k e => x9 (ix2 k e)) e := by
  unfold prodP
  rw [pay41_at]
  refine congrArg (fun y => rmsE 0x45000000#32 y e) (funext fun e => ?_)
  rw [pay34_at]
  exact Finset.sum_congr rfl fun k _ => congrArg₂ (· * ·) (lhs_ld l R hR r k) (mat_ld x9 k e)

theorem sumP_at (R : Nat) (hR : R + 256 ≤ 512) (r : Fin 256) (e : Fin 2048) :
    (sumP v1 l x4 x7 x9 R hR).2 (ix3 0 r e) = rowS v1 l x4 x7 x9 ⟨R + r.val, by omega⟩ e := by
  unfold sumP
  dsimp only
  rw [pay43_at, pay40_at, rows_ld, prodP_at, row_ld]
  rfl

theorem modP_at (R : Nat) (hR : R + 256 ≤ 512) (r : Fin 256) (e : Fin 2048) :
    (modP v1 v3 v5 l x4 x7 x8 x9 R hR).2 (ix3 0 r e) =
      modE (rowS v1 l x4 x7 x9 ⟨R + r.val, by omega⟩) (fun e => v3 (ix2 0 e)) (fun e => v5 (ix2 0 e)) (fun e => x8 (ix2 0 e)) e := by
  unfold modP
  dsimp only
  rw [pay44_at]
  refine congrArg (· + _) (congrArg (· * _) (congrArg₂ (· * ·) ?_ (row_ld x8 e)))
  refine congrArg (fun y => rmsE 0x45000000#32 y e) (funext fun e => ?_)
  rw [pay40_at, rows_ld, prodP_at, row_ld]
  rfl

/-- Two halves of a tile, each entry of which is `G`'s. -/
theorem halves {t : EltTy} (P : (R : Nat) → R + 256 ≤ 512 → S1x256x2048.Idx → Elt Ideal t) (G : Fin 512 → Fin 2048 → Elt Ideal t)
    (hP : ∀ R hR (r : Fin 256) e, P R hR (ix3 0 r e) = G ⟨R + r.val, by omega⟩ e) (x : Fin 512) (e : Fin 2048) :
    View.canon [(⟨rowsR 256 (by decide), P 256 (by decide)⟩ : View.Piece (Elt Ideal) S1x512x2048 t), ⟨rowsR 0 (by decide), P 0 (by decide)⟩]
      (ix3 0 x e) = G x e := by
  have hat : ∀ R hR, View.RectAt (Val := Elt Ideal) (e := t) (ix3 0 x e) (rowsR R hR) (P R hR) (G x e) := fun R hR z hz => by
    have h1 : R + 1 * (z 1).val = x.val := congrArg (fun y : S1x512x2048.Idx => (y 1).val) hz
    have h2 : 0 + 1 * (z 2).val = e.val := congrArg (fun y : S1x512x2048.Idx => (y 2).val) hz
    have hz0 : (z 0).val < 1 := (z 0).isLt
    have hz1 : (z 1).val < 256 := (z 1).isLt
    have e1 : x = ⟨R + (⟨(z 1).val, hz1⟩ : Fin 256).val, by dsimp only; omega⟩ := Fin.ext (by dsimp only; omega)
    rw [e1, ← hP R hR ⟨(z 1).val, hz1⟩ e]
    refine congrArg (P R hR) ?_
    funext a; apply Fin.ext
    match a with
    | ⟨0, _⟩ => show (z 0).val = 0; omega
    | ⟨1, _⟩ => rfl
    | ⟨2, _⟩ => show (z 2).val = e.val; omega
  refine View.canon_eq_of_allAt _ _ _ ?_ (View.allAt_cons _ _ _ (hat _ _) (View.allAt_cons _ _ _ (hat _ _) (View.allAt_nil _ _)))
  by_cases hx : x.val < 256
  · refine ⟨_, List.mem_cons_of_mem _ List.mem_cons_self, (Rect.mem_set_unit (inb := rows_inb 0 (by decide))).mpr fun a => ?_⟩
    match a with
    | ⟨0, _⟩ => exact ⟨Nat.le_refl 0, Nat.one_pos⟩
    | ⟨1, _⟩ => show 0 ≤ x.val ∧ x.val < 0 + 256; omega
    | ⟨2, _⟩ => show 0 ≤ e.val ∧ e.val < 0 + 2048; omega
  · refine ⟨_, List.mem_cons_self, (Rect.mem_set_unit (inb := rows_inb 256 (by decide))).mpr fun a => ?_⟩
    match a with
    | ⟨0, _⟩ => exact ⟨Nat.le_refl 0, Nat.one_pos⟩
    | ⟨1, _⟩ => show 256 ≤ x.val ∧ x.val < 256 + 256; omega
    | ⟨2, _⟩ => show 0 ≤ e.val ∧ e.val < 0 + 2048; omega

theorem sumT_at (x : Fin 512) (e : Fin 2048) : sumT v1 l x4 x7 x9 (ix3 0 x e) = rowS v1 l x4 x7 x9 x e :=
  halves (fun R hR => (sumP v1 l x4 x7 x9 R hR).2) _ (fun R hR r e => sumP_at v1 l x4 x7 x9 R hR r e) x e

theorem modT_at (x : Fin 512) (e : Fin 2048) : modT v1 v3 v5 l x4 x7 x8 x9 (ix3 0 x e) =
    modE (rowS v1 l x4 x7 x9 x) (fun e => v3 (ix2 0 e)) (fun e => v5 (ix2 0 e)) (fun e => x8 (ix2 0 e)) e :=
  halves (fun R hR => (modP v1 v3 v5 l x4 x7 x8 x9 R hR).2)
    (fun x e => modE (rowS v1 l x4 x7 x9 x) (fun e => v3 (ix2 0 e)) (fun e => v5 (ix2 0 e)) (fun e => x8 (ix2 0 e)) e)
    (fun R hR r e => modP_at v1 v3 v5 l x4 x7 x8 x9 R hR r e) x e

end out

end Cert.Kernel3Ideal.Out

end
-- ==== Proof.OutBlocks.lean ====
/- The blocks the output-projection kernel's points read, as entries of its arguments, and the arrays its blocks make up. -/
module

public import proofs.«01_k».proof.Proof.OutRun
public import Idealize.ShloMosaic.Lib.Pointwise.Index
public import Idealize.ShloMosaic.Lib.KernelVsHost
public import Idealize.ShloMosaic.Lib.Pipeline.ValueKit.Tiles

@[expose] public section

set_option maxRecDepth 16384

noncomputable section

namespace Cert.Kernel3Ideal.Out

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## The weights the kernel reads -/

theorem V_main_v1 : V m c main_v1 = truncf (F := Ideal) .bf16 (shapeCast S2048x2048 (V m c main_arg9) shapeCasts_S1x2048x2048_S2048x2048) bitsLt_bf16_f32 := by
  rw [V_main_arg9]
  unfold V
  simp only [hostOps0]
  after_results_simp
  rfl

theorem v1_at (k e : Fin 2048) : V m c main_v1 (ix2 k e) = V m c main_arg9 (ix3 0 k e) := by
  rw [V_main_v1]
  generalize V m c main_arg9 = a
  refine (show _ = shapeCast S2048x2048 a shapeCasts_S1x2048x2048_S2048x2048 _ from rfl).trans (shapeCast_apply (s := S1x2048x2048) a shapeCasts_S1x2048x2048_S2048x2048 _ (ix3 0 k e) ?_)
  rw [Shape.rowMajor_val_three, Shape.rowMajor_val_two]
  show (0 * 2048 + k.val) * 2048 + e.val = k.val * 2048 + e.val
  omega

/-! ## Where a point's blocks lie -/

theorem idx_f : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx_b : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx_o : ∀ t : Fin cfg0.N, win0_2.index t (0 : Fin 3) = t.val / 16 ∧ win0_2.index t (1 : Fin 3) = t.val % 16 ∧ win0_2.index t (2 : Fin 3) = 2 :=
  (by decide +kernel : ∀ t : Fin grid0.N, _)
theorem idx_a : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)
theorem idx_x : ∀ t : Fin cfg0.N, win0_4.index t (0 : Fin 3) = t.val / 16 ∧ win0_4.index t (1 : Fin 3) = t.val % 16 ∧ win0_4.index t (2 : Fin 3) = 0 :=
  (by decide +kernel : ∀ t : Fin grid0.N, _)
theorem idx_r : ∀ t : Fin cfg0.N, win0_10.index t (0 : Fin 3) = t.val / 16 ∧ win0_10.index t (1 : Fin 3) = t.val % 16 ∧ win0_10.index t (2 : Fin 3) = 0 :=
  (by decide +kernel : ∀ t : Fin grid0.N, _)
theorem idx_m : ∀ t : Fin cfg0.N, win0_11.index t (0 : Fin 3) = t.val / 16 ∧ win0_11.index t (1 : Fin 3) = t.val % 16 ∧ win0_11.index t (2 : Fin 3) = 0 :=
  (by decide +kernel : ∀ t : Fin grid0.N, _)
theorem idx_md : ∀ t : Fin cfg0.N, win0_5.index t (0 : Fin 2) = 0 ∧ win0_5.index t (1 : Fin 2) = 0 :=
  (by decide +kernel : ∀ t : Fin grid0.N, _)
theorem idx_gm : ∀ t : Fin cfg0.N, win0_6.index t (0 : Fin 2) = 0 ∧ win0_6.index t (1 : Fin 2) = 0 :=
  (by decide +kernel : ∀ t : Fin grid0.N, _)
theorem idx_gq : ∀ t : Fin cfg0.N, win0_7.index t (0 : Fin 2) = 0 ∧ win0_7.index t (1 : Fin 2) = 0 :=
  (by decide +kernel : ∀ t : Fin grid0.N, _)
theorem idx_gf : ∀ t : Fin cfg0.N, win0_8.index t (0 : Fin 2) = 0 ∧ win0_8.index t (1 : Fin 2) = 0 :=
  (by decide +kernel : ∀ t : Fin grid0.N, _)
theorem idx_w : ∀ t : Fin cfg0.N, win0_9.index t (0 : Fin 2) = 0 ∧ win0_9.index t (1 : Fin 2) = 0 :=
  (by decide +kernel : ∀ t : Fin grid0.N, _)
theorem off_gate : ∀ t : Fin cfg0.N, k0_off1 (grid0.coords t) (0 : Fin 2) = t.val / 16 ∧ k0_off1 (grid0.coords t) (1 : Fin 2) = 4096 :=
  (by decide +kernel : ∀ t : Fin grid0.N, _)
theorem off_shift : ∀ t : Fin cfg0.N, k0_off2 (grid0.coords t) (0 : Fin 2) = t.val / 16 ∧ k0_off2 (grid0.coords t) (1 : Fin 2) = 6144 :=
  (by decide +kernel : ∀ t : Fin grid0.N, _)
theorem off_scale : ∀ t : Fin cfg0.N, k0_off3 (grid0.coords t) (0 : Fin 2) = t.val / 16 ∧ k0_off3 (grid0.coords t) (1 : Fin 2) = 8192 :=
  (by decide +kernel : ∀ t : Fin grid0.N, _)

/-- The point of batch `b` and row tile `i`. -/
def pt (b : Fin 2) (i : Fin 16) : Fin cfg0.N := ⟨16 * b.val + i.val, by have hN : cfg0.N = 32 := N_0; omega⟩

theorem pt_div (b : Fin 2) (i : Fin 16) : (pt b i).val / 16 = b.val := by show (16 * b.val + i.val) / 16 = _; omega
theorem pt_mod (b : Fin 2) (i : Fin 16) : (pt b i).val % 16 = i.val := by show (16 * b.val + i.val) % 16 = _; omega

theorem exists_pt (t : Fin cfg0.N) : ∃ b i, t = pt b i :=
  ⟨⟨t.val / 16, by have hN : cfg0.N = 32 := N_0; have := t.isLt; omega⟩, ⟨t.val % 16, by omega⟩, Fin.ext (by show t.val = 16 * (t.val / 16) + t.val % 16; omega)⟩

variable (b : Fin 2) (i : Fin 16)

theorem f_blk (r : Fin 512) (k : Fin 1024) :
    iblk m c 0 (pt b i) (ix3 0 r k) = V m c main_arg0 (ix3 b ⟨512 * i.val + r.val, by omega⟩ k) := by
  obtain ⟨e0, e1, e2⟩ := idx_f (pt b i)
  rw [pt_div] at e0
  rw [pt_mod] at e1
  refine congrArg (V m c main_arg0) ?_
  funext a; apply Fin.ext
  match a with
  | ⟨0, _⟩ => show win0_0.index (pt b i) (0 : Fin 3) * 1 + 1 * 0 = b.val; omega
  | ⟨1, _⟩ => show win0_0.index (pt b i) (1 : Fin 3) * 512 + 1 * r.val = 512 * i.val + r.val; omega
  | ⟨2, _⟩ => show win0_0.index (pt b i) (2 : Fin 3) * 1024 + 1 * k.val = k.val; omega

theorem b_blk (r : Fin 512) (k : Fin 1024) :
    iblk m c 1 (pt b i) (ix3 0 r k) = V m c main_arg1 (ix3 b ⟨512 * i.val + r.val, by omega⟩ k) := by
  obtain ⟨e0, e1, e2⟩ := idx_b (pt b i)
  rw [pt_div] at e0
  rw [pt_mod] at e1
  refine congrArg (V m c main_arg1) ?_
  funext a; apply Fin.ext
  match a with
  | ⟨0, _⟩ => show win0_1.index (pt b i) (0 : Fin 3) * 1 + 1 * 0 = b.val; omega
  | ⟨1, _⟩ => show win0_1.index (pt b i) (1 : Fin 3) * 512 + 1 * r.val = 512 * i.val + r.val; omega
  | ⟨2, _⟩ => show win0_1.index (pt b i) (2 : Fin 3) * 1024 + 1 * k.val = k.val; omega

theorem a_blk (r : Fin 512) (k : Fin 1024) :
    iblk m c 3 (pt b i) (ix3 0 r k) = V m c main_arg3 (ix3 b ⟨512 * i.val + r.val, by omega⟩ k) := by
  obtain ⟨e0, e1, e2⟩ := idx_a (pt b i)
  rw [pt_div] at e0
  rw [pt_mod] at e1
  refine congrArg (V m c main_arg3) ?_
  funext a; apply Fin.ext
  match a with
  | ⟨0, _⟩ => show win0_3.index (pt b i) (0 : Fin 3) * 1 + 1 * 0 = b.val; omega
  | ⟨1, _⟩ => show win0_3.index (pt b i) (1 : Fin 3) * 512 + 1 * r.val = 512 * i.val + r.val; omega
  | ⟨2, _⟩ => show win0_3.index (pt b i) (2 : Fin 3) * 1024 + 1 * k.val = k.val; omega

theorem x_blk (r : Fin 512) (k : Fin 2048) :
    iblk m c 4 (pt b i) (ix3 0 r k) = V m c main_arg4 (ix3 b ⟨512 * i.val + r.val, by omega⟩ k) := by
  obtain ⟨e0, e1, e2⟩ := idx_x (pt b i)
  rw [pt_div] at e0
  rw [pt_mod] at e1
  refine congrArg (V m c main_arg4) ?_
  funext a; apply Fin.ext
  match a with
  | ⟨0, _⟩ => show win0_4.index (pt b i) (0 : Fin 3) * 1 + 1 * 0 = b.val; omega
  | ⟨1, _⟩ => show win0_4.index (pt b i) (1 : Fin 3) * 512 + 1 * r.val = 512 * i.val + r.val; omega
  | ⟨2, _⟩ => show win0_4.index (pt b i) (2 : Fin 3) * 2048 + 1 * k.val = k.val; omega

theorem o_blk (r : Fin 512) (k : Fin 1024) :
    X0_2 m c (pt b i) (ix3 0 r k) = V m c main_arg2 (ix3 b ⟨512 * i.val + r.val, by omega⟩ ⟨2048 + k.val, by omega⟩) := by
  obtain ⟨e0, e1, e2⟩ := idx_o (pt b i)
  rw [pt_div] at e0
  rw [pt_mod] at e1
  unfold X0_2 Pipeline.Window.fill
  rw [dif_pos (moved0_2 _ _)]
  refine congrArg (V m c main_arg2) ?_
  funext a; apply Fin.ext
  match a with
  | ⟨0, _⟩ => show win0_2.index (pt b i) (0 : Fin 3) * 1 + 1 * 0 = b.val; omega
  | ⟨1, _⟩ => show win0_2.index (pt b i) (1 : Fin 3) * 512 + 1 * r.val = 512 * i.val + r.val; omega
  | ⟨2, _⟩ => show win0_2.index (pt b i) (2 : Fin 3) * 1024 + 1 * k.val = 2048 + k.val; omega

theorem md_blk (t : Fin cfg0.N) : iblk m c 5 t = V m c main_arg5 := by
  obtain ⟨e0, e1⟩ := idx_md t
  funext j
  refine congrArg (V m c main_arg5) ?_
  funext a; apply Fin.ext
  match a with
  | ⟨0, _⟩ => show win0_5.index t (0 : Fin 2) * 8 + 1 * (j 0).val = (j 0).val; omega
  | ⟨1, _⟩ => show win0_5.index t (1 : Fin 2) * 12288 + 1 * (j 1).val = (j 1).val; omega

theorem gm_blk (t : Fin cfg0.N) : iblk m c 6 t = V m c main_arg6 := by
  obtain ⟨e0, e1⟩ := idx_gm t
  funext j
  refine congrArg (V m c main_arg6) ?_
  funext a; apply Fin.ext
  match a with
  | ⟨0, _⟩ => show win0_6.index t (0 : Fin 2) * 1 + 1 * (j 0).val = (j 0).val; omega
  | ⟨1, _⟩ => show win0_6.index t (1 : Fin 2) * 1024 + 1 * (j 1).val = (j 1).val; omega

theorem gq_blk (t : Fin cfg0.N) : iblk m c 7 t = V m c main_arg7 := by
  obtain ⟨e0, e1⟩ := idx_gq t
  funext j
  refine congrArg (V m c main_arg7) ?_
  funext a; apply Fin.ext
  match a with
  | ⟨0, _⟩ => show win0_7.index t (0 : Fin 2) * 1 + 1 * (j 0).val = (j 0).val; omega
  | ⟨1, _⟩ => show win0_7.index t (1 : Fin 2) * 2048 + 1 * (j 1).val = (j 1).val; omega

theorem gf_blk (t : Fin cfg0.N) : iblk m c 8 t = V m c main_arg8 := by
  obtain ⟨e0, e1⟩ := idx_gf t
  funext j
  refine congrArg (V m c main_arg8) ?_
  funext a; apply Fin.ext
  match a with
  | ⟨0, _⟩ => show win0_8.index t (0 : Fin 2) * 1 + 1 * (j 0).val = (j 0).val; omega
  | ⟨1, _⟩ => show win0_8.index t (1 : Fin 2) * 2048 + 1 * (j 1).val = (j 1).val; omega

theorem w_blk (t : Fin cfg0.N) : iblk m c 9 t = V m c main_v1 := by
  obtain ⟨e0, e1⟩ := idx_w t
  funext j
  refine congrArg (V m c main_v1) ?_
  funext a; apply Fin.ext
  match a with
  | ⟨0, _⟩ => show win0_9.index t (0 : Fin 2) * 2048 + 1 * (j 0).val = (j 0).val; omega
  | ⟨1, _⟩ => show win0_9.index t (1 : Fin 2) * 2048 + 1 * (j 1).val = (j 1).val; omega

theorem gate_row (e : Fin 2048) :
    View.ld (iblk m c 5 (pt b i)) (gateR (grid0.coords (pt b i))) (ix2 0 e) = V m c main_arg5 (ix2 ⟨b.val, by omega⟩ ⟨4096 + e.val, by omega⟩) := by
  obtain ⟨e0, e1⟩ := off_gate (pt b i)
  rw [pt_div] at e0
  rw [md_blk]
  refine congrArg (V m c main_arg5) ?_
  funext a; apply Fin.ext
  match a with
  | ⟨0, _⟩ => show k0_off1 (grid0.coords (pt b i)) (0 : Fin 2) + 1 * 0 = b.val; omega
  | ⟨1, _⟩ => show k0_off1 (grid0.coords (pt b i)) (1 : Fin 2) + 1 * e.val = 4096 + e.val; omega

theorem shift_row (e : Fin 2048) :
    View.ld (iblk m c 5 (pt b i)) (shiftR (grid0.coords (pt b i))) (ix2 0 e) = V m c main_arg5 (ix2 ⟨b.val, by omega⟩ ⟨6144 + e.val, by omega⟩) := by
  obtain ⟨e0, e1⟩ := off_shift (pt b i)
  rw [pt_div] at e0
  rw [md_blk]
  refine congrArg (V m c main_arg5) ?_
  funext a; apply Fin.ext
  match a with
  | ⟨0, _⟩ => show k0_off2 (grid0.coords (pt b i)) (0 : Fin 2) + 1 * 0 = b.val; omega
  | ⟨1, _⟩ => show k0_off2 (grid0.coords (pt b i)) (1 : Fin 2) + 1 * e.val = 6144 + e.val; omega

theorem scale_row (e : Fin 2048) :
    View.ld (iblk m c 5 (pt b i)) (scaleR (grid0.coords (pt b i))) (ix2 0 e) = V m c main_arg5 (ix2 ⟨b.val, by omega⟩ ⟨8192 + e.val, by omega⟩) := by
  obtain ⟨e0, e1⟩ := off_scale (pt b i)
  rw [pt_div] at e0
  rw [md_blk]
  refine congrArg (V m c main_arg5) ?_
  funext a; apply Fin.ext
  match a with
  | ⟨0, _⟩ => show k0_off3 (grid0.coords (pt b i)) (0 : Fin 2) + 1 * 0 = b.val; omega
  | ⟨1, _⟩ => show k0_off3 (grid0.coords (pt b i)) (1 : Fin 2) + 1 * e.val = 8192 + e.val; omega

/-! ## The arrays the blocks make up -/

theorem covered_sum (y : S2x8192x2048.Idx) : ∃ t : Fin cfg0.N, (cfg0.win 10).flush t = true ∧ y ∈ ((cfg0.win 10).blk t).view.set := by
  have h0 : (y 0).val < 2 := (y 0).isLt
  have h1 : (y 1).val < 8192 := (y 1).isLt
  have h2 : (y 2).val < 2048 := (y 2).isLt
  have hd : (y 1).val / 512 < 16 := by omega
  obtain ⟨e0, e1, e2⟩ := idx_r (pt ⟨(y 0).val, h0⟩ ⟨(y 1).val / 512, hd⟩)
  rw [pt_div] at e0
  rw [pt_mod] at e1
  dsimp only at e0 e1
  generalize pt ⟨(y 0).val, h0⟩ ⟨(y 1).val / 512, hd⟩ = t at e0 e1 e2
  refine ⟨t, flush0_10 t, ?_⟩
  show y ∈ ((View.whole main_v2_0).slice (win0_10.rect t)).set
  rw [View.set_slice_whole, Rect.mem_set_unit]
  intro a
  match a with
  | ⟨0, _⟩ => show win0_10.index t (0 : Fin 3) * 1 ≤ (y 0).val ∧ (y 0).val < win0_10.index t (0 : Fin 3) * 1 + 1; omega
  | ⟨1, _⟩ => show win0_10.index t (1 : Fin 3) * 512 ≤ (y 1).val ∧ (y 1).val < win0_10.index t (1 : Fin 3) * 512 + 512; omega
  | ⟨2, _⟩ => show win0_10.index t (2 : Fin 3) * 2048 ≤ (y 2).val ∧ (y 2).val < win0_10.index t (2 : Fin 3) * 2048 + 2048; omega

/-- An array of which every point's block is the block the point writes is the one the run leaves. -/
theorem sum_array (G : Vec Ideal S2x8192x2048 .f32)
    (hG : ∀ b i r e, G (ix3 b ⟨512 * (i : Fin 16).val + (r : Fin 512).val, by omega⟩ e) = (outsAt0 m c (pt b i)).1 (ix3 0 r e)) :
    (dats m 0 c).arrAt 10 cfg0.N = G := by
  refine (dats m 0 c).arrAt_eq_of_cover 10 G (fun t _ => ?_) covered_sum
  obtain ⟨b, i, rfl⟩ := exists_pt t
  obtain ⟨e0, e1, e2⟩ := idx_r (pt b i)
  rw [pt_div] at e0
  rw [pt_mod] at e1
  show (cfg0.win 10).cut (grid0.coords (pt b i)) ((dats m 0 c).after 10 (pt b i)) = _
  rw [after0_10]
  funext j
  refine Eq.trans (b := (outsAt0 m c (pt b i)).1 (ix3 0 (j 1) (j 2))) ?_ ((hG b i (j 1) (j 2)).symm.trans ?_)
  · refine congrArg (outsAt0 m c (pt b i)).1 ?_
    funext a; apply Fin.ext
    match a with
    | ⟨0, _⟩ => exact Nat.lt_one_iff.mp (j 0).isLt
    | ⟨1, _⟩ => rfl
    | ⟨2, _⟩ => rfl
  · refine congrArg G ?_
    funext a; apply Fin.ext
    have hj : (j 0).val = 0 := Nat.lt_one_iff.mp (j 0).isLt
    match a with
    | ⟨0, _⟩ => show b.val = win0_10.index (pt b i) (0 : Fin 3) * 1 + 1 * (j 0).val; omega
    | ⟨1, _⟩ => show 512 * i.val + (j 1).val = win0_10.index (pt b i) (1 : Fin 3) * 512 + 1 * (j 1).val; omega
    | ⟨2, _⟩ => show (j 2).val = win0_10.index (pt b i) (2 : Fin 3) * 2048 + 1 * (j 2).val; omega

theorem covered_mod (y : S2x8192x2048.Idx) : ∃ t : Fin cfg0.N, (cfg0.win 11).flush t = true ∧ y ∈ ((cfg0.win 11).blk t).view.set := by
  have h0 : (y 0).val < 2 := (y 0).isLt
  have h1 : (y 1).val < 8192 := (y 1).isLt
  have h2 : (y 2).val < 2048 := (y 2).isLt
  have hd : (y 1).val / 512 < 16 := by omega
  obtain ⟨e0, e1, e2⟩ := idx_m (pt ⟨(y 0).val, h0⟩ ⟨(y 1).val / 512, hd⟩)
  rw [pt_div] at e0
  rw [pt_mod] at e1
  dsimp only at e0 e1
  generalize pt ⟨(y 0).val, h0⟩ ⟨(y 1).val / 512, hd⟩ = t at e0 e1 e2
  refine ⟨t, flush0_11 t, ?_⟩
  show y ∈ ((View.whole main_v2_1).slice (win0_11.rect t)).set
  rw [View.set_slice_whole, Rect.mem_set_unit]
  intro a
  match a with
  | ⟨0, _⟩ => show win0_11.index t (0 : Fin 3) * 1 ≤ (y 0).val ∧ (y 0).val < win0_11.index t (0 : Fin 3) * 1 + 1; omega
  | ⟨1, _⟩ => show win0_11.index t (1 : Fin 3) * 512 ≤ (y 1).val ∧ (y 1).val < win0_11.index t (1 : Fin 3) * 512 + 512; omega
  | ⟨2, _⟩ => show win0_11.index t (2 : Fin 3) * 2048 ≤ (y 2).val ∧ (y 2).val < win0_11.index t (2 : Fin 3) * 2048 + 2048; omega

/-- An array of which every point's block is the block the point writes is the one the run leaves. -/
theorem mod_array (G : Vec Ideal S2x8192x2048 .bf16)
    (hG : ∀ b i r e, G (ix3 b ⟨512 * (i : Fin 16).val + (r : Fin 512).val, by omega⟩ e) = (outsAt0 m c (pt b i)).2 (ix3 0 r e)) :
    (dats m 0 c).arrAt 11 cfg0.N = G := by
  refine (dats m 0 c).arrAt_eq_of_cover 11 G (fun t _ => ?_) covered_mod
  obtain ⟨b, i, rfl⟩ := exists_pt t
  obtain ⟨e0, e1, e2⟩ := idx_m (pt b i)
  rw [pt_div] at e0
  rw [pt_mod] at e1
  show (cfg0.win 11).cut (grid0.coords (pt b i)) ((dats m 0 c).after 11 (pt b i)) = _
  rw [after0_11]
  funext j
  refine Eq.trans (b := (outsAt0 m c (pt b i)).2 (ix3 0 (j 1) (j 2))) ?_ ((hG b i (j 1) (j 2)).symm.trans ?_)
  · refine congrArg (outsAt0 m c (pt b i)).2 ?_
    funext a; apply Fin.ext
    match a with
    | ⟨0, _⟩ => exact Nat.lt_one_iff.mp (j 0).isLt
    | ⟨1, _⟩ => rfl
    | ⟨2, _⟩ => rfl
  · refine congrArg G ?_
    funext a; apply Fin.ext
    have hj : (j 0).val = 0 := Nat.lt_one_iff.mp (j 0).isLt
    match a with
    | ⟨0, _⟩ => show b.val = win0_11.index (pt b i) (0 : Fin 3) * 1 + 1 * (j 0).val; omega
    | ⟨1, _⟩ => show 512 * i.val + (j 1).val = win0_11.index (pt b i) (1 : Fin 3) * 512 + 1 * (j 1).val; omega
    | ⟨2, _⟩ => show (j 2).val = win0_11.index (pt b i) (2 : Fin 3) * 2048 + 1 * (j 2).val; omega

end Cert.Kernel3Ideal.Out

end
-- ==== Proof.OutRef.lean ====
/- The reference of the output projection, read at an index: each entry of the results from the arguments it depends on. -/
module

public import proofs.«01_k».proof.Proof.Gen.Reference3Ideal.Read
public import Idealize.ShloMosaic.Lib.Pointwise.Index
public import Idealize.ShloMosaic.Lib.KernelVsHost
public import Idealize.ShloMosaic.Lib.Pipeline.Value
public import proofs.«01_k».proof.Proof.OutMath

@[expose] public section

set_option maxRecDepth 16384

noncomputable section

namespace Cert.OutRef

open Cert.Reference3Ideal Cert.Reference3Ideal.Gen Cert.Reference3Ideal.Read Cert.Out Idealize.ShloMosaic

variable (hf hb : S2x8192x1024.Idx → EReal) (p : S2x8448x6144.Idx → EReal) (da : S2x8192x1024.Idx → EReal) (x : S2x8192x2048.Idx → EReal)
  (md : S8x12288.Idx → EReal) (gm : S1x1024.Idx → EReal) (gq gf : S1x2048.Idx → EReal) (w : S1x2048x2048.Idx → EReal)

/-- Row `r` of the left operand. -/
def lhs (b : Fin 2) (r : Fin 8192) : Fin 2048 → EReal :=
  lhsE (fun k => hf (ix3 b r k) + hb (ix3 b r k)) (fun k => gm (ix2 0 k)) (fun k => p (ix3 b ⟨r.val, by omega⟩ ⟨2048 + k.val, by omega⟩))
    (fun k => da (ix3 b r k))

/-- Row `r` of the residual sum. -/
def res (b : Fin 2) (r : Fin 8192) : Fin 2048 → EReal :=
  sumE (fun e => x (ix3 b r e)) (fun e => md (ix2 ⟨b.val, by omega⟩ ⟨4096 + e.val, by omega⟩)) (fun e => gq (ix2 0 e))
    (prodE (lhs hf hb p da gm b r) fun k e => w (ix3 0 k e))

/-- Row `r` of its modulated normalisation. -/
def mdl (b : Fin 2) (r : Fin 8192) : Fin 2048 → EReal :=
  modE (res hf hb p da x md gm gq w b r) (fun e => md (ix2 ⟨b.val, by omega⟩ ⟨6144 + e.val, by omega⟩))
    (fun e => md (ix2 ⟨b.val, by omega⟩ ⟨8192 + e.val, by omega⟩)) (fun e => gf (ix2 0 e))

theorem one_cst : FloatOps.ofBits (F := Ideal) .f32 0x3F800000#32 = (1 : EReal) := by
  show Ideal.ofBits .f32 0x3F800000#32 = 1
  simp [Ideal.ofBits, Ideal.ieee, -EReal.coe_mul]
  norm_num

theorem zero_cst : FloatOps.ofBits (F := Ideal) .f32 0x00000000#32 = (0 : EReal) := by
  show Ideal.ofBits .f32 0x00000000#32 = 0
  simp [Ideal.ofBits, Ideal.ieee]

/-! ## The recurrent half of the left operand -/

theorem state_at (b : Fin 2) (r : Fin 8192) (h : Fin 8) (k : Fin 128) :
    val_main_v7 (F := Ideal) hf hb (ix4 b r h k) =
      hf (ix3 b r ⟨128 * h.val + k.val, by omega⟩) + hb (ix3 b r ⟨128 * h.val + k.val, by omega⟩) := by
  rw [val_main_v7_apply, val_main_v6_apply,
    show idx_main_v7 (ix4 b r h k) = ix3 b r ⟨128 * h.val + k.val, by omega⟩ by
      funext a; fin_cases a <;> refine Fin.ext ?_ <;> simp [ix3, ix4] <;> omega]
  rfl

theorem rms_head (b : Fin 2) (r : Fin 8192) (h : Fin 8) (i : S2x8192x8x1.Idx) (h0 : (i 0).val = b.val) (h1 : (i 1).val = r.val) (h2 : (i 2).val = h.val) :
    val_main_v17 (F := Ideal) hf hb i = Ideal.rsqrt (Ideal.div (∑ k : Fin 128, val_main_v7 (F := Ideal) hf hb (ix4 b r h k) * val_main_v7 (F := Ideal) hf hb (ix4 b r h k))
      (Ideal.ofBits .f32 0x43000000#32) + Ideal.ofBits .f32 0x358637BD#32) := by
  rw [val_main_v17_apply, val_main_v16_apply, val_main_v15_apply, val_main_cst_1_apply, val_main_v14_apply,
    val_main_v13_apply, val_main_cst_0_apply, val_main_v12_apply, val_main_v11_apply, val_main_cst_apply, zero_cst, zero_add]
  refine congrArg Ideal.rsqrt (congrArg₂ (· + ·) (congrArg₂ Ideal.div (Finset.sum_congr rfl fun e _ => ?_) rfl) rfl)
  rw [val_main_v10_apply,
    show idx_main_v11 (idx_main_v12 i) e = ix4 b r h e by
      funext a; fin_cases a <;> refine Fin.ext ?_ <;> simp [ix4, h0, h1, h2]]
  rfl

theorem gain_at (b : Fin 2) (r : Fin 8192) (h : Fin 8) (k : Fin 128) :
    val_main_v21 (F := Ideal) gm (ix4 b r h k) = gm (ix2 0 ⟨128 * h.val + k.val, by omega⟩) := by
  rw [val_main_v21_apply, val_main_v20_apply, val_main_v9_apply, val_main_v8_apply]
  refine congrArg gm ?_
  funext a; fin_cases a <;> refine Fin.ext ?_ <;> simp [ix2, ix4] <;> omega

theorem head_at (b : Fin 2) (r : Fin 8192) (k : Fin 1024) :
    val_main_v23 (F := Ideal) hf hb gm (ix3 b r k) =
      rmsE 0x43000000#32 (fun j => hf (ix3 b r (inHead k j)) + hb (ix3 b r (inHead k j))) (lane k) * gm (ix2 0 k) := by
  rw [val_main_v23_apply, val_main_v22_apply, val_main_v19_apply, val_main_v18_apply,
    show idx_main_v23 (ix3 b r k) = ix4 b r ⟨k.val / 128, by omega⟩ ⟨k.val % 128, by omega⟩ by
      funext a; fin_cases a <;> refine Fin.ext ?_ <;> simp [ix3, ix4] <;> omega,
    rms_head hf hb b r ⟨k.val / 128, by omega⟩ _ rfl rfl rfl, gain_at]
  simp only [state_at]
  refine congrArg₂ (· * ·) rfl (congrArg (fun z => gm (ix2 0 z)) (Fin.ext ?_))
  dsimp only
  omega

theorem gate_at (b : Fin 2) (r : Fin 8192) (k : Fin 1024) :
    val_main_v31 (F := Ideal) p (ix3 b r k) = Ideal.logistic (p (ix3 b ⟨r.val, by omega⟩ ⟨2048 + k.val, by omega⟩)) := by
  rw [val_main_v31_apply, val_main_v30_apply, val_main_cst_3_apply, val_main_v29_apply, val_main_v28_apply, val_main_cst_2_apply,
    val_main_v27_apply, val_main_v26_apply, val_main_v25_apply, val_main_v24_apply, one_cst,
    show idx_main_v24 (ix3 b r k) = ix3 b ⟨r.val, by omega⟩ ⟨2048 + k.val, by omega⟩ by
      funext a; fin_cases a <;> refine Fin.ext ?_ <;> simp [ix3] <;> omega]
  rfl

theorem left_at (b : Fin 2) (r : Fin 8192) (k : Fin 1024) :
    val_main_v32 (F := Ideal) hf hb p gm (ix3 b r k) = headE (fun k => hf (ix3 b r k) + hb (ix3 b r k)) (fun k => gm (ix2 0 k))
      (fun k => p (ix3 b ⟨r.val, by omega⟩ ⟨2048 + k.val, by omega⟩)) k := by
  rw [val_main_v32_apply, head_at, gate_at]
  rfl

theorem lhs_at (b : Fin 2) (r : Fin 8192) (k : Fin 2048) :
    val_main_v34 (F := Ideal) hf hb p da gm (ix3 b r k) = lhs hf hb p da gm b r k := by
  unfold lhs lhsE
  split
  · next hk =>
    rw [← left_at]
    exact concatenate_pair_apply_left (s₁ := S2x8192x1024) (s₂ := S2x8192x1024) 2 (val_main_v32 (F := Ideal) hf hb p gm) (val_main_v33 (F := Ideal) da)
      concatenates_S2x8192x1024_S2x8192x1024_S2x8192x2048_d2 (ix3 b r k) rfl (ix3 b r ⟨k.val, hk⟩) fun a => by
        match a with
        | ⟨0, _⟩ => rfl
        | ⟨1, _⟩ => rfl
        | ⟨2, _⟩ => rfl
  · next hk =>
    exact concatenate_pair_apply_right (s₁ := S2x8192x1024) (s₂ := S2x8192x1024) 2 (val_main_v32 (F := Ideal) hf hb p gm) (val_main_v33 (F := Ideal) da)
      concatenates_S2x8192x1024_S2x8192x1024_S2x8192x2048_d2 (ix3 b r k) rfl rfl (ix3 b r ⟨k.val - 1024, by omega⟩)
      (fun a h => by
        match a with
        | ⟨0, _⟩ => rfl
        | ⟨1, _⟩ => rfl
        | ⟨2, _⟩ => exact absurd rfl h)
      (by show k.val - 1024 + 1024 = k.val; omega)

/-! ## The two results -/

theorem prod_at (b : Fin 2) (r : Fin 8192) (e : Fin 2048) :
    val_main_v36 (F := Ideal) hf hb p da gm w (ix3 b r e) = prodE (lhs hf hb p da gm b r) (fun k e => w (ix3 0 k e)) e := by
  rw [val_main_v36_apply]
  unfold prodE
  refine Finset.sum_congr rfl fun j _ => ?_
  rw [show lidx_main_v36 (ix3 b r e) j = ix3 b r j by funext a; fin_cases a <;> rfl, lhs_at, val_main_v35_apply]
  refine congrArg (lhs hf hb p da gm b r j * ·) (congrArg w ?_)
  funext a
  fin_cases a <;> refine Fin.ext ?_ <;> simp [ix3] <;> omega

theorem rms_prod (b : Fin 2) (r : Fin 8192) (i : S2x8192x1.Idx) (h0 : (i 0).val = b.val) (h1 : (i 1).val = r.val) (y : Fin 2048 → EReal)
    (hy : ∀ e, val_main_v36 (F := Ideal) hf hb p da gm w (ix3 b r e) = y e) :
    val_main_v45 (F := Ideal) hf hb p da gm w i = Ideal.rsqrt (Ideal.div (∑ e, y e * y e) (Ideal.ofBits .f32 0x45000000#32) + Ideal.ofBits .f32 0x358637BD#32) := by
  rw [val_main_v45_apply, val_main_v44_apply, val_main_v43_apply, val_main_cst_6_apply, val_main_v42_apply,
    val_main_v41_apply, val_main_cst_5_apply, val_main_v40_apply, val_main_v39_apply, val_main_cst_4_apply, zero_cst, zero_add]
  refine congrArg Ideal.rsqrt (congrArg₂ (· + ·) (congrArg₂ Ideal.div (Finset.sum_congr rfl fun e _ => ?_) rfl) rfl)
  rw [val_main_v38_apply,
    show idx_main_v39 (idx_main_v40 i) e = ix3 b r e by
      funext a; fin_cases a <;> refine Fin.ext ?_ <;> simp [ix3, h0, h1], hy]
  rfl

/-- The first result at row `r` and entry `e`. -/
theorem res_at (b : Fin 2) (r : Fin 8192) (e : Fin 2048) :
    val_main_v53 (F := Ideal) hf hb p da x md gm gq w (ix3 b r e) = res hf hb p da x md gm gq w b r e := by
  rw [val_main_v53_apply, val_main_v52_apply, val_main_v51_apply, val_main_v1_apply, val_main_v0_apply, val_main_v50_apply,
    val_main_v49_apply, val_main_v48_apply, val_main_v37_apply, val_main_v47_apply, val_main_v46_apply, prod_at,
    rms_prod hf hb p da gm w b r _ rfl rfl _ (prod_at hf hb p da gm w b r)]
  refine congrArg₂ (· + ·) rfl (congrArg₂ (· * ·) (congrArg md ?_) (congrArg₂ (· * ·) rfl (congrArg gq ?_))) <;> funext a <;>
    fin_cases a <;> refine Fin.ext ?_ <;> simp [ix2, ix3] <;> omega

theorem rms_res (b : Fin 2) (r : Fin 8192) (i : S2x8192x1.Idx) (h0 : (i 0).val = b.val) (h1 : (i 1).val = r.val) :
    val_main_v62 (F := Ideal) hf hb p da x md gm gq w i = Ideal.rsqrt (Ideal.div (∑ e, res hf hb p da x md gm gq w b r e * res hf hb p da x md gm gq w b r e)
      (Ideal.ofBits .f32 0x45000000#32) + Ideal.ofBits .f32 0x358637BD#32) := by
  rw [val_main_v62_apply, val_main_v61_apply, val_main_v60_apply, val_main_cst_9_apply, val_main_v59_apply,
    val_main_v58_apply, val_main_cst_8_apply, val_main_v57_apply, val_main_v56_apply, val_main_cst_7_apply, zero_cst, zero_add]
  refine congrArg Ideal.rsqrt (congrArg₂ (· + ·) (congrArg₂ Ideal.div (Finset.sum_congr rfl fun e _ => ?_) rfl) rfl)
  rw [val_main_v55_apply,
    show idx_main_v56 (idx_main_v57 i) e = ix3 b r e by
      funext a; fin_cases a <;> refine Fin.ext ?_ <;> simp [ix3, h0, h1], res_at]
  rfl

/-- The second result at row `r` and entry `e`. -/
theorem mdl_at (b : Fin 2) (r : Fin 8192) (e : Fin 2048) :
    val_main_v74 (F := Ideal) hf hb p da x md gm gq gf w (ix3 b r e) = mdl hf hb p da x md gm gq gf w b r e := by
  rw [val_main_v74_apply, val_main_v73_apply, val_main_v72_apply, val_main_v3_apply, val_main_v2_apply, val_main_v71_apply,
    val_main_v70_apply, val_main_v69_apply, val_main_v68_apply, val_main_cst_10_apply, val_main_v5_apply, val_main_v4_apply,
    val_main_v67_apply, val_main_v66_apply, val_main_v65_apply, val_main_v54_apply, val_main_v64_apply, val_main_v63_apply, res_at,
    rms_res hf hb p da x md gm gq w b r _ rfl rfl]
  refine congrArg₂ (· + ·) (congrArg₂ (· * ·) (congrArg₂ (· * ·) rfl (congrArg gf ?_)) (congrArg₂ (· + ·) rfl (congrArg md ?_))) (congrArg md ?_) <;>
    funext a <;> fin_cases a <;> refine Fin.ext ?_ <;> simp [ix2, ix3] <;> omega

end Cert.OutRef

end
-- ==== Proof.OutAlg.lean ====
/- The output-projection kernel leaves what its reference leaves. -/
module

public import proofs.«01_k».proof.Proof.OutTile
public import proofs.«01_k».proof.Proof.OutBlocks
public import proofs.«01_k».proof.Proof.OutRef
public import proofs.«01_k».proof.Proof.Gen.Reference3Ideal.Run
public import proofs.«01_k».proof.Defs

@[expose] public section

set_option maxRecDepth 16384

noncomputable section

namespace Cert.Kernel3Ideal.Out

open Cert.Kernel3Ideal Cert.Kernel3Ideal.Gen Cert.Out Idealize.ShloMosaic Idealize.ShloMosaic.TcCoe Idealize.SL.Sem

variable (m : (ℓ : Loc nD τ sig) → Buf (Elt Ideal) ℓ) (c : Dev nD) (b : Fin 2) (i : Fin 16)

/-- A tile's left operand is the reference's rows of the tile. -/
theorem lhsT_at (r : Fin 512) (k : Fin 2048) :
    lhsT m c (pt b i) (ix2 r k) = Cert.OutRef.lhs (V m c main_arg0) (V m c main_arg1) (V m c main_arg2) (V m c main_arg3) (V m c main_arg6)
      b ⟨512 * i.val + r.val, by omega⟩ k := by
  unfold lhsT
  rw [lhs_at]
  unfold rowL Cert.OutRef.lhs
  simp only [f_blk, b_blk, o_blk, a_blk, gm_blk]

theorem rowS_eq (r : Fin 512) :
    rowS (View.ld (iblk m c 5 (pt b i)) (gateR (grid0.coords (pt b i)))) (lhsT m c (pt b i)) (iblk m c 4 (pt b i)) (iblk m c 7 (pt b i)) (iblk m c 9 (pt b i)) r =
      Cert.OutRef.res (V m c main_arg0) (V m c main_arg1) (V m c main_arg2) (V m c main_arg3) (V m c main_arg4) (V m c main_arg5) (V m c main_arg6)
        (V m c main_arg7) (V m c main_arg9) b ⟨512 * i.val + r.val, by omega⟩ := by
  funext e
  unfold rowS Cert.OutRef.res
  simp only [lhsT_at, x_blk, gate_row, gq_blk, w_blk]
  refine congrArg (fun w => sumE _ _ _ (prodE _ w) e) ?_
  funext k e
  exact v1_at m c k e

theorem sum_ref : (dats m 0 c).arrAt 10 cfg0.N =
    Cert.Reference3Ideal.Read.val_main_v53 (F := Ideal) (V m c main_arg0) (V m c main_arg1) (V m c main_arg2) (V m c main_arg3)
      (V m c main_arg4) (V m c main_arg5) (V m c main_arg6) (V m c main_arg7) (V m c main_arg9) :=
  sum_array m c _ fun b i r e => by
    rw [Cert.OutRef.res_at, sum_eq, sumT_at, rowS_eq]

theorem mod_ref : (dats m 0 c).arrAt 11 cfg0.N =
    Cert.Reference3Ideal.Read.val_main_v74 (F := Ideal) (V m c main_arg0) (V m c main_arg1) (V m c main_arg2) (V m c main_arg3)
      (V m c main_arg4) (V m c main_arg5) (V m c main_arg6) (V m c main_arg7) (V m c main_arg8) (V m c main_arg9) :=
  mod_array m c _ fun b i r e => by
    rw [Cert.OutRef.mdl_at, mod_eq, modT_at, rowS_eq]
    unfold Cert.OutRef.mdl
    simp only [shift_row, scale_row, gf_blk]

end Cert.Kernel3Ideal.Out

namespace Cert.Proof

open Cert.Kernel3Ideal Cert.Kernel3Ideal.Gen Cert.Kernel3Ideal.Out Idealize.ShloMosaic Idealize.ShloMosaic.TcCoe Idealize.SL.Sem

/-- From the same arguments the kernel and the reference leave the same results. -/
theorem algebraic_out : Cert.algebraic_Kernel3Ideal_Reference3Ideal := fun m g m' g' _ hargs => by
  refine ⟨fun c => (dats m 0 c).arrAt 10 cfg0.N, fun c => (dats m 0 c).arrAt 11 cfg0.N, ?_, ?_⟩
  · refine (θ_run defs _ _).mono (fun r h c => ⟨(h.1 c).1 10, (h.1 c).1 11, h.2.1 c⟩) (θ_run_and (run_main m g) (frame m g))
  · refine (θ_run Cert.Reference3Ideal.defs _ _).mono (fun r h c => ⟨(h c).1.trans ?_, (h c).2.1.trans ?_, (h c).2.2⟩) (Cert.Reference3Ideal.Value.run (F := Ideal) m' g')
    · obtain ⟨h0, h1, h2, h3, h4, h5, h6, h7, h8, h9⟩ := hargs c
      refine (Cert.Reference3Ideal.Read.val_main_v53_eq m' c).trans (Eq.trans ?_ (sum_ref m c).symm)
      rw [h0, h1, h2, h3, h4, h5, h6, h7, h9, V_main_arg0, V_main_arg1, V_main_arg2, V_main_arg3, V_main_arg4, V_main_arg5, V_main_arg6,
        V_main_arg7, V_main_arg9]
    · obtain ⟨h0, h1, h2, h3, h4, h5, h6, h7, h8, h9⟩ := hargs c
      refine (Cert.Reference3Ideal.Read.val_main_v74_eq m' c).trans (Eq.trans ?_ (mod_ref m c).symm)
      rw [h0, h1, h2, h3, h4, h5, h6, h7, h8, h9, V_main_arg0, V_main_arg1, V_main_arg2, V_main_arg3, V_main_arg4, V_main_arg5, V_main_arg6,
        V_main_arg7, V_main_arg8, V_main_arg9]

end Cert.Proof

end
-- ==== Proof.OutQuiescent.lean ====
/- The output-projection programs run, keep their arguments and end with every semaphore at zero. -/
module

public import proofs.«01_k».proof.Proof.Gen.Kernel3Ideal.Frame
public import proofs.«01_k».proof.Proof.Gen.Kernel3
public import proofs.«01_k».proof.Proof.Gen.Reference3Ideal.Run
public import proofs.«01_k».proof.Defs
public import Idealize.ShloMosaic.Lib.Quiescent

@[expose] public section

noncomputable section

namespace Cert.Proof
open Idealize.ShloMosaic Idealize.ShloMosaic.TcCoe Idealize.SL.Sem

/-- The two printings of the output-projection program have one body table. -/
theorem out_defs₀_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl
  | ⟨_ + 1, h⟩, _ => exact absurd h (Nat.not_lt.2 (Nat.le_add_left _ _))

theorem out_defs_eq : Cert.Kernel3.defs (F := Bits) = Cert.Kernel3Ideal.defs (F := Bits) :=
  congrArg (Pipeline.defs Cert.Kernel3Ideal.pcfgs) out_defs₀_eq

theorem quiescent_out_bits : Cert.quiescent_Kernel3 := fun m g _ => by
  rw [show Cert.Kernel3.defs (F := Bits) = Cert.Kernel3Ideal.defs (F := Bits) from out_defs_eq]
  exact Cert.Kernel3Ideal.Gen.frame (F := Bits) m g

theorem quiescent_out : Cert.quiescent_Kernel3Ideal := fun m g _ => Cert.Kernel3Ideal.Gen.frame m g

theorem quiescent_out_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

end Cert.Proof

end
-- ==== Proof.ModAlg.lean ====
/- The modulation kernel leaves what its reference leaves. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.KernelVsHost
public import Idealize.ShloMosaic.Lib.Pipeline.ValueKit.Basic
public import proofs.«01_k».proof.Defs

@[expose] public section

set_option maxRecDepth 16384

noncomputable section

namespace Cert.ModRef

open Cert.Reference4Ideal Cert.Reference4Ideal.Gen Cert.Reference4Ideal.Read Idealize.ShloMosaic

/-- Entry `e` of row `r` of the modulation: the product of the row's gated values with the weights, and the bias. -/
def modulation (x : S8x2048.Idx → EReal) (w : S1x2048x12288.Idx → EReal) (b : S1x12288.Idx → EReal) (r : Fin 8) (e : Fin 12288) : EReal :=
  (∑ k : Fin 2048, x (ix2 r k) * Ideal.logistic (x (ix2 r k)) * w (ix3 0 k e)) + b (ix2 0 e)

theorem one_cst : FloatOps.ofBits (F := Ideal) .f32 0x3F800000#32 = (1 : EReal) := by
  show Ideal.ofBits .f32 0x3F800000#32 = 1
  simp [Ideal.ofBits, Ideal.ieee, -EReal.coe_mul]
  norm_num

theorem silu_at (x : S8x2048.Idx → EReal) (i : S8x2048.Idx) : val_main_v0 (F := Ideal) x i = x i * Ideal.logistic (x i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, one_cst]
  rfl

/-- The result at row `r` and entry `e`. -/
theorem result_at (x : S8x2048.Idx → EReal) (w : S1x2048x12288.Idx → EReal) (b : S1x12288.Idx → EReal) (r : Fin 8) (e : Fin 12288) :
    val_main_v6 (F := Ideal) x w b (ix2 r e) = modulation x w b r e := by
  rw [val_main_v6_apply, val_main_v5_apply, val_main_v4_apply, val_main_v3_apply, val_main_v2_apply]
  unfold modulation
  refine congrArg₂ (· + ·) (Finset.sum_congr rfl fun k _ => ?_) (congrArg b ?_)
  · rw [silu_at, val_main_v1_apply,
      show lidx_main_v2 (ix2 r e) k = ix2 r k by funext a; fin_cases a <;> rfl]
    refine congrArg (x (ix2 r k) * Ideal.logistic (x (ix2 r k)) * ·) (congrArg w ?_)
    funext a
    fin_cases a <;> refine Fin.ext ?_ <;> simp [ix3] <;> omega
  · funext a
    fin_cases a <;> refine Fin.ext ?_ <;> simp [ix2] <;> omega

end Cert.ModRef

namespace Cert.Kernel4Ideal.Mod

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-! ## What one point computes -/

theorem pay1_at (x : Vec Ideal S8x2048 .f32) (w : Vec Ideal S2048x1536 .f32) (b : Vec Ideal S1x1536 .f32) (r : Fin 8) (e : Fin 1536) :
    k0_pay1 (F := Ideal) x w b (ix2 r e) = (∑ k : Fin 2048, x (ix2 r k) * Ideal.logistic (x (ix2 r k)) * w (ix2 k e)) + b (ix2 0 e) := by
  unfold_payloads
  pointwise [dot_S8x2048_S2048x1536_S8x1536_1_0_0_1_n_n]

theorem out_eq (x : Vec Ideal S8x2048 .f32) (w : Vec Ideal S2048x1536 .f32) (b : Vec Ideal S1x1536 .f32) :
    out0_3 x w b = k0_pay1 (F := Ideal) x w b := by
  unfold out0_3
  rw [View.canon_cons_unit_lit inb_S8x1536_S8x1536_0_0 _ _ (by decide), View.ld_unit_lit inb_S8x2048_S8x2048_0_0 _ (by decide),
    View.ld_unit_lit inb_S2048x1536_S2048x1536_0_0 _ (by decide), View.ld_unit_lit inb_S1x1536_S1x1536_0_0 _ (by decide)]

/-! ## The weights the kernel reads -/

theorem V_main_v0 : V m c main_v0 = shapeCast S2048x12288 (V m c main_arg1) shapeCasts_S1x2048x12288_S2048x12288 := by
  rw [V_main_arg1]
  unfold V
  simp only [hostOps0]
  after_results_simp
  rfl

theorem v0_at (k : Fin 2048) (e : Fin 12288) : V m c main_v0 (ix2 k e) = V m c main_arg1 (ix3 0 k e) := by
  rw [V_main_v0]
  generalize V m c main_arg1 = a
  refine (show _ = shapeCast S2048x12288 a shapeCasts_S1x2048x12288_S2048x12288 _ from rfl).trans (shapeCast_apply (s := S1x2048x12288) a shapeCasts_S1x2048x12288_S2048x12288 _ (ix3 0 k e) ?_)
  rw [Shape.rowMajor_val_three, Shape.rowMajor_val_two]
  show (0 * 2048 + k.val) * 12288 + e.val = k.val * 12288 + e.val
  omega

/-! ## A point's blocks -/

theorem idx_c : ∀ t : Fin cfg0.N, win0_0.index t (0 : Fin 2) = 0 ∧ win0_0.index t (1 : Fin 2) = 0 := (by decide +kernel : ∀ t : Fin grid0.N, _)
theorem idx_w : ∀ t : Fin cfg0.N, win0_1.index t (0 : Fin 2) = 0 ∧ win0_1.index t (1 : Fin 2) = t.val := (by decide +kernel : ∀ t : Fin grid0.N, _)
theorem idx_b : ∀ t : Fin cfg0.N, win0_2.index t (0 : Fin 2) = 0 ∧ win0_2.index t (1 : Fin 2) = t.val := (by decide +kernel : ∀ t : Fin grid0.N, _)
theorem idx_o : ∀ t : Fin cfg0.N, win0_3.index t (0 : Fin 2) = 0 ∧ win0_3.index t (1 : Fin 2) = t.val := (by decide +kernel : ∀ t : Fin grid0.N, _)

/-- Column `e` of point `t`'s block. -/
def colT (t : Fin cfg0.N) (e : Fin 1536) : Fin 12288 :=
  ⟨1536 * t.val + e.val, by have hN : cfg0.N = 8 := N_0; have := t.isLt; omega⟩

theorem c_blk (t : Fin cfg0.N) : iblk m c 0 t = V m c main_arg0 := by
  obtain ⟨e0, e1⟩ := idx_c t
  funext j
  refine congrArg (V m c main_arg0) ?_
  funext a; apply Fin.ext
  match a with
  | ⟨0, _⟩ => show win0_0.index t (0 : Fin 2) * 8 + 1 * (j 0).val = (j 0).val; omega
  | ⟨1, _⟩ => show win0_0.index t (1 : Fin 2) * 2048 + 1 * (j 1).val = (j 1).val; omega

theorem w_blk (t : Fin cfg0.N) (k : Fin 2048) (e : Fin 1536) : iblk m c 1 t (ix2 k e) = V m c main_v0 (ix2 k (colT t e)) := by
  obtain ⟨e0, e1⟩ := idx_w t
  refine congrArg (V m c main_v0) ?_
  funext a; apply Fin.ext
  match a with
  | ⟨0, _⟩ => show win0_1.index t (0 : Fin 2) * 2048 + 1 * k.val = k.val; omega
  | ⟨1, _⟩ => show win0_1.index t (1 : Fin 2) * 1536 + 1 * e.val = 1536 * t.val + e.val; omega

theorem b_blk (t : Fin cfg0.N) (e : Fin 1536) : iblk m c 2 t (ix2 0 e) = V m c main_arg2 (ix2 0 (colT t e)) := by
  obtain ⟨e0, e1⟩ := idx_b t
  refine congrArg (V m c main_arg2) ?_
  funext a; apply Fin.ext
  match a with
  | ⟨0, _⟩ => show win0_2.index t (0 : Fin 2) * 1 + 1 * 0 = 0; omega
  | ⟨1, _⟩ => show win0_2.index t (1 : Fin 2) * 1536 + 1 * e.val = 1536 * t.val + e.val; omega

theorem point_at (t : Fin cfg0.N) (r : Fin 8) (e : Fin 1536) :
    out0_3 (iblk m c 0 t) (iblk m c 1 t) (iblk m c 2 t) (ix2 r e) =
      Cert.ModRef.modulation (V m c main_arg0) (V m c main_arg1) (V m c main_arg2) r (colT t e) := by
  rw [out_eq, pay1_at, c_blk, b_blk]
  unfold Cert.ModRef.modulation
  refine congrArg (· + _) (Finset.sum_congr rfl fun k _ => congrArg _ ?_)
  exact (w_blk m c t k e).trans (v0_at m c k _)

/-! ## The array the blocks make up -/

theorem covered (y : S8x12288.Idx) : ∃ t : Fin cfg0.N, (cfg0.win 3).flush t = true ∧ y ∈ ((cfg0.win 3).blk t).view.set := by
  have h0 : (y 0).val < 8 := (y 0).isLt
  have h1 : (y 1).val < 12288 := (y 1).isLt
  have hN : cfg0.N = 8 := N_0
  obtain ⟨t, ht⟩ : ∃ t : Fin cfg0.N, t.val = (y 1).val / 1536 := ⟨⟨(y 1).val / 1536, by omega⟩, rfl⟩
  obtain ⟨e0, e1⟩ := idx_o t
  refine ⟨t, flush0_3 t, ?_⟩
  show y ∈ ((View.whole main_v1).slice (win0_3.rect t)).set
  rw [View.set_slice_whole, Rect.mem_set_unit]
  intro a
  match a with
  | ⟨0, _⟩ => show win0_3.index t (0 : Fin 2) * 8 ≤ (y 0).val ∧ (y 0).val < win0_3.index t (0 : Fin 2) * 8 + 8; omega
  | ⟨1, _⟩ => show win0_3.index t (1 : Fin 2) * 1536 ≤ (y 1).val ∧ (y 1).val < win0_3.index t (1 : Fin 2) * 1536 + 1536; omega

/-- The array the run leaves is the reference's result. -/
theorem result_ref : (dats m 0 c).arrAt 3 cfg0.N =
    Cert.Reference4Ideal.Read.val_main_v6 (F := Ideal) (V m c main_arg0) (V m c main_arg1) (V m c main_arg2) := by
  refine (dats m 0 c).arrAt_eq_of_cover 3 _ (fun t _ => ?_) covered
  obtain ⟨e0, e1⟩ := idx_o t
  refine (Cert.Kernel4Ideal.Value.flushed3 m c t).trans ?_
  funext j
  refine Eq.trans (b := out0_3 (iblk m c 0 t) (iblk m c 1 t) (iblk m c 2 t) (ix2 (j 0) (j 1))) ?_
    (((point_at m c t (j 0) (j 1)).trans (Cert.ModRef.result_at _ _ _ _ _).symm).trans ?_)
  · refine congrArg (out0_3 _ _ _) ?_
    funext a; apply Fin.ext
    match a with
    | ⟨0, _⟩ => rfl
    | ⟨1, _⟩ => rfl
  · refine congrArg (Cert.Reference4Ideal.Read.val_main_v6 (F := Ideal) _ _ _) ?_
    funext a; apply Fin.ext
    match a with
    | ⟨0, _⟩ => show (j 0).val = win0_3.index t (0 : Fin 2) * 8 + 1 * (j 0).val; omega
    | ⟨1, _⟩ => show 1536 * t.val + (j 1).val = win0_3.index t (1 : Fin 2) * 1536 + 1 * (j 1).val; omega

end Cert.Kernel4Ideal.Mod

namespace Cert.Proof

open Cert.Kernel4Ideal Cert.Kernel4Ideal.Gen Cert.Kernel4Ideal.Mod Idealize.ShloMosaic Idealize.ShloMosaic.TcCoe Idealize.SL.Sem

/-- From the same arguments the kernel and the reference leave the same result. -/
theorem algebraic_mod : Cert.algebraic_Kernel4Ideal_Reference4Ideal := fun m g m' g' _ hargs => by
  refine ⟨fun c => (dats m 0 c).arrAt 3 cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨h0, h1, h2⟩ := hargs c
  refine (Cert.Reference4Ideal.Read.val_main_v6_eq _ _ _).trans (Eq.trans ?_ (result_ref m c).symm)
  rw [h0, h1, h2, V_main_arg0, V_main_arg1, V_main_arg2]

end Cert.Proof

end
-- ==== Proof.ModQuiescent.lean ====
/- The modulation programs run, keep their arguments and end with every semaphore at zero. -/
module

public import proofs.«01_k».proof.Proof.Gen.Kernel4Ideal.Frame
public import proofs.«01_k».proof.Proof.Gen.Kernel4
public import proofs.«01_k».proof.Proof.Gen.Reference4Ideal.Run
public import proofs.«01_k».proof.Defs
public import Idealize.ShloMosaic.Lib.Quiescent

@[expose] public section

noncomputable section

namespace Cert.Proof
open Idealize.ShloMosaic Idealize.ShloMosaic.TcCoe Idealize.SL.Sem

/-- The two printings of the modulation program have one body table. -/
theorem mod_defs₀_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl
  | ⟨_ + 1, h⟩, _ => exact absurd h (Nat.not_lt.2 (Nat.le_add_left _ _))

theorem mod_defs_eq : Cert.Kernel4.defs (F := Bits) = Cert.Kernel4Ideal.defs (F := Bits) :=
  congrArg (Pipeline.defs Cert.Kernel4Ideal.pcfgs) mod_defs₀_eq

theorem quiescent_mod_bits : Cert.quiescent_Kernel4 := fun m g _ => by
  rw [show Cert.Kernel4.defs (F := Bits) = Cert.Kernel4Ideal.defs (F := Bits) from mod_defs_eq]
  exact Cert.Kernel4Ideal.Gen.frame (F := Bits) m g

theorem quiescent_mod : Cert.quiescent_Kernel4Ideal := fun m g _ => Cert.Kernel4Ideal.Gen.frame m g

theorem quiescent_mod_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_values
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.ReferenceIdeal.Run
public import proofs.«01_k».proof.Proof.AttnAlg
public import proofs.«01_k».proof.Proof.AttnQuiescent
public import proofs.«01_k».proof.Proof.FfnAlg
public import proofs.«01_k».proof.Proof.FfnQuiescent
public import proofs.«01_k».proof.Proof.OutAlg
public import proofs.«01_k».proof.Proof.OutQuiescent
public import proofs.«01_k».proof.Proof.ModAlg
public import proofs.«01_k».proof.Proof.ModQuiescent
public import Idealize.ShloMosaic.Lib.Quiescent

@[expose] public section

noncomputable section

open Idealize.ShloMosaic

namespace Cert.Proof

/-- The reference runs, keeps its arguments and, declaring no semaphore, ends with none raised. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite_values.Gen.facts,
    quiescent_attn_bits, quiescent_attn, fun m g _ => quiescent_attn m g trivial, quiescent_reference,
    fun m g _ => quiescent_reference m g trivial, quiescent_ffn_bits, quiescent_ffn, quiescent_ffn_reference,
    quiescent_out_bits, quiescent_out, quiescent_out_reference, quiescent_mod_bits, quiescent_mod, quiescent_mod_reference,
    trivial, algebraic_attn, trivial, algebraic_ffn, trivial, algebraic_out, trivial, algebraic_mod⟩

end Cert.Proof

end
